-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v81) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S_ : Shape := ⟨0, ![]⟩
abbrev S1024x16 : Shape := ⟨2, ![1024, 16]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  dot_S1024x512_S512x16_S1024x16_1_0_0_1_n_n_wf : DotDims.WF S1024x512 S512x16 S1024x16 [1] [0] [0] [1] [] []

variable [Facts]

def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def fn {F : FTy → Type} [FloatOps F] (main_arg0 : FVec F S1024x512 .f32) (main_arg1 : FVec F S512x16 .f32) (main_arg2 : IVec S1024x2 32) (main_arg3 : FVec F S4x512x1024 .f32) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 16#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_v6 : FVec F S1024x16 .f32 := (fun l r => Host.dotGeneral dot_S1024x512_S512x16_S1024x16_1_0_0_1_n_n none l r) main_arg0 main_arg1
  let main_v7 : FVec F S1024x16 .f32 := Host.absf main_v6
  let main_cst : FVec F S_ .f32 := constant S_ .f32 0x7F800000#32
  let main_v8 : FVec F S1024x16 .f32 := broadcastInDim S1024x16 ![] bcast_S_S1024x16 main_cst
  let main_v9 : IVec S1024x16 1 := cmpf .olt main_v7 main_v8
  let main_c_2 : IVec S_ 1 := constantI S_ 1 1#1
  let main_v10 : IVec S_ 1 := (fun x v => Host.reduce IntOp.andi x v reducesTo_S1024x16_S_d0_1 h_S_) main_v9 main_c_2
  let main_v11 : IVec S_ 1 := andi main_v5 main_v10
  main_v11
-- ==== Pre_routed_ReferenceIdeal.lean ====
abbrev S1024x512 : Shape := ⟨2, ![1024, 512]⟩
abbrev S512x16 : Shape := ⟨2, ![512, 16]⟩
abbrev S1024x2 : Shape := ⟨2, ![1024, 2]⟩
abbrev S16x512x1024 : Shape := ⟨3, ![16, 512, 1024]⟩
abbrev S_ : Shape := ⟨0, ![]⟩
abbrev S1024x16 : Shape := ⟨2, ![1024, 16]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  dot_S1024x512_S512x16_S1024x16_1_0_0_1_n_n_wf : DotDims.WF S1024x512 S512x16 S1024x16 [1] [0] [0] [1] [] []

variable [Facts]

def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def fn {F : FTy → Type} [FloatOps F] (main_arg0 : FVec F S1024x512 .f32) (main_arg1 : FVec F S512x16 .f32) (main_arg2 : IVec S1024x2 32) (main_arg3 : FVec F S16x512x1024 .f32) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 16#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_v6 : FVec F S1024x16 .f32 := (fun l r => Host.dotGeneral dot_S1024x512_S512x16_S1024x16_1_0_0_1_n_n none l r) main_arg0 main_arg1
  let main_v7 : FVec F S1024x16 .f32 := Host.absf main_v6
  let main_cst : FVec F S_ .f32 := constant S_ .f32 0x7F800000#32
  let main_v8 : FVec F S1024x16 .f32 := broadcastInDim S1024x16 ![] bcast_S_S1024x16 main_cst
  let main_v9 : IVec S1024x16 1 := cmpf .olt main_v7 main_v8
  let main_c_2 : IVec S_ 1 := constantI S_ 1 1#1
  let main_v10 : IVec S_ 1 := (fun x v => Host.reduce IntOp.andi x v reducesTo_S1024x16_S_d0_1 h_S_) main_v9 main_c_2
  let main_v11 : IVec S_ 1 := andi main_v5 main_v10
  main_v11
-- ==== Kernel.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S256x1024 : Shape := ⟨2, ![256, 1024]⟩
abbrev S1024x16 : Shape := ⟨2, ![1024, 16]⟩
abbrev S4x256x256 : Shape := ⟨3, ![4, 256, 256]⟩
abbrev S2x256x512 : Shape := ⟨3, ![2, 256, 512]⟩
abbrev S8x256x256 : Shape := ⟨3, ![8, 256, 256]⟩
abbrev S10 : Shape := ⟨1, ![10]⟩
abbrev S_ : Shape := ⟨0, ![]⟩
abbrev S1024 : Shape := ⟨1, ![1024]⟩
abbrev S1024x1 : Shape := ⟨2, ![1024, 1]⟩
abbrev S256x512 : Shape := ⟨2, ![256, 512]⟩
abbrev S256x16 : Shape := ⟨2, ![256, 16]⟩
abbrev S256x256 : Shape := ⟨2, ![256, 256]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S1x256x256 : Shape := ⟨3, ![1, 256, 256]⟩
abbrev S1 : Shape := ⟨1, ![1]⟩
abbrev S1x512x512 : Shape := ⟨3, ![1, 512, 512]⟩
abbrev S512x512 : Shape := ⟨2, ![512, 512]⟩
abbrev S1x256x512 : Shape := ⟨3, ![1, 256, 512]⟩

abbrev nBuf : Space → Nat
  | .hbm => 5
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x2, .i32⟩
  | .hbm, ⟨3, _⟩ => ⟨S4x512x1024, .f32⟩
  | .hbm, ⟨4, _⟩ => ⟨S256x1024, .f32⟩
  | .local _ .vmem, ⟨0, _⟩ => ⟨S1024x512, .f32⟩
  | .local _ .vmem, ⟨1, _⟩ => ⟨S512x16, .f32⟩
  | .local _ .vmem, ⟨2, _⟩ => ⟨S1024x2, .i32⟩
  | .local _ .vmem, ⟨3, _⟩ => ⟨S4x512x1024, .f32⟩
  | .local _ .vmem, ⟨4, _⟩ => ⟨S256x1024, .f32⟩
  | .local _ .vmem, ⟨5, _⟩ => ⟨S1024x16, .f32⟩
  | .local _ .vmem, ⟨6, _⟩ => ⟨S4x256x256, .bf16⟩
  | .local _ .vmem, ⟨7, _⟩ => ⟨S2x256x512, .bf16⟩
  | .local _ .vmem, ⟨8, _⟩ => ⟨S8x256x256, .bf16⟩
  | .local _ .vmem, ⟨9, _⟩ => ⟨S2x256x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c2_i32
  let c4_i32_22 : BitVec 32 := 4#32
  let v45 : BitVec 32 := Scalar.remsi v44 c4_i32_22
  let c256_i32 : BitVec 32 := 256#32
  let v48 : BitVec 32 := Scalar.muli v45 c256_i32
  let v49 : Index := Scalar.indexCast v48
  let c0_24 : Index := 0#32
  ![v49.toNat, 0]
def k0_off2 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c2_i32
  let c4_i32_22 : BitVec 32 := 4#32
  let v45 : BitVec 32 := Scalar.remsi v44 c4_i32_22
  let c256_i32 : BitVec 32 := 256#32
  let v48 : BitVec 32 := Scalar.muli v45 c256_i32
  let v52 : Index := Scalar.indexCast v48
  let c0_25 : Index := 0#32
  ![v52.toNat, 0]
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_64 : BitVec 32 := 1#32
  let v116 : BitVec 32 := Scalar.muli v7 c1_i32_64
  let v117 : BitVec 32 := Scalar.addi c0_i32_65 v116
  v117.toNat
def k0_dev4 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_112 : BitVec 32 := 1#32
  let v194 : BitVec 32 := Scalar.muli v7 c1_i32_112
  let v195 : BitVec 32 := Scalar.addi c0_i32_113 v194
  v195.toNat
def k0_dev5 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_160 : BitVec 32 := 1#32
  let v272 : BitVec 32 := Scalar.muli v5 c1_i32_160
  let v273 : BitVec 32 := Scalar.addi c0_i32_161 v272
  v273.toNat
def k0_dev6 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_208 : BitVec 32 := 1#32
  let v350 : BitVec 32 := Scalar.muli v5 c1_i32_208
  let v351 : BitVec 32 := Scalar.addi c0_i32_209 v350
  v351.toNat
def k0_dev7 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_387 : BitVec 32 := 1#32
  let v638 : BitVec 32 := Scalar.muli v7 c1_i32_387
  let v639 : BitVec 32 := Scalar.addi c0_i32_388 v638
  v639.toNat
def k0_dev8 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_421 : BitVec 32 := 1#32
  let v670 : BitVec 32 := Scalar.muli v7 c1_i32_421
  let v671 : BitVec 32 := Scalar.addi c0_i32_422 v670
  v671.toNat
def k0_dev9 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_455 : BitVec 32 := 1#32
  let v702 : BitVec 32 := Scalar.muli v5 c1_i32_455
  let v703 : BitVec 32 := Scalar.addi c0_i32_456 v702
  v703.toNat
def k0_dev10 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_489 : BitVec 32 := 1#32
  let v734 : BitVec 32 := Scalar.muli v5 c1_i32_489
  let v735 : BitVec 32 := Scalar.addi c0_i32_490 v734
  v735.toNat
def k0_dev11 (d0 : Dev nD) : Nat :=
  let c0_i32_538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_537 : BitVec 32 := 1#32
  let v812 : BitVec 32 := Scalar.muli v5 c1_i32_537
  let v813 : BitVec 32 := Scalar.addi c0_i32_538 v812
  v813.toNat
def k0_dev12 (d0 : Dev nD) : Nat :=
  let c0_i32_586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_585 : BitVec 32 := 1#32
  let v890 : BitVec 32 := Scalar.muli v7 c1_i32_585
  let v891 : BitVec 32 := Scalar.addi c0_i32_586 v890
  v891.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_591 : BitVec 32 := 256#32
  let v900 : BitVec 32 := Scalar.muli v2 c256_i32_591
  let v901 : Index := Scalar.indexCast v900
  let c0_592 : Index := 0#32
  ![v901.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_591 : BitVec 32 := 256#32
  let v900 : BitVec 32 := Scalar.muli v2 c256_i32_591
  let v904 : Index := Scalar.indexCast v900
  let c0_593 : Index := 0#32
  ![v904.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x2 : Shape := ⟨2, ![1024, 2]⟩
abbrev S16x512x1024 : Shape := ⟨3, ![16, 512, 1024]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S1024x16x1024 : Shape := ⟨3, ![1024, 16, 1024]⟩
abbrev S1024x1024 : Shape := ⟨2, ![1024, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x2, .i32⟩
  | .hbm, ⟨3, _⟩ => ⟨S16x512x1024, .f32⟩
  | .hbm, ⟨4, _⟩ => ⟨S1024x16, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x16, .f32⟩
  | .hbm, ⟨9, _⟩ => ⟨S1024x16, .f32⟩
  | .hbm, ⟨10, _⟩ => ⟨S1024x16, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x16, .f32⟩
  | .hbm, ⟨15, _⟩ => ⟨S1024x16, .f32⟩
  | .hbm, ⟨16, _⟩ => ⟨S1024x16x1024, .f32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024x1, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1024x1, .i32⟩
  | .hbm, ⟨38, _⟩ => ⟨S1024x2, .i32⟩
  | .hbm, ⟨39, _⟩ => ⟨S1024, .f32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x1, .i32⟩
  | .hbm, ⟨56, _⟩ => ⟨S1024x2, .i32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024x1, .f32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S1024x1, .i32⟩
  | .hbm, ⟨76, _⟩ => ⟨S1024x1, .i32⟩
  | .hbm, ⟨77, _⟩ => ⟨S1024x2, .i32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S1024, .f32⟩
  | .hbm, ⟨82, _⟩ => ⟨S1024x1, .f32⟩
  | .hbm, ⟨83, _⟩ => ⟨S_, .i32⟩
  | .hbm, ⟨84, _⟩ => ⟨S1024, .i32⟩
  | .hbm, ⟨85, _⟩ => ⟨S1024, .i1⟩
  | .hbm, ⟨86, _⟩ => ⟨S_, .i32⟩
  | .hbm, ⟨87, _⟩ => ⟨S1024, .i32⟩
  | .hbm, ⟨88, _⟩ => ⟨S1024, .i32⟩
  | .hbm, ⟨89, _⟩ => ⟨S1024, .i32⟩
  | .hbm, ⟨90, _⟩ => ⟨S_, .i32⟩
  | .hbm, ⟨91, _⟩ => ⟨S1024, .i32⟩
  | .hbm, ⟨92, _⟩ => ⟨S1024, .i1⟩
  | .hbm, ⟨93, _⟩ => ⟨S_, .i32⟩
  | .hbm, ⟨94, _⟩ => ⟨S1024, .i32⟩
  | .hbm, ⟨95, _⟩ => ⟨S1024, .i32⟩
  | .hbm, ⟨96, _⟩ => ⟨S1024, .i32⟩
  | .hbm, ⟨97, _⟩ => ⟨S1024x1, .i32⟩
  | .hbm, ⟨98, _⟩ => ⟨S1024x1, .i32⟩
  | .hbm, ⟨99, _⟩ => ⟨S1024x2, .i32⟩
  | .hbm, ⟨100, _⟩ => ⟨S1024x1024, .f32⟩
  | .hbm, ⟨101, _⟩ => ⟨S1024x1024, .f32⟩
  | .hbm, ⟨102, _⟩ => ⟨S1024x1024, .f32⟩
  | .hbm, ⟨103, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_12 : Ref sig .tc := ⟨.hbm, 83, rfl⟩
abbrev main_v65 : Ref sig .tc := ⟨.hbm, 84, rfl⟩
abbrev main_v66 : Ref sig .tc := ⟨.hbm, 85, rfl⟩
abbrev main_c_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_14 : Ref sig .tc := ⟨.hbm, 90, rfl⟩
abbrev main_v70 : Ref sig .tc := ⟨.hbm, 91, rfl⟩
abbrev main_v71 : Ref sig .tc := ⟨.hbm, 92, rfl⟩
abbrev main_c_15 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Proof.IdealRun.Common.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Writes

/-! # The protocol of the kernel: cells, contents, schedule, levels

Device `c` has a left neighbour `prv c` and a right neighbour `nxt c`. Its cells are the entry barrier (one round, two
units, one from each neighbour), ten send cells and ten receive cells, one copy each:

* copies 0, 1 carry the slots 0, 1 of the leg-one buffer to `nxt c`'s landing slots 0, 1;
* copies 2, 3 carry its slots 2, 3 to `prv c`'s landing slots 2, 3;
* copies 4, 5 carry the landing slots 0, 1, own partial results added, on to `nxt c`'s landing slots 4, 5;
* copies 6, 7 carry the landing slots 2, 3, own partial results added, on to `prv c`'s landing slots 6, 7;
* copy 8 carries slot 0 of the one-hop buffer to `prv c`'s, copy 9 its slot 1 to `nxt c`'s.

A device's signal to a neighbour's barrier hands over the landing slots that neighbour writes. A receive cell's payload is
the landing slot at the contents the sender had; a send cell's is the source slot. -/

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = prv c := Fin.ext (k0_dev9_eq c)
theorem dev10_eq (c : Dev nD) : (⟨k0_dev10 c, k0_dev10_lt c⟩ : Dev nD) = prv c := Fin.ext (k0_dev10_eq c)
theorem dev11_eq (c : Dev nD) : (⟨k0_dev11 c, k0_dev11_lt c⟩ : Dev nD) = prv c := Fin.ext (k0_dev11_eq c)
theorem dev12_eq (c : Dev nD) : (⟨k0_dev12 c, k0_dev12_lt c⟩ : Dev nD) = nxt c := Fin.ext (k0_dev12_eq c)

/-- The device copy `k` of device `c` goes to. -/
def peer (k : Fin 10) (c : Dev nD) : Dev nD := match k with
  | 0 => nxt c | 1 => nxt c | 2 => prv c | 3 => prv c | 4 => nxt c | 5 => nxt c | 6 => prv c | 7 => prv c | 8 => prv c | 9 => nxt c
/-- The device whose copy `k` arrives at device `c`. -/
def from' (k : Fin 10) (c : Dev nD) : Dev nD := match k with
  | 0 => prv c | 1 => prv c | 2 => nxt c | 3 => nxt c | 4 => prv c | 5 => prv c | 6 => nxt c | 7 => nxt c | 8 => nxt c | 9 => prv c
theorem from_peer (k : Fin 10) (c : Dev nD) : from' k (peer k c) = c := by revert k c; decide
theorem peer_from (k : Fin 10) (c : Dev nD) : peer k (from' k c) = c := by revert k c; decide

/-! ## The memrefs and their slots -/

abbrev xM : Memref sig .tc .vmem S1024x512 .f32 := Memref.whole cc0_stg0_0
abbrev wM : Memref sig .tc .vmem S512x16 .f32 := Memref.whole cc0_stg1_0
abbrev iM : Memref sig .tc .vmem S1024x2 .i32 := Memref.whole cc0_stg2_0
abbrev eM : Memref sig .tc .vmem S4x512x1024 .f32 := Memref.whole cc0_stg3_0
abbrev oM : Memref sig .tc .vmem S256x1024 .f32 := Memref.whole cc0_stg4_0
abbrev gM : Memref sig .tc .vmem S1024x16 .f32 := Memref.whole cc0_scratch0
abbrev sqM : Memref sig .tc .vmem S4x256x256 .bf16 := Memref.whole cc0_scratch1
abbrev shM : Memref sig .tc .vmem S2x256x512 .bf16 := Memref.whole cc0_scratch2
abbrev rqM : Memref sig .tc .vmem S8x256x256 .bf16 := Memref.whole cc0_scratch3
abbrev rhM : Memref sig .tc .vmem S2x256x512 .bf16 := Memref.whole cc0_scratch4

abbrev VwQ := View sig .tc .vmem S1x256x256 .bf16
abbrev VwH := View sig .tc .vmem S1x256x512 .bf16

abbrev sq0 : VwQ := (sqM : Memref sig .tc .vmem S4x256x256 .bf16).access (Rect.unit (s := S4x256x256) ![0, 0, 0] S1x256x256.size inb_S4x256x256_S1x256x256_0_0_0)
abbrev sq1 : VwQ := (sqM : Memref sig .tc .vmem S4x256x256 .bf16).access (Rect.unit (s := S4x256x256) ![1, 0, 0] S1x256x256.size inb_S4x256x256_S1x256x256_1_0_0)
abbrev sq2 : VwQ := (sqM : Memref sig .tc .vmem S4x256x256 .bf16).access (Rect.unit (s := S4x256x256) ![2, 0, 0] S1x256x256.size inb_S4x256x256_S1x256x256_2_0_0)
abbrev sq3 : VwQ := (sqM : Memref sig .tc .vmem S4x256x256 .bf16).access (Rect.unit (s := S4x256x256) ![3, 0, 0] S1x256x256.size inb_S4x256x256_S1x256x256_3_0_0)
abbrev rq0 : VwQ := (rqM : Memref sig .tc .vmem S8x256x256 .bf16).access (Rect.unit (s := S8x256x256) ![0, 0, 0] S1x256x256.size inb_S8x256x256_S1x256x256_0_0_0)
abbrev rq1 : VwQ := (rqM : Memref sig .tc .vmem S8x256x256 .bf16).access (Rect.unit (s := S8x256x256) ![1, 0, 0] S1x256x256.size inb_S8x256x256_S1x256x256_1_0_0)
abbrev rq2 : VwQ := (rqM : Memref sig .tc .vmem S8x256x256 .bf16).access (Rect.unit (s := S8x256x256) ![2, 0, 0] S1x256x256.size inb_S8x256x256_S1x256x256_2_0_0)
abbrev rq3 : VwQ := (rqM : Memref sig .tc .vmem S8x256x256 .bf16).access (Rect.unit (s := S8x256x256) ![3, 0, 0] S1x256x256.size inb_S8x256x256_S1x256x256_3_0_0)
abbrev rq4 : VwQ := (rqM : Memref sig .tc .vmem S8x256x256 .bf16).access (Rect.unit (s := S8x256x256) ![4, 0, 0] S1x256x256.size inb_S8x256x256_S1x256x256_4_0_0)
abbrev rq5 : VwQ := (rqM : Memref sig .tc .vmem S8x256x256 .bf16).access (Rect.unit (s := S8x256x256) ![5, 0, 0] S1x256x256.size inb_S8x256x256_S1x256x256_5_0_0)
abbrev rq6 : VwQ := (rqM : Memref sig .tc .vmem S8x256x256 .bf16).access (Rect.unit (s := S8x256x256) ![6, 0, 0] S1x256x256.size inb_S8x256x256_S1x256x256_6_0_0)
abbrev rq7 : VwQ := (rqM : Memref sig .tc .vmem S8x256x256 .bf16).access (Rect.unit (s := S8x256x256) ![7, 0, 0] S1x256x256.size inb_S8x256x256_S1x256x256_7_0_0)
abbrev sh0 : VwH := (shM : Memref sig .tc .vmem S2x256x512 .bf16).access (Rect.unit (s := S2x256x512) ![0, 0, 0] S1x256x512.size inb_S2x256x512_S1x256x512_0_0_0)
abbrev sh1 : VwH := (shM : Memref sig .tc .vmem S2x256x512 .bf16).access (Rect.unit (s := S2x256x512) ![1, 0, 0] S1x256x512.size inb_S2x256x512_S1x256x512_1_0_0)
abbrev rh0 : VwH := (rhM : Memref sig .tc .vmem S2x256x512 .bf16).access (Rect.unit (s := S2x256x512) ![0, 0, 0] S1x256x512.size inb_S2x256x512_S1x256x512_0_0_0)
abbrev rh1 : VwH := (rhM : Memref sig .tc .vmem S2x256x512 .bf16).access (Rect.unit (s := S2x256x512) ![1, 0, 0] S1x256x512.size inb_S2x256x512_S1x256x512_1_0_0)

/-! ## Holding a view -/

/-- Device `c` holds the elements of view `v` outright, at contents the view reads as `X`. -/
def hold (c : Dev nD) {s : Shape} {e : EltTy} (v : View sig .tc .vmem s e) (X : s.Idx → Elt F e) : sProp 𝕄 :=
  iprop(∃ f : Buf (Elt F) (v.loc (c : Thread nD τ)), ⌜v.read (Elt F) f = X⌝ ∗ (v.loc (c : Thread nD τ) ↦[v.set]{fullShare} f))
/-- At any contents. -/
def some' (c : Dev nD) {s : Shape} {e : EltTy} (v : View sig .tc .vmem s e) : sProp 𝕄 :=
  iprop(∃ f : Buf (Elt F) (v.loc (c : Thread nD τ)), (v.loc (c : Thread nD τ) ↦[v.set]{fullShare} f))

omit [FloatOps F] in
instance hold_storable (c : Dev nD) {s : Shape} {e : EltTy} (v : View sig .tc .vmem s e) (X : s.Idx → Elt F e) :
    BI.Storable (upEmb : UEmb _ 𝕄) (hold (F := F) c v X) := by unfold hold; infer_instance
omit [FloatOps F] in
instance some_storable (c : Dev nD) {s : Shape} {e : EltTy} (v : View sig .tc .vmem s e) :
    BI.Storable (upEmb : UEmb _ 𝕄) (some' (F := F) c v) := by unfold some'; infer_instance
omit [FloatOps F] in
theorem hold_some (c : Dev nD) {s : Shape} {e : EltTy} (v : View sig .tc .vmem s e) (X : s.Idx → Elt F e) :
    (hold (F := F) c v X : sProp 𝕄) ⊢ some' c v := by
  unfold hold some'
  iintro ⟨%f, %h, H⟩
  iexists f; iexact H

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def estg (c : Dev nD) : (cc0_stg3_0 : Ref sig .tc).ty.Contents (Elt F) :=
  (win0_3.blk (0 : Fin 1)).view.read (Elt F) ((s₀ m ρ).mem ((c : Thread nD τ).loc main_arg3))

/-- The table of gates. -/
def gates (c : Dev nD) : (cc0_scratch0 : Ref sig .tc).ty.Contents (Elt F) := k0_pay3 (k0_pay2 (xstg m ρ c) (wstg m ρ c) (istg m ρ c))

abbrev xA (c : Dev nD) (r : LoadRect S1024x512) : r.shape.Idx → Elt F .f32 := (xM : Memref sig .tc .vmem S1024x512 .f32).view.readAt (Elt F) r (xstg m ρ c)
abbrev gA (c : Dev nD) (r : LoadRect S1024x16) : r.shape.Idx → Elt F .f32 := (gM : Memref sig .tc .vmem S1024x16 .f32).view.readAt (Elt F) r (gates m ρ c)
abbrev eA (c : Dev nD) (r : LoadRect S4x512x1024) : r.shape.Idx → Elt F .f32 := (eM : Memref sig .tc .vmem S4x512x1024 .f32).view.readAt (Elt F) r (estg m ρ c)

abbrev v2 (c : Dev nD) : BitVec 32 := Scalar.remsi (Scalar.divsi (Dev.word c) 1#32) 4#32
abbrev io : IVec S256x16 32 := iota .tc S256x16 32 [1] iota_S256x16_d1_w32
/-- The rows of chunk `c + n`, their gates. -/
abbrev X1 (c : Dev nD) : Vec F S256x512 .f32 := xA m ρ c (Rect.unit (s := S1024x512) (k0_off1 c 1#32) S256x512.size (k0_off1_inb c 0)).toLoadRect
abbrev X2 (c : Dev nD) : Vec F S256x512 .f32 := xA m ρ c (Rect.unit (s := S1024x512) (k0_off1 c 2#32) S256x512.size (k0_off1_inb c 1)).toLoadRect
abbrev X3 (c : Dev nD) : Vec F S256x512 .f32 := xA m ρ c (Rect.unit (s := S1024x512) (k0_off1 c 3#32) S256x512.size (k0_off1_inb c 2)).toLoadRect
abbrev X0 (c : Dev nD) : Vec F S256x512 .f32 := xA m ρ c (Rect.unit (s := S1024x512) (k0_off3 c) S256x512.size (k0_off3_inb c)).toLoadRect
abbrev G1 (c : Dev nD) : Vec F S256x16 .f32 := gA m ρ c (Rect.unit (s := S1024x16) (k0_off2 c 1#32) S256x16.size (k0_off2_inb c 0)).toLoadRect
abbrev G2 (c : Dev nD) : Vec F S256x16 .f32 := gA m ρ c (Rect.unit (s := S1024x16) (k0_off2 c 2#32) S256x16.size (k0_off2_inb c 1)).toLoadRect
abbrev G3 (c : Dev nD) : Vec F S256x16 .f32 := gA m ρ c (Rect.unit (s := S1024x16) (k0_off2 c 3#32) S256x16.size (k0_off2_inb c 2)).toLoadRect
abbrev G0 (c : Dev nD) : Vec F S256x16 .f32 := gA m ρ c (Rect.unit (s := S1024x16) (k0_off4 c) S256x16.size (k0_off4_inb c)).toLoadRect

abbrev Q0_0 (c : Dev nD) : Vec F S1x512x256 .f32 := eA m ρ c (Rect.unit (s := S4x512x1024) ![0, 0, 0] S1x512x256.size inb_S4x512x1024_S1x512x256_0_0_0).toLoadRect
abbrev Q0_256 (c : Dev nD) : Vec F S1x512x256 .f32 := eA m ρ c (Rect.unit (s := S4x512x1024) ![0, 0, 256] S1x512x256.size inb_S4x512x1024_S1x512x256_0_0_256).toLoadRect
abbrev Q0_512 (c : Dev nD) : Vec F S1x512x256 .f32 := eA m ρ c (Rect.unit (s := S4x512x1024) ![0, 0, 512] S1x512x256.size inb_S4x512x1024_S1x512x256_0_0_512).toLoadRect
abbrev Q0_768 (c : Dev nD) : Vec F S1x512x256 .f32 := eA m ρ c (Rect.unit (s := S4x512x1024) ![0, 0, 768] S1x512x256.size inb_S4x512x1024_S1x512x256_0_0_768).toLoadRect
abbrev W0_0 (c : Dev nD) : Vec F S1x512x512 .f32 := eA m ρ c (Rect.unit (s := S4x512x1024) ![0, 0, 0] S1x512x512.size inb_S4x512x1024_S1x512x512_0_0_0).toLoadRect
abbrev W0_512 (c : Dev nD) : Vec F S1x512x512 .f32 := eA m ρ c (Rect.unit (s := S4x512x1024) ![0, 0, 512] S1x512x512.size inb_S4x512x1024_S1x512x512_0_0_512).toLoadRect
abbrev Q1_0 (c : Dev nD) : Vec F S1x512x256 .f32 := eA m ρ c (Rect.unit (s := S4x512x1024) ![1, 0, 0] S1x512x256.size inb_S4x512x1024_S1x512x256_1_0_0).toLoadRect
abbrev Q1_256 (c : Dev nD) : Vec F S1x512x256 .f32 := eA m ρ c (Rect.unit (s := S4x512x1024) ![1, 0, 256] S1x512x256.size inb_S4x512x1024_S1x512x256_1_0_256).toLoadRect
abbrev Q1_512 (c : Dev nD) : Vec F S1x512x256 .f32 := eA m ρ c (Rect.unit (s := S4x512x1024) ![1, 0, 512] S1x512x256.size inb_S4x512x1024_S1x512x256_1_0_512).toLoadRect
abbrev Q1_768 (c : Dev nD) : Vec F S1x512x256 .f32 := eA m ρ c (Rect.unit (s := S4x512x1024) ![1, 0, 768] S1x512x256.size inb_S4x512x1024_S1x512x256_1_0_768).toLoadRect
abbrev W1_0 (c : Dev nD) : Vec F S1x512x512 .f32 := eA m ρ c (Rect.unit (s := S4x512x1024) ![1, 0, 0] S1x512x512.size inb_S4x512x1024_S1x512x512_1_0_0).toLoadRect
abbrev W1_512 (c : Dev nD) : Vec F S1x512x512 .f32 := eA m ρ c (Rect.unit (s := S4x512x1024) ![1, 0, 512] S1x512x512.size inb_S4x512x1024_S1x512x512_1_0_512).toLoadRect
abbrev Q2_0 (c : Dev nD) : Vec F S1x512x256 .f32 := eA m ρ c (Rect.unit (s := S4x512x1024) ![2, 0, 0] S1x512x256.size inb_S4x512x1024_S1x512x256_2_0_0).toLoadRect
abbrev Q2_256 (c : Dev nD) : Vec F S1x512x256 .f32 := eA m ρ c (Rect.unit (s := S4x512x1024) ![2, 0, 256] S1x512x256.size inb_S4x512x1024_S1x512x256_2_0_256).toLoadRect
abbrev Q2_512 (c : Dev nD) : Vec F S1x512x256 .f32 := eA m ρ c (Rect.unit (s := S4x512x1024) ![2, 0, 512] S1x512x256.size inb_S4x512x1024_S1x512x256_2_0_512).toLoadRect
abbrev Q2_768 (c : Dev nD) : Vec F S1x512x256 .f32 := eA m ρ c (Rect.unit (s := S4x512x1024) ![2, 0, 768] S1x512x256.size inb_S4x512x1024_S1x512x256_2_0_768).toLoadRect
abbrev W2_0 (c : Dev nD) : Vec F S1x512x512 .f32 := eA m ρ c (Rect.unit (s := S4x512x1024) ![2, 0, 0] S1x512x512.size inb_S4x512x1024_S1x512x512_2_0_0).toLoadRect
abbrev W2_512 (c : Dev nD) : Vec F S1x512x512 .f32 := eA m ρ c (Rect.unit (s := S4x512x1024) ![2, 0, 512] S1x512x512.size inb_S4x512x1024_S1x512x512_2_0_512).toLoadRect
abbrev Q3_0 (c : Dev nD) : Vec F S1x512x256 .f32 := eA m ρ c (Rect.unit (s := S4x512x1024) ![3, 0, 0] S1x512x256.size inb_S4x512x1024_S1x512x256_3_0_0).toLoadRect
abbrev Q3_256 (c : Dev nD) : Vec F S1x512x256 .f32 := eA m ρ c (Rect.unit (s := S4x512x1024) ![3, 0, 256] S1x512x256.size inb_S4x512x1024_S1x512x256_3_0_256).toLoadRect
abbrev Q3_512 (c : Dev nD) : Vec F S1x512x256 .f32 := eA m ρ c (Rect.unit (s := S4x512x1024) ![3, 0, 512] S1x512x256.size inb_S4x512x1024_S1x512x256_3_0_512).toLoadRect
abbrev Q3_768 (c : Dev nD) : Vec F S1x512x256 .f32 := eA m ρ c (Rect.unit (s := S4x512x1024) ![3, 0, 768] S1x512x256.size inb_S4x512x1024_S1x512x256_3_0_768).toLoadRect
abbrev W3_0 (c : Dev nD) : Vec F S1x512x512 .f32 := eA m ρ c (Rect.unit (s := S4x512x1024) ![3, 0, 0] S1x512x512.size inb_S4x512x1024_S1x512x512_3_0_0).toLoadRect
abbrev W3_512 (c : Dev nD) : Vec F S1x512x512 .f32 := eA m ρ c (Rect.unit (s := S4x512x1024) ![3, 0, 512] S1x512x512.size inb_S4x512x1024_S1x512x512_3_0_512).toLoadRect

/-! ### The partial results, as the kernel's straight-line code computes them -/

/-- Leg one: the partial result of the chunk two places on, in four column blocks. -/
def A0 (c : Dev nD) : Vec F S1x256x256 .bf16 :=
  k0_pay9 (k0_pay6 (v2 c) (k0_pay4 (X2 m ρ c)) (G2 m ρ c) io (k0_pay5 (v2 c) (X2 m ρ c) (G2 m ρ c) (Q0_0 m ρ c)) (Scalar.muli (v2 c) 4#32) 1#32 (Q1_0 m ρ c) (Q2_0 m ρ c))
    (k0_pay7 (v2 c) (G2 m ρ c) io) (k0_pay8 (k0_pay4 (X2 m ρ c)) (Q3_0 m ρ c))
def A1 (c : Dev nD) : Vec F S1x256x256 .bf16 :=
  k0_pay15 (k0_pay10 (X2 m ρ c)) (G2 m ρ c) (k0_pay13 (v2 c) (k0_pay10 (X2 m ρ c)) (G2 m ρ c) io k0_pay11 (k0_pay12 (v2 c) (G2 m ρ c)) (Q0_256 m ρ c) (Q1_256 m ρ c) (Q2_256 m ρ c))
    (k0_pay14 (v2 c) io) (Scalar.ofBits .f32 0x00000000#32) (Q3_256 m ρ c)
def A2 (c : Dev nD) : Vec F S1x256x256 .bf16 :=
  k0_pay21 (v2 c) (k0_pay16 (X2 m ρ c)) (G2 m ρ c) io (k0_pay18 (v2 c) (k0_pay16 (X2 m ρ c)) (G2 m ρ c) io k0_pay17 (Scalar.addi (Scalar.muli (v2 c) 4#32) 0#32) (Q0_512 m ρ c) (Q1_512 m ρ c))
    (k0_pay19 (k0_pay16 (X2 m ρ c)) (Q2_512 m ρ c)) (k0_pay20 (v2 c) (G2 m ρ c) io) (Q3_512 m ρ c)
def A3 (c : Dev nD) : Vec F S1x256x256 .bf16 :=
  k0_pay25 (v2 c) (k0_pay22 (X2 m ρ c)) (G2 m ρ c) io (k0_pay23 (v2 c) (k0_pay22 (X2 m ρ c)) (G2 m ρ c) (Q0_768 m ρ c) (Q1_768 m ρ c)) (k0_pay24 (v2 c) (G2 m ρ c)) (Q2_768 m ρ c) (Q3_768 m ρ c)

/-- The partial results added on the way: chunk `c + 1` for the column blocks 0, 1, chunk `c + 3` for 2, 3. -/
def P0 (c : Dev nD) : FVec F S256x256 .f32 :=
  k0_pay28 (v2 c) (k0_pay26 (X1 m ρ c)) (G1 m ρ c) io (k0_pay27 (v2 c) (X1 m ρ c) (G1 m ρ c) (Q0_0 m ρ c) (Q1_0 m ρ c)) (Scalar.muli (v2 c) 4#32) (Q2_0 m ρ c) (Q3_0 m ρ c)
def P1 (c : Dev nD) : FVec F S256x256 .f32 :=
  k0_pay33 (v2 c) (k0_pay29 (X1 m ρ c)) (G1 m ρ c) io (k0_pay32 (v2 c) (k0_pay29 (X1 m ρ c)) (G1 m ρ c) io k0_pay30 (k0_pay31 (v2 c)) (Q0_256 m ρ c) (Q1_256 m ρ c) (Q2_256 m ρ c)) (Q3_256 m ρ c)
def P2 (c : Dev nD) : FVec F S256x256 .f32 :=
  k0_pay39 (k0_pay36 (v2 c) (k0_pay34 (X3 m ρ c)) (G3 m ρ c) io (k0_pay35 (v2 c) (X3 m ρ c) (G3 m ρ c) (Q0_512 m ρ c)) (Scalar.addi (Scalar.muli (v2 c) 4#32) 1#32) (Q1_512 m ρ c) (Q2_512 m ρ c))
    (k0_pay37 (k0_pay34 (X3 m ρ c)) (Q3_512 m ρ c)) (k0_pay38 (v2 c) (G3 m ρ c) io)
def P3 (c : Dev nD) : FVec F S256x256 .f32 :=
  k0_pay42 (v2 c) (k0_pay40 (X3 m ρ c)) (G3 m ρ c) io (k0_pay41 (v2 c) (X3 m ρ c) (G3 m ρ c) (Q0_768 m ρ c) (Q1_768 m ρ c)) (Scalar.muli (v2 c) 4#32) (Q2_768 m ρ c) (Q3_768 m ρ c)

/-- Leg two: what arrived, that added. -/
def T0 (c : Dev nD) : Vec F S1x256x256 .bf16 := k0_pay43 (P0 m ρ c) (A0 m ρ (prv c))
def T1 (c : Dev nD) : Vec F S1x256x256 .bf16 := k0_pay44 (P1 m ρ c) (A1 m ρ (prv c))
def T2 (c : Dev nD) : Vec F S1x256x256 .bf16 := k0_pay45 (P2 m ρ c) (A2 m ρ (nxt c))
def T3 (c : Dev nD) : Vec F S1x256x256 .bf16 := k0_pay47 (k0_pay46 (P3 m ρ c) (A3 m ρ (nxt c)))

/-- The one-hop halves. -/
def H0 (c : Dev nD) : Vec F S1x256x512 .bf16 :=
  k0_pay52 (k0_pay48 (X3 m ρ c)) (k0_pay50 (v2 c) (k0_pay48 (X3 m ρ c)) (G3 m ρ c) io (k0_pay49 (v2 c) (X3 m ρ c) (G3 m ρ c) (W0_0 m ρ c)) (W1_0 m ρ c) (W2_0 m ρ c))
    (k0_pay51 (v2 c) (G3 m ρ c) io) (W3_0 m ρ c)
def H1 (c : Dev nD) : Vec F S1x256x512 .bf16 :=
  k0_pay58 (k0_pay53 (X1 m ρ c)) (G1 m ρ c) (k0_pay56 (v2 c) (k0_pay53 (X1 m ρ c)) (G1 m ρ c) io k0_pay54 (k0_pay55 (v2 c) (G1 m ρ c)) (W0_512 m ρ c) (W1_512 m ρ c) (W2_512 m ρ c))
    (k0_pay57 (v2 c) io) (Scalar.ofBits .f32 0x00000000#32) (W3_512 m ρ c)

/-- The own chunk's partial result, in two halves. -/
def Own0 (c : Dev nD) : FVec F S256x512 .f32 :=
  k0_pay64 (v2 c) (k0_pay59 (X0 m ρ c)) (G0 m ρ c) io (k0_pay61 (v2 c) (k0_pay59 (X0 m ρ c)) (G0 m ρ c) io k0_pay60 (Scalar.addi (Scalar.muli (v2 c) 4#32) 0#32) (W0_0 m ρ c) (W1_0 m ρ c))
    (k0_pay62 (k0_pay59 (X0 m ρ c)) (W2_0 m ρ c)) (k0_pay63 (v2 c) (G0 m ρ c) io) (W3_0 m ρ c)
def Own1 (c : Dev nD) : FVec F S256x512 .f32 :=
  k0_pay70 (k0_pay65 (X0 m ρ c)) (k0_pay67 (v2 c) (k0_pay65 (X0 m ρ c)) (G0 m ρ c) io (k0_pay66 (v2 c) (X0 m ρ c) (G0 m ρ c) (W0_512 m ρ c)) (Scalar.muli (v2 c) 4#32) (W1_512 m ρ c) (W2_512 m ρ c))
    (k0_pay68 (v2 c) (G0 m ρ c) io) (k0_pay69 (W3_512 m ρ c)) (constant S256x512 .f32 0x00000000#32)

/-- The result's two halves. -/
def out0 (c : Dev nD) : FVec F S256x512 .f32 := k0_pay72 (k0_pay71 (Own0 m ρ c) (H0 m ρ (nxt c))) (T0 m ρ (prv c)) (T1 m ρ (prv c))
def out1 (c : Dev nD) : FVec F S256x512 .f32 := k0_pay1 (Own1 m ρ c) (H1 m ρ (prv c)) (T2 m ρ (nxt c)) (T3 m ρ (nxt c))

set_option backward.proofsInPublic true in
/-- The result on device `c`. -/
def outAt (c : Dev nD) : (cc0_stg4_0 : Ref sig .tc).ty.Contents (Elt F) := fun i =>
  if h : (i 1).val < 512 then out0 m ρ c (fun a => match a with | ⟨0, _⟩ => i 0 | ⟨1, _⟩ => (⟨(i 1).val, h⟩ : Fin 512))
  else out1 m ρ c (fun a => match a with | ⟨0, _⟩ => i 0 | ⟨1, _⟩ => (⟨(i 1).val - 512, by have h1 : (i 1).val < 1024 := (i 1).isLt; omega⟩ : Fin 512))

/-! ## The cells -/

/-- The runtime's barrier semaphore of collective id 0. -/
abbrev barS : Sem sig := (SemArray.scalar (sig.barrier 0 rfl) : Sems sig S_).sem
abbrev sS (k : Fin 10) : DmaSem sig := ⟨5 + k.val, by have := k.isLt; show 5 + k.val < 25; omega⟩
abbrev rS (k : Fin 10) : DmaSem sig := ⟨15 + k.val, by have := k.isLt; show 15 + k.val < 25; omega⟩

abbrev barC (c : Dev nD) : GSem nD τ sig := ((c : Thread nD τ), .reg barS)
abbrev sC (c : Dev nD) (k : Fin 10) : GSem nD τ sig := ((c : Thread nD τ), .dma (sS k))
abbrev rC (c : Dev nD) (k : Fin 10) : GSem nD τ sig := ((c : Thread nD τ), .dma (rS k))

theorem sem_s0 : ((cc0_scratch5.slice (Rect.unit (s := S10) ![0] S1.size inb_S10_S1_0)).squeeze S_ squeezes_S1_S_).sem = sS 0 := by decide
theorem sem_s1 : ((cc0_scratch5.slice (Rect.unit (s := S10) ![1] S1.size inb_S10_S1_1)).squeeze S_ squeezes_S1_S_).sem = sS 1 := by decide
theorem sem_s2 : ((cc0_scratch5.slice (Rect.unit (s := S10) ![2] S1.size inb_S10_S1_2)).squeeze S_ squeezes_S1_S_).sem = sS 2 := by decide
theorem sem_s3 : ((cc0_scratch5.slice (Rect.unit (s := S10) ![3] S1.size inb_S10_S1_3)).squeeze S_ squeezes_S1_S_).sem = sS 3 := by decide
theorem sem_s4 : ((cc0_scratch5.slice (Rect.unit (s := S10) ![4] S1.size inb_S10_S1_4)).squeeze S_ squeezes_S1_S_).sem = sS 4 := by decide
theorem sem_s5 : ((cc0_scratch5.slice (Rect.unit (s := S10) ![5] S1.size inb_S10_S1_5)).squeeze S_ squeezes_S1_S_).sem = sS 5 := by decide
theorem sem_s6 : ((cc0_scratch5.slice (Rect.unit (s := S10) ![6] S1.size inb_S10_S1_6)).squeeze S_ squeezes_S1_S_).sem = sS 6 := by decide
theorem sem_s7 : ((cc0_scratch5.slice (Rect.unit (s := S10) ![7] S1.size inb_S10_S1_7)).squeeze S_ squeezes_S1_S_).sem = sS 7 := by decide
theorem sem_s8 : ((cc0_scratch5.slice (Rect.unit (s := S10) ![8] S1.size inb_S10_S1_8)).squeeze S_ squeezes_S1_S_).sem = sS 8 := by decide
theorem sem_s9 : ((cc0_scratch5.slice (Rect.unit (s := S10) ![9] S1.size inb_S10_S1_9)).squeeze S_ squeezes_S1_S_).sem = sS 9 := by decide
theorem sem_r0 : ((cc0_scratch6.slice (Rect.unit (s := S10) ![0] S1.size inb_S10_S1_0)).squeeze S_ squeezes_S1_S_).sem = rS 0 := by decide
theorem sem_r1 : ((cc0_scratch6.slice (Rect.unit (s := S10) ![1] S1.size inb_S10_S1_1)).squeeze S_ squeezes_S1_S_).sem = rS 1 := by decide
theorem sem_r2 : ((cc0_scratch6.slice (Rect.unit (s := S10) ![2] S1.size inb_S10_S1_2)).squeeze S_ squeezes_S1_S_).sem = rS 2 := by decide
theorem sem_r3 : ((cc0_scratch6.slice (Rect.unit (s := S10) ![3] S1.size inb_S10_S1_3)).squeeze S_ squeezes_S1_S_).sem = rS 3 := by decide
theorem sem_r4 : ((cc0_scratch6.slice (Rect.unit (s := S10) ![4] S1.size inb_S10_S1_4)).squeeze S_ squeezes_S1_S_).sem = rS 4 := by decide
theorem sem_r5 : ((cc0_scratch6.slice (Rect.unit (s := S10) ![5] S1.size inb_S10_S1_5)).squeeze S_ squeezes_S1_S_).sem = rS 5 := by decide
theorem sem_r6 : ((cc0_scratch6.slice (Rect.unit (s := S10) ![6] S1.size inb_S10_S1_6)).squeeze S_ squeezes_S1_S_).sem = rS 6 := by decide
theorem sem_r7 : ((cc0_scratch6.slice (Rect.unit (s := S10) ![7] S1.size inb_S10_S1_7)).squeeze S_ squeezes_S1_S_).sem = rS 7 := by decide
theorem sem_r8 : ((cc0_scratch6.slice (Rect.unit (s := S10) ![8] S1.size inb_S10_S1_8)).squeeze S_ squeezes_S1_S_).sem = rS 8 := by decide
theorem sem_r9 : ((cc0_scratch6.slice (Rect.unit (s := S10) ![9] S1.size inb_S10_S1_9)).squeeze S_ squeezes_S1_S_).sem = rS 9 := by decide

/-- The kernel's own (scoped) semaphores: ten send, ten receive cells. -/
abbrev osem (i : Fin 20) : SemLoc sig := .dma ⟨5 + i.val, by have := i.isLt; show 5 + i.val < 25; omega⟩
/-- All of the protocol's: the barrier, then those. -/
abbrev csem (i : Fin 21) : SemLoc sig := if i = 0 then .reg barS else .dma ⟨4 + i.val, by have := i.isLt; show 4 + i.val < 25; omega⟩
abbrev kcell (ck : Dev nD × Fin 21) : GSem nD τ sig := ((ck.1 : Thread nD τ), csem ck.2)

/-- What a copy credits: a quarter-wide slot's amount, a half-wide one's. -/
abbrev NQ : ℕ := (rq0.reshape S256x256 squeezes_S1x256x256_S256x256.numel_eq).dmaCredit
abbrev NH : ℕ := (rh0.reshape S256x512 squeezes_S1x256x512_S256x512.numel_eq).dmaCredit
theorem NQ_pos : 0 < NQ := View.dmaCredit_pos _ (by decide)
theorem NH_pos : 0 < NH := View.dmaCredit_pos _ (by decide)
def NN (k : Fin 10) : ℕ := if k.val < 8 then NQ else NH
theorem NN_pos (k : Fin 10) : 0 < NN k := by unfold NN; split; exact NQ_pos; exact NH_pos

/-! ## The schedule -/

/-- What the right neighbour's signal hands: its landing slots for the copies to the right. -/
def barPayT (c : Dev nD) : sProp 𝕄 := iprop(some' (nxt c) rq0 ∗ some' (nxt c) rq1 ∗ some' (nxt c) rq4 ∗ some' (nxt c) rq5 ∗ some' (nxt c) rh1)
/-- What the left neighbour's signal hands: its landing slots for the copies to the left. -/
def barPayF (c : Dev nD) : sProp 𝕄 := iprop(some' (prv c) rq2 ∗ some' (prv c) rq3 ∗ some' (prv c) rq6 ∗ some' (prv c) rq7 ∗ some' (prv c) rh0)

def sendPay (k : Fin 10) (c : Dev nD) : sProp 𝕄 := match k with
  | 0 => some' c sq0 | 1 => some' c sq1 | 2 => some' c sq2 | 3 => some' c sq3
  | 4 => some' c rq0 | 5 => some' c rq1 | 6 => some' c rq2 | 7 => some' c rq3 | 8 => some' c sh0 | 9 => some' c sh1

def recvPay (k : Fin 10) (c : Dev nD) : sProp 𝕄 := match k with
  | 0 => hold c rq0 (A0 m ρ (prv c)) | 1 => hold c rq1 (A1 m ρ (prv c)) | 2 => hold c rq2 (A2 m ρ (nxt c)) | 3 => hold c rq3 (A3 m ρ (nxt c))
  | 4 => hold c rq4 (T0 m ρ (prv c)) | 5 => hold c rq5 (T1 m ρ (prv c)) | 6 => hold c rq6 (T2 m ρ (nxt c)) | 7 => hold c rq7 (T3 m ρ (nxt c))
  | 8 => hold c rh0 (H0 m ρ (nxt c)) | 9 => hold c rh1 (H1 m ρ (prv c))

instance sendPay_storable (k : Fin 10) (c : Dev nD) : BI.Storable (upEmb : UEmb _ 𝕄) (sendPay (F := F) k c) := by
  fin_cases k <;> (simp only [sendPay]; infer_instance)
instance recvPay_storable (k : Fin 10) (c : Dev nD) : BI.Storable (upEmb : UEmb _ 𝕄) (recvPay (F := F) m ρ k c) := by
  fin_cases k <;> (simp only [recvPay]; infer_instance)
instance barPayT_storable (c : Dev nD) : BI.Storable (upEmb : UEmb _ 𝕄) (barPayT (F := F) c) := by unfold barPayT; infer_instance
instance barPayF_storable (c : Dev nD) : BI.Storable (upEmb : UEmb _ 𝕄) (barPayF (F := F) c) := by unfold barPayF; infer_instance

set_option backward.proofsInPublic true in
/-- One round. A barrier cell has the duties `false` (the left neighbour's signal) and `true` (the right one's), of one unit;
    a send or receive cell the duty `false` of its copy's amount. -/
def Rd : Rounds.Schedule (GSem nD τ sig) Bool 𝕄 where
  duties g r := if r = 0 ∧ g.1.2 = .tc then (match g.2 with
    | .reg _ => Finset.univ
    | .dma q => if 5 ≤ q.val then {false} else ∅) else ∅
  unitless _ := False
  amount g _ _ := match g.2 with
    | .reg _ => 1
    | .dma q => if h : 5 ≤ q.val ∧ q.val < 15 then NN ⟨q.val - 5, by omega⟩ else if h : 15 ≤ q.val ∧ q.val < 25 then NN ⟨q.val - 15, by omega⟩ else 1
  payload g _ d := match g.2 with
    | .reg _ => if d then barPayT g.1.1 else barPayF g.1.1
    | .dma q => if h : 5 ≤ q.val ∧ q.val < 15 then sendPay ⟨q.val - 5, by omega⟩ g.1.1
      else if h : 15 ≤ q.val ∧ q.val < 25 then recvPay m ρ ⟨q.val - 15, by omega⟩ g.1.1 else iprop(emp)
  amount_pos g _ _ _ := by
    split
    · exact Nat.one_pos
    · split
      · exact NN_pos _
      · split
        · exact NN_pos _
        · exact Nat.one_pos

instance Rd_payload_storable (g : GSem nD τ sig) (r : ℕ) (d : Bool) :
    BI.Storable (upEmb : UEmb _ 𝕄) ((Rd (F := F) m ρ).payload g r d) := by
  dsimp only [Rd]
  (repeat' split) <;> infer_instance

section Sched
variable (c : Dev nD) (k : Fin 10)

theorem duties_bar : (Rd (F := F) m ρ).duties (barC c) 0 = Finset.univ := by dsimp only [Rd]; exact if_pos ⟨rfl, rfl⟩
theorem duties_send : (Rd (F := F) m ρ).duties (sC c k) 0 = {false} := by
  dsimp only [Rd]; rw [if_pos ⟨rfl, rfl⟩, if_pos (by omega)]
theorem duties_recv : (Rd (F := F) m ρ).duties (rC c k) 0 = {false} := by
  dsimp only [Rd]; rw [if_pos ⟨rfl, rfl⟩, if_pos (by omega)]
theorem duties_later (g : GSem nD τ sig) : ∀ r, 1 ≤ r → (Rd (F := F) m ρ).duties g r = ∅ :=
  fun r hr => by dsimp only [Rd]; rw [if_neg fun h => by omega]

theorem amount_bar (d : Bool) : (Rd (F := F) m ρ).amount (barC c) 0 d = 1 := rfl
theorem amount_send (d : Bool) : (Rd (F := F) m ρ).amount (sC c k) 0 d = NN k := by
  have hk := k.isLt
  dsimp only [Rd]; rw [dif_pos ⟨by omega, by omega⟩]; congr 1; exact Fin.ext (by simp)
theorem amount_recv (d : Bool) : (Rd (F := F) m ρ).amount (rC c k) 0 d = NN k := by
  have hk := k.isLt
  dsimp only [Rd]; rw [dif_neg (by omega), dif_pos ⟨by omega, by omega⟩]; congr 1; exact Fin.ext (by simp)

theorem expect_bar : (Rd (F := F) m ρ).expect (barC c) 0 = 2 := by
  unfold Schedule.expect Schedule.amountOf
  rw [duties_bar, Finset.sum_congr rfl fun d _ => amount_bar m ρ c d, Finset.sum_const, Finset.card_univ, Fintype.card_bool, smul_eq_mul]
theorem expect_send : (Rd (F := F) m ρ).expect (sC c k) 0 = NN k := by
  unfold Schedule.expect Schedule.amountOf; rw [duties_send, Finset.sum_singleton, amount_send]
theorem expect_recv : (Rd (F := F) m ρ).expect (rC c k) 0 = NN k := by
  unfold Schedule.expect Schedule.amountOf; rw [duties_recv, Finset.sum_singleton, amount_recv]

theorem payload_bar_true : (Rd (F := F) m ρ).payload (barC c) 0 true = barPayT c := rfl
theorem payload_bar_false : (Rd (F := F) m ρ).payload (barC c) 0 false = barPayF c := rfl
theorem payload_send (d : Bool) : (Rd (F := F) m ρ).payload (sC c k) 0 d = sendPay k c := by
  have hk := k.isLt
  dsimp only [Rd]; rw [dif_pos ⟨by omega, by omega⟩]; congr 1; exact Fin.ext (by simp)
theorem payload_recv (d : Bool) : (Rd (F := F) m ρ).payload (rC c k) 0 d = recvPay m ρ k c := by
  have hk := k.isLt
  dsimp only [Rd]; rw [dif_neg (by omega), dif_pos ⟨by omega, by omega⟩]; congr 1; exact Fin.ext (by simp)

theorem rest_bar : bigSep ((Rd (F := F) m ρ).duties (barC c) 0 \ ∅) (fun d => (Rd (F := F) m ρ).payload (barC c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
theorem rest_send : bigSep ((Rd (F := F) m ρ).duties (sC c k) 0 \ ∅) (fun d => (Rd (F := F) m ρ).payload (sC c k) 0 d) = sendPay k c := by
  rw [Finset.sdiff_empty, duties_send, bigSep_singleton, payload_send]
theorem rest_recv : bigSep ((Rd (F := F) m ρ).duties (rC c k) 0 \ ∅) (fun d => (Rd (F := F) m ρ).payload (rC c k) 0 d) = recvPay m ρ k c := by
  rw [Finset.sdiff_empty, duties_recv, bigSep_singleton, payload_recv]

end Sched

/-! ## What each core owes at launch; the levels -/

/-- What device `c` owes with its copies `k`, …, 9 to come: the receive cells' amounts. -/
def Or (c : Dev nD) : ℕ → CellTallies nD τ sig Unit
  | 0 => 0
  | n + 1 => Or c n + tallyAt (rC (peer ⟨9 - n, by omega⟩ c) ⟨9 - n, by omega⟩) () (NN ⟨9 - n, by omega⟩)
/-- Before its first signal: besides, both neighbours' barrier units. -/
def O₁ (c : Dev nD) : CellTallies nD τ sig Unit := Or c 10 + tallyAt (barC (nxt c)) () 1
def O₀ (c : Dev nD) : CellTallies nD τ sig Unit := O₁ c + tallyAt (barC (prv c)) () 1

def L (g : GSem nD τ sig) : Finset Unit := if g.1.2 = .tc then {()} else ∅
/-- Staging and send cells at 0, barrier cells at 1, leg-one receive cells at 2, the other receive cells at 3. -/
def lv (g : GSem nD τ sig) (_ : Unit) : ℕ := match g.2 with
  | .reg _ => 1
  | .dma q => if q.val < 15 then 0 else if q.val < 19 then 2 else 3

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem add_pos {A B : CellTallies nD τ sig Unit} {g : GSem nD τ sig} {u : Unit} (h : 0 < (A + B) g u) : 0 < A g u ∨ 0 < B g u := by
  rw [Pi.add_apply, Finsupp.add_apply] at h
  omega

theorem Or_pos {c : Dev nD} {g : GSem nD τ sig} {u : Unit} : ∀ n ≤ 10, 0 < Or c n g u → ∃ k : Fin 10, 10 ≤ n + k.val ∧ g = rC (peer k c) k
  | 0, _, h => absurd h (Nat.lt_irrefl 0)
  | n + 1, hn, h => (add_pos h).elim (fun h => (Or_pos n (by omega) h).imp fun k hk => ⟨by omega, hk.2⟩)
      fun h => ⟨⟨9 - n, by omega⟩, by show 10 ≤ n + 1 + (9 - n); omega, tally_pos h⟩

theorem O₀_pos {c : Dev nD} {g : GSem nD τ sig} {u : Unit} (h : 0 < O₀ c g u) :
    (∃ k, g = rC (peer k c) k) ∨ g = barC (nxt c) ∨ g = barC (prv c) := by
  unfold O₀ O₁ at h
  rcases add_pos h with h | h
  · rcases add_pos h with h | h
    · obtain ⟨k, -, hk⟩ := Or_pos 10 le_rfl h; exact .inl ⟨k, hk⟩
    · exact .inr (.inl (tally_pos h))
  · exact .inr (.inr (tally_pos h))

theorem lv_recv (c : Dev nD) (k : Fin 10) (u : Unit) : lv (rC c k) u = if k.val < 4 then 2 else 3 := by
  revert k; intro k; dsimp only [lv]; rw [if_neg (by omega)]; split <;> split <;> first | rfl | omega
theorem lv_send (c : Dev nD) (k : Fin 10) (u : Unit) : lv (sC c k) u = 0 := by
  have := k.isLt; dsimp only [lv]; rw [if_pos (by omega)]

omit [FloatOps F] in
theorem mayWait_stage (c : Dev nD) (q : DmaSem sig) (hq : q.val < 15) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; dsimp only [lv]; rw [if_pos hq])
      (fun g u hg => by
        rcases O₀_pos hg with ⟨k, rfl⟩ | rfl | rfl
        · rw [lv_recv]; split <;> decide
        · exact Nat.one_pos
        · exact Nat.one_pos)
  · rw [MayWait_zero]; iintro -; iempintro

omit [FloatOps F] in
/-- At its barrier wait a device owes its receive amounts only. -/
theorem mayWait_bar (c : Dev nD) :
    (levAts L lv : sProp 𝕄) ⊢ MayWait (c : Thread nD τ) (.reg barS) () (Or c 10) :=
  MayOwe.of_cut (L := L) (lev := lv) 1 (fun p hp => by rw [Finset.mem_singleton.mp hp, L_tc]; exact Finset.mem_singleton_self _)
    (fun g u hg => by obtain ⟨k, -, rfl⟩ := Or_pos 10 le_rfl hg; exact Finset.mem_singleton_self _)
    (fun p hp => by rw [Finset.mem_singleton.mp hp]; exact le_rfl)
    (fun g u hg => by obtain ⟨k, -, rfl⟩ := Or_pos 10 le_rfl hg; rw [lv_recv]; split <;> decide)

omit [FloatOps F] in
/-- At a wait for leg one it owes the amounts of the copies 4, …, 9 at most. -/
theorem mayWait_leg (c : Dev nD) (q : DmaSem sig) (hq : q.val < 19) (n : ℕ) (hn : n ≤ 6) :
    (levAts L lv : sProp 𝕄) ⊢ MayWait (c : Thread nD τ) (.dma q) () (Or c n) :=
  MayOwe.of_cut (L := L) (lev := lv) 2 (fun p hp => by rw [Finset.mem_singleton.mp hp, L_tc]; exact Finset.mem_singleton_self _)
    (fun g u hg => by obtain ⟨k, -, rfl⟩ := Or_pos n (by omega) hg; exact Finset.mem_singleton_self _)
    (fun p hp => by rw [Finset.mem_singleton.mp hp]; dsimp only [lv]; rw [if_pos hq]; split; exact Nat.zero_le _; exact le_rfl)
    (fun g u hg => by obtain ⟨k, hk, rfl⟩ := Or_pos n (by omega) hg; rw [lv_recv, if_neg (by omega)]; decide)

end Cert.KernelIdeal.Run
-- ==== Proof.IdealRun.Rules.lean ====
module

public import proofs.«01_k».proof.Proof.IdealRun.Common

/-! # The rules the body is run with: loads, stores, copies, waits at this protocol's cells -/

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The weakest precondition of device `c`'s program. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The tokens, the gates and the experts' weights, whole. -/
def env (c : Dev nD) : sProp 𝕄 :=
  iprop((((c : Thread nD τ).loc cc0_stg0_0) ↦{fullShare} xstg m ρ c) ∗ (((c : Thread nD τ).loc cc0_scratch0) ↦{fullShare} gates m ρ c)
    ∗ (((c : Thread nD τ).loc cc0_stg3_0) ↦{fullShare} estg m ρ c))

section Loads
variable (c : Dev nD)

theorem wpc_ret {α : Type} {Q : α → sProp 𝕄} (a : α) : Q a ⊢ wpc c (.ret a) Q := by
  unfold wpc
  rw [wp_ret]
  iintro H
  imodintro
  iexact H

theorem ld_x {α : Type} {Q : α → sProp 𝕄} (r : LoadRect S1024x512) {hl : (xM : Memref sig .tc .vmem S1024x512 .f32).view.LoadsAt r} {k : (r.shape.Idx → Elt F .f32) → Prog (TpuEff nD τ sig (Elt F) Λ₀ .tc) α} :
    env m ρ c ⊢ iprop((env m ρ c -∗ wpc c (k (xA m ρ c r)) Q) -∗ wpc c (.op (.load xM r hl) k) Q) := by
  unfold env
  iintro ⟨Hx, Hg, He⟩ Hk
  iapply (wp_load 𝒱₀ (c : Thread nD τ) none Set.univ (m := xM) (Finset.subset_univ _)) $$ Hx; iintro Hx
  iapply Hk
  isplitl [Hx]; · iexact Hx
  isplitl [Hg] <;> iassumption

theorem ld_g {α : Type} {Q : α → sProp 𝕄} (r : LoadRect S1024x16) {hl : (gM : Memref sig .tc .vmem S1024x16 .f32).view.LoadsAt r} {k : (r.shape.Idx → Elt F .f32) → Prog (TpuEff nD τ sig (Elt F) Λ₀ .tc) α} :
    env m ρ c ⊢ iprop((env m ρ c -∗ wpc c (k (gA m ρ c r)) Q) -∗ wpc c (.op (.load gM r hl) k) Q) := by
  unfold env
  iintro ⟨Hx, Hg, He⟩ Hk
  iapply (wp_load 𝒱₀ (c : Thread nD τ) none Set.univ (m := gM) (Finset.subset_univ _)) $$ Hg; iintro Hg
  iapply Hk
  isplitl [Hx]; · iexact Hx
  isplitl [Hg] <;> iassumption

theorem ld_e {α : Type} {Q : α → sProp 𝕄} (r : LoadRect S4x512x1024) {hl : (eM : Memref sig .tc .vmem S4x512x1024 .f32).view.LoadsAt r} {k : (r.shape.Idx → Elt F .f32) → Prog (TpuEff nD τ sig (Elt F) Λ₀ .tc) α} :
    env m ρ c ⊢ iprop((env m ρ c -∗ wpc c (k (eA m ρ c r)) Q) -∗ wpc c (.op (.load eM r hl) k) Q) := by
  unfold env
  iintro ⟨Hx, Hg, He⟩ Hk
  iapply (wp_load 𝒱₀ (c : Thread nD τ) none Set.univ (m := eM) (Finset.subset_univ _)) $$ He; iintro He
  iapply Hk
  isplitl [Hx]; · iexact Hx
  isplitl [Hg] <;> iassumption

/-- A load of exactly a held view. -/
theorem ld_hold {α : Type} {Q : α → sProp 𝕄} {s : Shape} {e : EltTy} (M : Memref sig .tc .vmem s e) (r : Rect s) (X : r.shape.Idx → Elt F e) {hl : M.view.LoadsAt r.toLoadRect}
    {k : (r.shape.Idx → Elt F e) → Prog (TpuEff nD τ sig (Elt F) Λ₀ .tc) α} :
    hold c (M.access r) X ⊢ iprop((hold c (M.access r) X -∗ wpc c (k X) Q) -∗ wpc c (.op (.load M r.toLoadRect hl) k) Q) := by
  unfold hold
  iintro ⟨%f, %hf, H⟩ Hk
  iapply (wp_load_rect 𝒱₀ (c : Thread nD τ) none Set.univ (m := M) (r := r) subset_rfl) $$ H; iintro H
  rw [hf]
  iapply Hk
  iexists f
  isplitr; · ipureintro; exact hf
  iexact H

/-- A load whose result is dropped. -/
theorem ld_some {α : Type} {Q : α → sProp 𝕄} {s : Shape} {e : EltTy} (M : Memref sig .tc .vmem s e) (r : Rect s) {hl : M.view.LoadsAt r.toLoadRect}
    {p : Prog (TpuEff nD τ sig (Elt F) Λ₀ .tc) α} :
    some' c (M.access r) ⊢ iprop((some' c (M.access r) -∗ wpc c p Q) -∗ wpc c (.op (.load M r.toLoadRect hl) (fun _ => p)) Q) := by
  unfold some'
  iintro ⟨%f, H⟩ Hk
  iapply (wp_load_rect 𝒱₀ (c : Thread nD τ) none Set.univ (m := M) (r := r) subset_rfl) $$ H; iintro H
  iapply Hk
  iexists f; iexact H

/-- A store to exactly a held view. -/
theorem st_some {α : Type} {Q : α → sProp 𝕄} {s : Shape} {e : EltTy} (M : Memref sig .tc .vmem s e) (r : Rect s) (w : r.shape.Idx → Elt F e)
    {hx : (M.access r).Stores Finset.univ} {hm : Finset.univ = Finset.univ ∨ ∀ a, r.stride a = 1} {k : PUnit → Prog (TpuEff nD τ sig (Elt F) Λ₀ .tc) α} :
    some' c (M.access r) ⊢ iprop((hold c (M.access r) w -∗ wpc c (k ⟨⟩) Q) -∗ wpc c (.op (.store M r w Finset.univ hx hm) k) Q) := by
  unfold some' hold
  iintro ⟨%f, H⟩ Hk
  iapply (wp_store 𝒱₀ (c : Thread nD τ) none Set.univ (m := M) (r := r) (w := w) (Mk := Finset.univ) (hx := hx) (hm := hm) (k := k) (S := (M.access r).set) (f := f) subset_rfl) $$ H; iintro H
  iapply Hk
  iexists _
  isplitr
  swap; · iexact H
  ipureintro
  exact View.read_write_univ _ _

end Loads

omit [FloatOps F] in
/-- The elements of a reshaped view are the view's. -/
theorem pts_reshape (c : Dev nD) {s s' : Shape} {e : EltTy} (v : View sig .tc .vmem s e) (h : s'.numel = s.numel) (f : Buf (Elt F) (v.loc (c : Thread nD τ))) :
    (((v.reshape s' h).loc (c : Thread nD τ) ↦[(v.reshape s' h).set]{fullShare} f : sProp 𝕄)) = (v.loc (c : Thread nD τ) ↦[v.set]{fullShare} f) := by
  show ((v.loc (c : Thread nD τ) ↦[(v.reshape s' h).set]{fullShare} f : sProp 𝕄)) = _
  rw [View.set_reshape]

omit [FloatOps F] in
/-- What one reshaped view reads, written through another, reads back as the first view's contents. -/
theorem read_landed {s s' : Shape} {e : EltTy} (v w : View sig .tc .vmem s e) (h : s'.numel = s.numel) (fd : v.ty.Contents (Elt F)) (f : w.ty.Contents (Elt F)) :
    v.read (Elt F) ((v.reshape s' h).write (Elt F) fd ((w.reshape s' h).read (Elt F) f) Finset.univ) = w.read (Elt F) f := by
  rw [View.write_reshape_univ, View.read_write_univ]
  funext x
  show w.read (Elt F) f (Shape.reshapeEquiv _ ((Shape.reshapeEquiv _).symm x)) = _
  rw [Equiv.apply_symm_apply]

/-! ## The cells' records -/

variable (K : Dev nD × Fin 21 → ℕ)

/-- Every cell's invariant, under the names `K`, and that round 0 of it is reached. -/
def recs : sProp 𝕄 := bigSep Finset.univ fun ck : Dev nD × Fin 21 => iprop(cellInv ER (Rd m ρ) (K ck) (kcell ck) ∗ reached ER (kcell ck) 0)

instance recs_persistent : BI.Persistent (recs m ρ K) := by unfold recs; infer_instance

theorem rec_at (ck : Dev nD × Fin 21) : recs m ρ K ⊢ iprop(cellInv ER (Rd m ρ) (K ck) (kcell ck) ∗ reached ER (kcell ck) 0) := by
  unfold recs
  exact bigSep_elim (Finset.mem_univ ck)

theorem kcell_bar (c : Dev nD) : kcell (c, 0) = barC c := rfl
def si (k : Fin 10) : Fin 21 := ⟨1 + k.val, by omega⟩
def ri (k : Fin 10) : Fin 21 := ⟨11 + k.val, by omega⟩
theorem kcell_send (c : Dev nD) (k : Fin 10) : kcell (c, si k) = sC c k := by revert k; intro k; fin_cases k <;> rfl
theorem kcell_recv (c : Dev nD) (k : Fin 10) : kcell (c, ri k) = rC c k := by revert k; intro k; fin_cases k <;> rfl

theorem rec_bar (c : Dev nD) : recs m ρ K ⊢ iprop(cellInv ER (Rd m ρ) (K (c, 0)) (barC c) ∗ reached ER (barC c) 0) := rec_at m ρ K (c, 0)
theorem rec_send (c : Dev nD) (k : Fin 10) : recs m ρ K ⊢ iprop(cellInv ER (Rd m ρ) (K (c, si k)) (sC c k) ∗ reached ER (sC c k) 0) := by
  rw [← kcell_send]; exact rec_at m ρ K (c, si k)
theorem rec_recv (c : Dev nD) (k : Fin 10) : recs m ρ K ⊢ iprop(cellInv ER (Rd m ρ) (K (c, ri k)) (rC c k) ∗ reached ER (rC c k) 0) := by
  rw [← kcell_recv]; exact rec_at m ρ K (c, ri k)

/-! ## What a device still owes, with whatever it has waited for -/

def ow (c : Dev nD) (O : CellTallies nD τ sig Unit) : sProp 𝕄 := iprop(∃ W : Waits sig Unit, owes (c : Thread nD τ) O W)

section Steps
variable (c : Dev nD)

/-- The signal to the left neighbour. -/
theorem sig_prv {α : Type} {Q : α → sProp 𝕄} {n : Dev nD} (hn : n = prv c) {k : PUnit → Prog (TpuEff nD τ sig (Elt F) Λ₀ .tc) α} :
    iprop(recs m ρ K ∗ ow c (O₀ c) ∗ dutyTok ER (barC (prv c)) 0 true
        ∗ (some' c rq0 ∗ some' c rq1 ∗ some' c rq4 ∗ some' c rq5 ∗ some' c rh1))
      ⊢ iprop((ow c (O₁ c) -∗ wpc c (k ⟨⟩) Q) -∗ wpc c (.op (.semSignal (Dev.tc n : Thread nD τ) barS 1) k) Q) := by
  subst hn
  unfold ow
  iintro ⟨#HR, ⟨%W, HO⟩, Ht, Hp⟩ Hk
  ihave ⟨HI, Hr⟩ := (rec_bar m ρ K (prv c)) $$ HR
  iapply (Rounds.wp_signal 𝒱₀ ER (Rd m ρ) (c : Thread nD τ) none (dst := (prv c : Thread nD τ)) (κ := K (prv c, 0))
      (d := true) (by rw [duties_bar]; exact Finset.mem_univ _) (amount_bar m ρ (prv c) true) () (O₁ c) rfl)
    $$ [HI HO Ht Hp Hr]
  · isplitl [HI]; · iexact HI
    isplitl [HO]; · iexact HO
    isplitl [Ht]; · iexact Ht
    isplitl [Hp]
    · rw [payload_bar_true]; unfold barPayT; rw [nxt_prv]; iexact Hp
    iexact Hr
  iintro HO
  iapply Hk
  iexists W; iexact HO

/-- The signal to the right neighbour. -/
theorem sig_nxt {α : Type} {Q : α → sProp 𝕄} {n : Dev nD} (hn : n = nxt c) {k : PUnit → Prog (TpuEff nD τ sig (Elt F) Λ₀ .tc) α} :
    iprop(recs m ρ K ∗ ow c (O₁ c) ∗ dutyTok ER (barC (nxt c)) 0 false
        ∗ (some' c rq2 ∗ some' c rq3 ∗ some' c rq6 ∗ some' c rq7 ∗ some' c rh0))
      ⊢ iprop((ow c (Or c 10) -∗ wpc c (k ⟨⟩) Q) -∗ wpc c (.op (.semSignal (Dev.tc n : Thread nD τ) barS 1) k) Q) := by
  subst hn
  unfold ow
  iintro ⟨#HR, ⟨%W, HO⟩, Ht, Hp⟩ Hk
  ihave ⟨HI, Hr⟩ := (rec_bar m ρ K (nxt c)) $$ HR
  iapply (Rounds.wp_signal 𝒱₀ ER (Rd m ρ) (c : Thread nD τ) none (dst := (nxt c : Thread nD τ)) (κ := K (nxt c, 0))
      (d := false) (by rw [duties_bar]; exact Finset.mem_univ _) (amount_bar m ρ (nxt c) false) () (Or c 10) rfl)
    $$ [HI HO Ht Hp Hr]
  · isplitl [HI]; · iexact HI
    isplitl [HO]; · iexact HO
    isplitl [Ht]; · iexact Ht
    isplitl [Hp]
    · rw [payload_bar_false]; unfold barPayF; rw [prv_nxt]; iexact Hp
    iexact Hr
  iintro HO
  iapply Hk
  iexists W; iexact HO

/-- The entry wait: both neighbours' landing slots arrive; the cell closes. -/
theorem wait_bar {α : Type} {Q : α → sProp 𝕄} {k : PUnit → Prog (TpuEff nD τ sig (Elt F) Λ₀ .tc) α} :
    iprop(recs m ρ K ∗ levAts L lv ∗ ow c (Or c 10) ∗ cred (tallyAt (barC c) () 2) ∗ atPos ER (barC c) 0 ∅ 0)
      ⊢ iprop((ow c (Or c 10) ∗ barPayF c ∗ barPayT c ∗ semVal (barC c) 0 -∗ wpc c (k ⟨⟩) Q) -∗ wpc c (.op (.semWait barS 2) k) Q) := by
  unfold ow
  iintro ⟨#HR, #Hlev, ⟨%W, HO⟩, Hc, Hat⟩ Hk
  ihave ⟨#HI, #Hr⟩ := (rec_bar m ρ K c) $$ HR
  iapply (Rounds.wp_wait_rest_token 𝒱₀ ER (Rd m ρ) (c : Thread nD τ) none (κ := K (c, 0))
      (wpE_semWait_eq 𝒱₀ (c : Thread nD τ) none Set.univ) (Set.mem_univ _) () (O := Or c 10) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨HpF, HpT⟩
  imod (Rounds.cell_close ER (Rd m ρ) (Set.mem_univ (K (c, 0))) (fun h => h) (R := 0 + 1) (duties_later m ρ (barC c))) $$ [Hat] with Hz
  · isplitr; · iexact HI
    iexact Hat
  iapply Hk
  isplitl [HO]; · iexists _; iexact HO
  isplitl [HpF]; · iexact HpF
  isplitl [HpT]; · iexact HpT
  iexact Hz

/-- A wait on a send cell: the source slot comes back; the cell closes. -/
theorem wait_send {α : Type} {Q : α → sProp 𝕄} (j : Fin 10) (O : CellTallies nD τ sig Unit) (hO : (levAts L lv : sProp 𝕄) ⊢ MayWait (c : Thread nD τ) (.dma (sS j)) () O)
    {q : DmaSem sig} (hq : q = sS j) {s1 s2 : Shape} {e1 e2 : EltTy}
    {src : Memref sig .tc .vmem s1 e1} {dst : Memref sig .tc .vmem s2 e2} {hs : src.view.WordExact} {hd : dst.view.WordExact}
    (hN : dst.view.dmaCredit = NN j) {k : PUnit → Prog (TpuEff nD τ sig (Elt F) Λ₀ .tc) α} :
    iprop(recs m ρ K ∗ levAts L lv ∗ ow c O ∗ cred (tallyAt (sC c j) () (NN j)) ∗ atPos ER (sC c j) 0 ∅ 0)
      ⊢ iprop((ow c O ∗ sendPay j c ∗ semVal (sC c j) 0 -∗ wpc c (k ⟨⟩) Q) -∗ wpc c (.op (.waitDma2 q src dst hs hd) k) Q) := by
  subst hq
  unfold ow
  iintro ⟨#HR, #Hlev, ⟨%W, HO⟩, Hc, Hat⟩ Hk
  ihave ⟨#HI, #Hr⟩ := (rec_send m ρ K c j) $$ HR
  iapply (Rounds.wp_wait_rest_token 𝒱₀ ER (Rd m ρ) (c : Thread nD τ) none (κ := K (c, si j)) (k' := NN j)
      (fun P => (wpE_waitDma2_eq 𝒱₀ (c : Thread nD τ) none Set.univ P).trans (by rw [hN])) (Set.mem_univ _) () (O := O) (W := W) (R := 0) (m := 0) (T := ∅)
      (by rw [Nat.zero_add, expect_send])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq (rest_send m ρ c j)) $$ Hpay
  imod (Rounds.cell_close ER (Rd m ρ) (Set.mem_univ (K (c, si j))) (fun h => h) (R := 0 + 1) (duties_later m ρ (sC c j))) $$ [Hat] with Hz
  · isplitr; · iexact HI
    iexact Hat
  iapply Hk
  isplitl [HO]; · iexists _; iexact HO
  isplitl [Hp]; · iexact Hp
  iexact Hz

/-- A wait on a receive cell: the landing slot arrives at the sender's contents; the cell closes. -/
theorem wait_recv {α : Type} {Q : α → sProp 𝕄} (j : Fin 10) (O : CellTallies nD τ sig Unit) (hO : (levAts L lv : sProp 𝕄) ⊢ MayWait (c : Thread nD τ) (.dma (rS j)) () O)
    {q : DmaSem sig} (hq : q = rS j) {s1 s2 : Shape} {e1 e2 : EltTy}
    {src : Memref sig .tc .vmem s1 e1} {dst : Memref sig .tc .vmem s2 e2} {hs : src.view.WordExact} {hd : dst.view.WordExact}
    (hN : dst.view.dmaCredit = NN j) {k : PUnit → Prog (TpuEff nD τ sig (Elt F) Λ₀ .tc) α} :
    iprop(recs m ρ K ∗ levAts L lv ∗ ow c O ∗ cred (tallyAt (rC c j) () (NN j)) ∗ atPos ER (rC c j) 0 ∅ 0)
      ⊢ iprop((ow c O ∗ recvPay m ρ j c ∗ semVal (rC c j) 0 -∗ wpc c (k ⟨⟩) Q) -∗ wpc c (.op (.waitDma2 q src dst hs hd) k) Q) := by
  subst hq
  unfold ow
  iintro ⟨#HR, #Hlev, ⟨%W, HO⟩, Hc, Hat⟩ Hk
  ihave ⟨#HI, #Hr⟩ := (rec_recv m ρ K c j) $$ HR
  iapply (Rounds.wp_wait_rest_token 𝒱₀ ER (Rd m ρ) (c : Thread nD τ) none (κ := K (c, ri j)) (k' := NN j)
      (fun P => (wpE_waitDma2_eq 𝒱₀ (c : Thread nD τ) none Set.univ P).trans (by rw [hN])) (Set.mem_univ _) () (O := O) (W := W) (R := 0) (m := 0) (T := ∅)
      (by rw [Nat.zero_add, expect_recv])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq (rest_recv m ρ c j)) $$ Hpay
  imod (Rounds.cell_close ER (Rd m ρ) (Set.mem_univ (K (c, ri j))) (fun h => h) (R := 0 + 1) (duties_later m ρ (rC c j))) $$ [Hat] with Hz
  · isplitr; · iexact HI
    iexact Hat
  iapply Hk
  isplitl [HO]; · iexists _; iexact HO
  isplitl [Hp]; · iexact Hp
  iexact Hz

/-- Copy `j`: from a slot of one buffer at contents `X` to a slot of the peer's, which lands there at `X`. -/
theorem copy {α : Type} {Q : α → sProp 𝕄} (j : Fin 10) {a a' b : ℕ} (ms : Memref sig .tc .vmem ⟨3, ![a, 256, b]⟩ .bf16) (md : Memref sig .tc .vmem ⟨3, ![a', 256, b]⟩ .bf16)
    {os od : Fin 3 → ℕ} {hs : ∀ i, os i + (⟨3, ![1, 256, b]⟩ : Shape).size i ≤ (⟨3, ![a, 256, b]⟩ : Shape).size i}
    {hd : ∀ i, od i + (⟨3, ![1, 256, b]⟩ : Shape).size i ≤ (⟨3, ![a', 256, b]⟩ : Shape).size i}
    {hq : (⟨3, ![1, 256, b]⟩ : Shape).Squeezes ⟨2, ![256, b]⟩}
    {h1 : ∀ i, (Rect.unit (s := (⟨3, ![a, 256, b]⟩ : Shape)) os (⟨3, ![1, 256, b]⟩ : Shape).size hs).stride i = 1}
    {h2 : ∀ i, (Rect.unit (s := (⟨3, ![a', 256, b]⟩ : Shape)) od (⟨3, ![1, 256, b]⟩ : Shape).size hd).stride i = 1}
    {n : Dev nD} (hn : n = peer j c) {qs qr : DmaSem sig} (hqs : qs = sS j) (hqr : qr = rS j)
    (X : (⟨3, ![1, 256, b]⟩ : Shape).Idx → Elt F .bf16)
    (hN : ((md.slice (Rect.unit (s := (⟨3, ![a', 256, b]⟩ : Shape)) od (⟨3, ![1, 256, b]⟩ : Shape).size hd) h2).squeeze ⟨2, ![256, b]⟩ hq).view.dmaCredit = NN j)
    (O O' : CellTallies nD τ sig Unit) (hO : O = O' + tallyAt (rC (peer j c) j) () (NN j))
    (hp1 : sendPay (F := F) j c = some' c (ms.access (Rect.unit (s := (⟨3, ![a, 256, b]⟩ : Shape)) os (⟨3, ![1, 256, b]⟩ : Shape).size hs)))
    (hp2 : recvPay m ρ j (peer j c) = hold (peer j c) (md.access (Rect.unit (s := (⟨3, ![a', 256, b]⟩ : Shape)) od (⟨3, ![1, 256, b]⟩ : Shape).size hd)) X)
    {hsc : ((md.slice (Rect.unit (s := (⟨3, ![a', 256, b]⟩ : Shape)) od (⟨3, ![1, 256, b]⟩ : Shape).size hd) h2).squeeze ⟨2, ![256, b]⟩ hq : Memref sig (Dev.tc n : Thread nD τ).2.kind .vmem _ .bf16).view.ref.isScScratch = false}
    {hsrc : ((ms.slice (Rect.unit (s := (⟨3, ![a, 256, b]⟩ : Shape)) os (⟨3, ![1, 256, b]⟩ : Shape).size hs) h1).squeeze ⟨2, ![256, b]⟩ hq).view.WordExact}
    {hdst : ((md.slice (Rect.unit (s := (⟨3, ![a', 256, b]⟩ : Shape)) od (⟨3, ![1, 256, b]⟩ : Shape).size hd) h2).squeeze ⟨2, ![256, b]⟩ hq).view.WordExact}
    {hsem : DmaTarget.Typed .vmem (.dma qr) (.remote (Dev.tc n : Thread nD τ) ((md.slice (Rect.unit (s := (⟨3, ![a', 256, b]⟩ : Shape)) od (⟨3, ![1, 256, b]⟩ : Shape).size hd) h2).squeeze ⟨2, ![256, b]⟩ hq) (.dma qs) hsc)}
    {k : PUnit → Prog (TpuEff nD τ sig (Elt F) Λ₀ .tc) α} :
    iprop(recs m ρ K ∗ hold c (ms.access (Rect.unit (s := (⟨3, ![a, 256, b]⟩ : Shape)) os (⟨3, ![1, 256, b]⟩ : Shape).size hs)) X
        ∗ some' (peer j c) (md.access (Rect.unit (s := (⟨3, ![a', 256, b]⟩ : Shape)) od (⟨3, ![1, 256, b]⟩ : Shape).size hd))
        ∗ ow c O ∗ dutyTok ER (sC c j) 0 false ∗ dutyTok ER (rC (peer j c) j) 0 false)
      ⊢ iprop((cred (tallyAt (sC c j) () (NN j)) ∗ ow c O' -∗ wpc c (k ⟨⟩) Q)
        -∗ wpc c (.op (.enqueueDma ((ms.slice (Rect.unit (s := (⟨3, ![a, 256, b]⟩ : Shape)) os (⟨3, ![1, 256, b]⟩ : Shape).size hs) h1).squeeze ⟨2, ![256, b]⟩ hq)
            (.remote (Dev.tc n : Thread nD τ) ((md.slice (Rect.unit (s := (⟨3, ![a', 256, b]⟩ : Shape)) od (⟨3, ![1, 256, b]⟩ : Shape).size hd) h2).squeeze ⟨2, ![256, b]⟩ hq) (.dma qs) hsc)
            (.dma qr) hsrc hdst hsem) k) Q) := by
  subst hn hqs hqr
  have hpay1 : ∀ f : Buf (Elt F) (((ms.slice (Rect.unit (s := (⟨3, ![a, 256, b]⟩ : Shape)) os (⟨3, ![1, 256, b]⟩ : Shape).size hs) h1).squeeze ⟨2, ![256, b]⟩ hq).view.loc (c : Thread nD τ)), ((((ms.slice (Rect.unit (s := (⟨3, ![a, 256, b]⟩ : Shape)) os (⟨3, ![1, 256, b]⟩ : Shape).size hs) h1).squeeze ⟨2, ![256, b]⟩ hq).view).loc (c : Thread nD τ) ↦[(((ms.slice (Rect.unit (s := (⟨3, ![a, 256, b]⟩ : Shape)) os (⟨3, ![1, 256, b]⟩ : Shape).size hs) h1).squeeze ⟨2, ![256, b]⟩ hq).view).set]{fullShare} (f)) ⊢ (Rd (F := F) m ρ).payload (sC c j) 0 false := fun f => by
    rw [payload_send, hp1]
    unfold some'
    iintro H
    iexists f
    iapply (Entails.of_eq (pts_reshape c _ hq.numel_eq f)); iexact H
  have hpay2 : ∀ (f : Buf (Elt F) (((ms.slice (Rect.unit (s := (⟨3, ![a, 256, b]⟩ : Shape)) os (⟨3, ![1, 256, b]⟩ : Shape).size hs) h1).squeeze ⟨2, ![256, b]⟩ hq).view.loc (c : Thread nD τ))) (fd : Buf (Elt F) (((md.slice (Rect.unit (s := (⟨3, ![a', 256, b]⟩ : Shape)) od (⟨3, ![1, 256, b]⟩ : Shape).size hd) h2).squeeze ⟨2, ![256, b]⟩ hq).view.loc (peer j c : Thread nD τ))),
      (ms.access (Rect.unit (s := (⟨3, ![a, 256, b]⟩ : Shape)) os (⟨3, ![1, 256, b]⟩ : Shape).size hs)).read (Elt F) f = X →
      ((((md.slice (Rect.unit (s := (⟨3, ![a', 256, b]⟩ : Shape)) od (⟨3, ![1, 256, b]⟩ : Shape).size hd) h2).squeeze ⟨2, ![256, b]⟩ hq).view).loc (peer j c : Thread nD τ) ↦[(((md.slice (Rect.unit (s := (⟨3, ![a', 256, b]⟩ : Shape)) od (⟨3, ![1, 256, b]⟩ : Shape).size hd) h2).squeeze ⟨2, ![256, b]⟩ hq).view).set]{fullShare} ((((md.slice (Rect.unit (s := (⟨3, ![a', 256, b]⟩ : Shape)) od (⟨3, ![1, 256, b]⟩ : Shape).size hd) h2).squeeze ⟨2, ![256, b]⟩ hq).view).write (Elt F) fd ((((ms.slice (Rect.unit (s := (⟨3, ![a, 256, b]⟩ : Shape)) os (⟨3, ![1, 256, b]⟩ : Shape).size hs) h1).squeeze ⟨2, ![256, b]⟩ hq).view).read (Elt F) f) Finset.univ)) ⊢ (Rd (F := F) m ρ).payload (rC (peer j c) j) 0 false := fun f fd hf => by
    rw [payload_recv, hp2]
    unfold hold
    iintro H
    iexists _
    isplitr
    swap
    · iapply (Entails.of_eq (pts_reshape (peer j c) _ hq.numel_eq _)); iexact H
    · ipureintro
      exact (read_landed _ _ hq.numel_eq fd f).trans hf
  unfold hold some' ow
  iintro ⟨#HR, ⟨%f, %hf, Hs⟩, ⟨%fd, Hd⟩, ⟨%W, HO⟩, Ht1, Ht2⟩ Hk
  ihave ⟨HI1, Hr1⟩ := (rec_send m ρ K c j) $$ HR
  ihave ⟨HI2, Hr2⟩ := (rec_recv m ρ K (peer j c) j) $$ HR
  iapply (Rounds.wp_send_pointsTo 𝒱₀ ER (Rd m ρ) (c : Thread nD τ) none (κ₁ := K (c, si j)) (κ₂ := K (peer j c, ri j))
      (src := (ms.slice (Rect.unit (s := (⟨3, ![a, 256, b]⟩ : Shape)) os (⟨3, ![1, 256, b]⟩ : Shape).size hs) h1).squeeze ⟨2, ![256, b]⟩ hq)
      (c' := (peer j c : Thread nD τ)) (dst := (md.slice (Rect.unit (s := (⟨3, ![a', 256, b]⟩ : Shape)) od (⟨3, ![1, 256, b]⟩ : Shape).size hd) h2).squeeze ⟨2, ![256, b]⟩ hq)
      (r₁ := 0) (r₂ := 0) (d₁ := false) (d₂ := false) (fs := f) (fd := fd) (q := fullShare)
      (by rw [duties_send]; exact Finset.mem_singleton_self _) (by rw [duties_recv]; exact Finset.mem_singleton_self _)
      (sS := .dma (sS j)) (sem := .dma (rS j)) () () (NN j) hN (amount_send m ρ c j false) (amount_recv m ρ (peer j c) j false) O' hO (W := W) (hpay1 f) (hpay2 f fd hf))
    $$ [HI1 HI2 Hs Hd HO Ht1 Hr1 Ht2 Hr2]
  · isplitl [HI1]; · iexact HI1
    isplitl [HI2]; · iexact HI2
    isplitl [Hs]; · iapply (Entails.of_eq (pts_reshape c _ hq.numel_eq f).symm); iexact Hs
    isplitl [Hd]; · iapply (Entails.of_eq (pts_reshape (peer j c) _ hq.numel_eq fd).symm); iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

end Steps

end Cert.KernelIdeal.Run
-- ==== Proof.IdealRun.PartsBase.lean ====
module

public import proofs.«01_k».proof.Proof.IdealRun.Rules

/-! # What the parts of the body share, and its first two parts -/

@[expose] public section

set_option maxRecDepth 65536

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A device that owes nothing may wait anywhere. -/
theorem mayWait_end (c : Dev nD) (q : DmaSem sig) : (levAts L lv : sProp 𝕄) ⊢ MayWait (c : Thread nD τ) (.dma q) () (Or c 0) := by
  rw [show Or c 0 = 0 from rfl, MayWait_zero]; iintro -; iempintro

/-- The result's two column halves. -/
abbrev o0 : View sig .tc .vmem S256x512 .f32 := (oM : Memref sig .tc .vmem S256x1024 .f32).access (Rect.unit (s := S256x1024) ![0, 0] S256x512.size inb_S256x1024_S256x512_0_0)
abbrev o1 : View sig .tc .vmem S256x512 .f32 := (oM : Memref sig .tc .vmem S256x1024 .f32).access (Rect.unit (s := S256x1024) ![0, 512] S256x512.size inb_S256x1024_S256x512_0_512)

omit [FloatOps F] in
theorem sp0 (c : Dev nD) : (sendPay (F := F) 0 c : sProp 𝕄) ⊢ some' c sq0 := Entails.of_eq rfl
omit [FloatOps F] in
theorem sp1 (c : Dev nD) : (sendPay (F := F) 1 c : sProp 𝕄) ⊢ some' c sq1 := Entails.of_eq rfl
omit [FloatOps F] in
theorem sp2 (c : Dev nD) : (sendPay (F := F) 2 c : sProp 𝕄) ⊢ some' c sq2 := Entails.of_eq rfl
omit [FloatOps F] in
theorem sp3 (c : Dev nD) : (sendPay (F := F) 3 c : sProp 𝕄) ⊢ some' c sq3 := Entails.of_eq rfl
omit [FloatOps F] in
theorem sp4 (c : Dev nD) : (sendPay (F := F) 4 c : sProp 𝕄) ⊢ some' c rq0 := Entails.of_eq rfl
omit [FloatOps F] in
theorem sp5 (c : Dev nD) : (sendPay (F := F) 5 c : sProp 𝕄) ⊢ some' c rq1 := Entails.of_eq rfl
omit [FloatOps F] in
theorem sp6 (c : Dev nD) : (sendPay (F := F) 6 c : sProp 𝕄) ⊢ some' c rq2 := Entails.of_eq rfl
omit [FloatOps F] in
theorem sp7 (c : Dev nD) : (sendPay (F := F) 7 c : sProp 𝕄) ⊢ some' c rq3 := Entails.of_eq rfl
omit [FloatOps F] in
theorem sp8 (c : Dev nD) : (sendPay (F := F) 8 c : sProp 𝕄) ⊢ some' c sh0 := Entails.of_eq rfl
omit [FloatOps F] in
theorem sp9 (c : Dev nD) : (sendPay (F := F) 9 c : sProp 𝕄) ⊢ some' c sh1 := Entails.of_eq rfl
theorem rp0 (c : Dev nD) : (recvPay m ρ 0 c : sProp 𝕄) ⊢ hold c rq0 (A0 m ρ (prv c)) := Entails.of_eq rfl
theorem rp1 (c : Dev nD) : (recvPay m ρ 1 c : sProp 𝕄) ⊢ hold c rq1 (A1 m ρ (prv c)) := Entails.of_eq rfl
theorem rp2 (c : Dev nD) : (recvPay m ρ 2 c : sProp 𝕄) ⊢ hold c rq2 (A2 m ρ (nxt c)) := Entails.of_eq rfl
theorem rp3 (c : Dev nD) : (recvPay m ρ 3 c : sProp 𝕄) ⊢ hold c rq3 (A3 m ρ (nxt c)) := Entails.of_eq rfl
theorem rp4 (c : Dev nD) : (recvPay m ρ 4 c : sProp 𝕄) ⊢ hold c rq4 (T0 m ρ (prv c)) := Entails.of_eq rfl
theorem rp5 (c : Dev nD) : (recvPay m ρ 5 c : sProp 𝕄) ⊢ hold c rq5 (T1 m ρ (prv c)) := Entails.of_eq rfl
theorem rp6 (c : Dev nD) : (recvPay m ρ 6 c : sProp 𝕄) ⊢ hold c rq6 (T2 m ρ (nxt c)) := Entails.of_eq rfl
theorem rp7 (c : Dev nD) : (recvPay m ρ 7 c : sProp 𝕄) ⊢ hold c rq7 (T3 m ρ (nxt c)) := Entails.of_eq rfl
theorem rp8 (c : Dev nD) : (recvPay m ρ 8 c : sProp 𝕄) ⊢ hold c rh0 (H0 m ρ (nxt c)) := Entails.of_eq rfl
theorem rp9 (c : Dev nD) : (recvPay m ρ 9 c : sProp 𝕄) ⊢ hold c rh1 (H1 m ρ (prv c)) := Entails.of_eq rfl
theorem land0 (c : Dev nD) : (recvPay m ρ 0 (peer 0 c) : sProp 𝕄) = hold (peer 0 c) rq0 (A0 m ρ c) := by
  show hold (nxt c) rq0 (A0 m ρ (prv (nxt c))) = hold (nxt c) rq0 (A0 m ρ c)
  rw [prv_nxt]
theorem land1 (c : Dev nD) : (recvPay m ρ 1 (peer 1 c) : sProp 𝕄) = hold (peer 1 c) rq1 (A1 m ρ c) := by
  show hold (nxt c) rq1 (A1 m ρ (prv (nxt c))) = hold (nxt c) rq1 (A1 m ρ c)
  rw [prv_nxt]
theorem land2 (c : Dev nD) : (recvPay m ρ 2 (peer 2 c) : sProp 𝕄) = hold (peer 2 c) rq2 (A2 m ρ c) := by
  show hold (prv c) rq2 (A2 m ρ (nxt (prv c))) = hold (prv c) rq2 (A2 m ρ c)
  rw [nxt_prv]
theorem land3 (c : Dev nD) : (recvPay m ρ 3 (peer 3 c) : sProp 𝕄) = hold (peer 3 c) rq3 (A3 m ρ c) := by
  show hold (prv c) rq3 (A3 m ρ (nxt (prv c))) = hold (prv c) rq3 (A3 m ρ c)
  rw [nxt_prv]
theorem land4 (c : Dev nD) : (recvPay m ρ 4 (peer 4 c) : sProp 𝕄) = hold (peer 4 c) rq4 (T0 m ρ c) := by
  show hold (nxt c) rq4 (T0 m ρ (prv (nxt c))) = hold (nxt c) rq4 (T0 m ρ c)
  rw [prv_nxt]
theorem land5 (c : Dev nD) : (recvPay m ρ 5 (peer 5 c) : sProp 𝕄) = hold (peer 5 c) rq5 (T1 m ρ c) := by
  show hold (nxt c) rq5 (T1 m ρ (prv (nxt c))) = hold (nxt c) rq5 (T1 m ρ c)
  rw [prv_nxt]
theorem land6 (c : Dev nD) : (recvPay m ρ 6 (peer 6 c) : sProp 𝕄) = hold (peer 6 c) rq6 (T2 m ρ c) := by
  show hold (prv c) rq6 (T2 m ρ (nxt (prv c))) = hold (prv c) rq6 (T2 m ρ c)
  rw [nxt_prv]
theorem land7 (c : Dev nD) : (recvPay m ρ 7 (peer 7 c) : sProp 𝕄) = hold (peer 7 c) rq7 (T3 m ρ c) := by
  show hold (prv c) rq7 (T3 m ρ (nxt (prv c))) = hold (prv c) rq7 (T3 m ρ c)
  rw [nxt_prv]
theorem land8 (c : Dev nD) : (recvPay m ρ 8 (peer 8 c) : sProp 𝕄) = hold (peer 8 c) rh0 (H0 m ρ c) := by
  show hold (prv c) rh0 (H0 m ρ (nxt (prv c))) = hold (prv c) rh0 (H0 m ρ c)
  rw [nxt_prv]
theorem land9 (c : Dev nD) : (recvPay m ρ 9 (peer 9 c) : sProp 𝕄) = hold (peer 9 c) rh1 (H1 m ρ c) := by
  show hold (nxt c) rh1 (H1 m ρ (prv (nxt c))) = hold (nxt c) rh1 (H1 m ρ c)
  rw [prv_nxt]
theorem zeros2 : (![0, 0] : Fin 2 → ℕ) = fun _ => 0 := by funext a; fin_cases a <;> rfl

section Parts
variable (K : Dev nD × Fin 21 → ℕ) (c : Dev nD)

theorem run1 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : (Σ' (d0 : Dev nD) (v2 : BitVec 32) (v5 : BitVec 32) (v7 : BitVec 32) (v8 : Sems sig S_), FVec F S1024x16 .f32) → sProp 𝕄} :
    iprop(recs m ρ K ∗ (((c : Thread nD τ).loc cc0_stg0_0) ↦{fullShare} xstg m ρ c) ∗ (((c : Thread nD τ).loc cc0_stg1_0) ↦{fullShare} wstg m ρ c)
        ∗ (((c : Thread nD τ).loc cc0_stg2_0) ↦{fullShare} istg m ρ c) ∗ ow c (O₀ c)
        ∗ dutyTok ER (barC (prv c)) 0 true ∗ dutyTok ER (barC (nxt c)) 0 false
        ∗ (some' c rq0 ∗ some' c rq1 ∗ some' c rq4 ∗ some' c rq5 ∗ some' c rh1)
        ∗ (some' c rq2 ∗ some' c rq3 ∗ some' c rq6 ∗ some' c rq7 ∗ some' c rh0))
      ⊢ iprop(((((c : Thread nD τ).loc cc0_stg0_0) ↦{fullShare} xstg m ρ c) ∗ (((c : Thread nD τ).loc cc0_stg1_0) ↦{fullShare} wstg m ρ c)
        ∗ (((c : Thread nD τ).loc cc0_stg2_0) ↦{fullShare} istg m ρ c) ∗ ow c (Or c 10)
          -∗ Q ⟨c, v2 c, Scalar.remsi (Scalar.subi (Scalar.addi (v2 c) 4#32) 1#32) 4#32, Scalar.remsi (Scalar.addi (v2 c) 1#32) 4#32,
            (SemArray.scalar (sig.barrier 0 rfl) : Sems sig S_), k0_pay2 (xstg m ρ c) (wstg m ρ c) (istg m ρ c)⟩)
        -∗ wpc c (k0_part1 (F := F) xM hx wM hw iM hi eM he oM ho gM hg sqM hsq shM hsh rqM hrq rhM hrh cc0_scratch5 cc0_scratch6) Q) := by
  rw [k0_part1_eq_skeleton]
  unfold k0_part1_skel
  simp only [semSignalWord, Prog.lift, Prog.bind_op, Prog.bind_ret, Prog.pure_eq_ret, wp_deviceId]
  iintro ⟨#HR, Hx, Hw, Hi, O, T1, T2, S1, S2⟩ Hk
  iapply (sig_prv m ρ K c (dev1_eq c)) $$ [HR O T1 S1]
  · isplitr; · iexact HR
    isplitl [O]; · iexact O
    isplitl [T1]; · iexact T1
    iexact S1
  iintro O
  iapply (sig_nxt m ρ K c (dev2_eq c)) $$ [HR O T2 S2]
  · isplitr; · iexact HR
    isplitl [O]; · iexact O
    isplitl [T2]; · iexact T2
    iexact S2
  iintro O
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := iM) (Finset.subset_univ _)) $$ Hi; iintro Hi
  rw [show (xM : Memref sig .tc .vmem S1024x512 .f32).view.readAt (Elt F) (Rect.unit (s := S1024x512) ![0, 0] S1024x512.size inb_S1024x512_S1024x512_0_0).toLoadRect (xstg m ρ c) = xstg m ρ c
      from Memref.readAt_unit_zero (Elt F) cc0_stg0_0 zeros2 _ _]
  rw [show (wM : Memref sig .tc .vmem S512x16 .f32).view.readAt (Elt F) (Rect.unit (s := S512x16) ![0, 0] S512x16.size inb_S512x16_S512x16_0_0).toLoadRect (wstg m ρ c) = wstg m ρ c
      from Memref.readAt_unit_zero (Elt F) cc0_stg1_0 zeros2 _ _]
  rw [show (iM : Memref sig .tc .vmem S1024x2 .i32).view.readAt (Elt F) (Rect.unit (s := S1024x2) ![0, 0] S1024x2.size inb_S1024x2_S1024x2_0_0).toLoadRect (istg m ρ c) = istg m ρ c
      from Memref.readAt_unit_zero (Elt F) cc0_stg2_0 zeros2 _ _]
  iapply (wpc_ret c _)
  iapply Hk
  isplitl [Hx]; · iexact Hx
  isplitl [Hw]; · iexact Hw
  isplitl [Hi]; · iexact Hi
  iexact O

theorem run2 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : (Σ' (v43 : BitVec 32) (v45 : BitVec 32) (v47 : BitVec 32) (v51 : FVec F S256x512 .f32) (v53 : Vec F S256x16 .f32) (v54 : IVec S256x16 32) (v69 : FVec F S256x256 .f32) (v70 : BitVec 32), BitVec 32) → sProp 𝕄}
    (g₀ : (cc0_scratch0 : Ref sig .tc).ty.Contents (Elt F)) :
    iprop((((c : Thread nD τ).loc cc0_stg0_0) ↦{fullShare} xstg m ρ c) ∗ (((c : Thread nD τ).loc cc0_scratch0) ↦{fullShare} g₀)
        ∗ (((c : Thread nD τ).loc cc0_stg3_0) ↦{fullShare} estg m ρ c))
      ⊢ iprop((env m ρ c
          -∗ Q ⟨Scalar.remsi (Scalar.addi (v2 c) 1#32) 4#32, Scalar.remsi (Scalar.addi (v2 c) 2#32) 4#32, Scalar.remsi (Scalar.addi (v2 c) 3#32) 4#32,
            k0_pay4 (X2 m ρ c), G2 m ρ c, io, k0_pay5 (v2 c) (X2 m ρ c) (G2 m ρ c) (Q0_0 m ρ c), Scalar.muli (v2 c) 4#32, 1#32⟩)
        -∗ wpc c (k0_part2 (F := F) xM hx wM hw iM hi eM he oM ho gM hg sqM hsq shM hsh rqM hrq rhM hrh cc0_scratch5 cc0_scratch6 c (v2 c) (k0_pay2 (xstg m ρ c) (wstg m ρ c) (istg m ρ c))) Q) := by
  rw [k0_part2_eq_skeleton]
  unfold k0_part2_skel
  simp only [Prog.lift, Prog.bind_op, Prog.bind_ret, Prog.pure_eq_ret]
  iintro ⟨Hx, Hg, He⟩ Hk
  iapply (wp_load 𝒱₀ (c : Thread nD τ) none Set.univ (m := gM) (Finset.subset_univ _)) $$ Hg; iintro Hg
  iapply (wp_store 𝒱₀ (c : Thread nD τ) none Set.univ (m := gM) (r := Rect.unit (s := S1024x16) ![0, 0] S1024x16.size inb_S1024x16_S1024x16_0_0) (S := Finset.univ) (f := g₀) (Finset.subset_univ _)) $$ Hg; iintro Hg
  rw [show ((gM : Memref sig .tc .vmem S1024x16 .f32).access (Rect.unit (s := S1024x16) ![0, 0] S1024x16.size inb_S1024x16_S1024x16_0_0)).write (Elt F) g₀
      (k0_pay3 (k0_pay2 (xstg m ρ c) (wstg m ρ c) (istg m ρ c))) Finset.univ = gates m ρ c
      from Memref.write_access_unit_zero_univ (Elt F) cc0_scratch0 zeros2 _ _ _]
  ihave E := (show iprop((((c : Thread nD τ).loc cc0_stg0_0) ↦{fullShare} xstg m ρ c) ∗ (((c : Thread nD τ).loc cc0_scratch0) ↦{fullShare} gates m ρ c)
    ∗ (((c : Thread nD τ).loc cc0_stg3_0) ↦{fullShare} estg m ρ c)) ⊢ env m ρ c from Entails.of_eq rfl) $$ [Hx Hg He]
  · isplitl [Hx]; · iexact Hx
    isplitl [Hg]; · iexact Hg
    iexact He
  iapply (ld_x m ρ c _) $$ E; iintro E
  iapply (ld_g m ρ c _) $$ E; iintro E
  iapply (ld_e m ρ c _) $$ E; iintro E
  iapply (wpc_ret c _)
  iapply Hk
  iexact E

end Parts

end Cert.KernelIdeal.Run
-- ==== Proof.IdealRun.PartsA.lean ====
module

public import proofs.«01_k».proof.Proof.IdealRun.PartsBase

/-! # The parts of the body, 3 to 17 -/

@[expose] public section

set_option maxRecDepth 65536

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 21 → ℕ) (c : Dev nD)

theorem run3 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v97 : FVec F S256x256 .f32) (v105 : FVec F S256x1 .f32), FVec F S256x256 .f32)) → sProp 𝕄} :
    iprop(recs m ρ K ∗ levAts L lv ∗ env m ρ c)
      ⊢ iprop((env m ρ c -∗ Q ⟨k0_pay6 (v2 c) (k0_pay4 (X2 m ρ c)) (G2 m ρ c) io (k0_pay5 (v2 c) (X2 m ρ c) (G2 m ρ c) (Q0_0 m ρ c)) (Scalar.muli (v2 c) 4#32) 1#32 (Q1_0 m ρ c) (Q2_0 m ρ c), k0_pay7 (v2 c) (G2 m ρ c) io, k0_pay8 (k0_pay4 (X2 m ρ c)) (Q3_0 m ρ c)⟩)
        -∗ wpc c (k0_part3 (F := F) xM hx wM hw iM hi eM he oM ho gM hg sqM hsq shM hsh rqM hrq rhM hrh cc0_scratch5 cc0_scratch6 (v2 c) (k0_pay4 (X2 m ρ c)) (G2 m ρ c) io (k0_pay5 (v2 c) (X2 m ρ c) (G2 m ρ c) (Q0_0 m ρ c)) (Scalar.muli (v2 c) 4#32) 1#32) Q) := by
  rw [k0_part3_eq_skeleton]
  unfold k0_part3_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run4 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v129 : FVec F S256x512 .f32) (v131 : Vec F S256x16 .f32) (v132 : IVec S256x16 32) (v133 : FVec F S256x256 .f32), FVec F S256x1 .f32)) → sProp 𝕄} :
    iprop(recs m ρ K ∗ levAts L lv ∗ some' c sq0 ∗ ow c (Or c 10) ∗ cred (tallyAt (barC c) () 2) ∗ atPos ER (barC c) 0 ∅ 0 ∗ dutyTok ER (sC c 0) 0 false ∗ dutyTok ER (rC (peer 0 c) 0) 0 false ∗ env m ρ c)
      ⊢ iprop((ow c (Or c 9) ∗ some' (nxt c) rq1 ∗ some' (prv c) rq2 ∗ some' (prv c) rq3 ∗ some' (nxt c) rq4 ∗ some' (nxt c) rq5 ∗ some' (prv c) rq6 ∗ some' (prv c) rq7 ∗ some' (prv c) rh0 ∗ some' (nxt c) rh1 ∗ semVal (barC c) 0 ∗ cred (tallyAt (sC c 0) () (NN 0)) ∗ env m ρ c -∗ Q ⟨k0_pay10 (X2 m ρ c), (G2 m ρ c), io, k0_pay11 (F := F), k0_pay12 (v2 c) (G2 m ρ c)⟩)
        -∗ wpc c (k0_part4 (F := F) xM hx wM hw iM hi eM he oM ho gM hg sqM hsq shM hsh rqM hrq rhM hrh cc0_scratch5 cc0_scratch6 c (v2 c) (Scalar.remsi (Scalar.addi (v2 c) 1#32) 4#32) ((SemArray.scalar (sig.barrier 0 rfl) : Sems sig S_)) (Scalar.remsi (Scalar.addi (v2 c) 2#32) 4#32) (k0_pay6 (v2 c) (k0_pay4 (X2 m ρ c)) (G2 m ρ c) io (k0_pay5 (v2 c) (X2 m ρ c) (G2 m ρ c) (Q0_0 m ρ c)) (Scalar.muli (v2 c) 4#32) 1#32 (Q1_0 m ρ c) (Q2_0 m ρ c)) (k0_pay7 (v2 c) (G2 m ρ c) io) (k0_pay8 (k0_pay4 (X2 m ρ c)) (Q3_0 m ρ c))) Q) := by
  rw [k0_part4_eq_skeleton]
  unfold k0_part4_skel
  simp only [semWaitWord, Prog.lift, Prog.bind_op, Prog.bind_ret, Prog.pure_eq_ret]
  iintro ⟨#HR, #HL, sq0, O, cb, ab, ts0, tr0, E⟩ Hk
  iapply (ld_some c sqM _) $$ sq0; iintro sq0
  iapply (st_some c sqM _ (A0 m ρ c)) $$ sq0; iintro sq0
  iapply (wait_bar m ρ K c) $$ [HR HL O cb ab]
  · isplitr; · iexact HR
    isplitr; · iexact HL
    isplitl [O]; · iexact O
    isplitl [cb]; · iexact cb
    iexact ab
  iintro ⟨O, pF, pT, vb⟩
  unfold barPayF barPayT
  icases pT with ⟨p0, p1, p4, p5, p9⟩
  icases pF with ⟨p2, p3, p6, p7, p8⟩
  iapply (copy m ρ K c (os := ![0, 0, 0]) (od := ![0, 0, 0]) 0 sqM rqM (dev3_eq c) sem_s0 sem_r0 (A0 m ρ c) rfl (Or c 10) (Or c 9) rfl rfl (land0 m ρ c)) $$ [HR sq0 p0 O ts0 tr0]
  · isplitr; · iexact HR
    isplitl [sq0]; · iexact sq0
    isplitl [p0]; · iexact p0
    isplitl [O]; · iexact O
    isplitl [ts0]; · iexact ts0
    iexact tr0
  iintro ⟨cs0, O⟩
  iapply (ld_x m ρ c _) $$ E; iintro E
  iapply (ld_g m ρ c _) $$ E; iintro E
  iapply (wpc_ret c _)
  iapply Hk
  isplitl [O]; · iexact O
  isplitl [p1]; · iexact p1
  isplitl [p2]; · iexact p2
  isplitl [p3]; · iexact p3
  isplitl [p4]; · iexact p4
  isplitl [p5]; · iexact p5
  isplitl [p6]; · iexact p6
  isplitl [p7]; · iexact p7
  isplitl [p8]; · iexact p8
  isplitl [p9]; · iexact p9
  isplitl [vb]; · iexact vb
  isplitl [cs0]; · iexact cs0
  iexact E

theorem run5 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v175 : FVec F S256x256 .f32) (v179 : IVec S256x16 1), F .f32)) → sProp 𝕄} :
    iprop(recs m ρ K ∗ levAts L lv ∗ env m ρ c)
      ⊢ iprop((env m ρ c -∗ Q ⟨k0_pay13 (v2 c) (k0_pay10 (X2 m ρ c)) ((G2 m ρ c)) io (k0_pay11 (F := F)) (k0_pay12 (v2 c) (G2 m ρ c)) (Q0_256 m ρ c) (Q1_256 m ρ c) (Q2_256 m ρ c), k0_pay14 (v2 c) io, (Scalar.ofBits .f32 0x00000000#32)⟩)
        -∗ wpc c (k0_part5 (F := F) xM hx wM hw iM hi eM he oM ho gM hg sqM hsq shM hsh rqM hrq rhM hrh cc0_scratch5 cc0_scratch6 (v2 c) (k0_pay10 (X2 m ρ c)) ((G2 m ρ c)) io (k0_pay11 (F := F)) (k0_pay12 (v2 c) (G2 m ρ c))) Q) := by
  rw [k0_part5_eq_skeleton]
  unfold k0_part5_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run6 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v207 : FVec F S256x512 .f32) (v209 : Vec F S256x16 .f32) (v210 : IVec S256x16 32) (v211 : FVec F S256x256 .f32), BitVec 32)) → sProp 𝕄} :
    iprop(recs m ρ K ∗ levAts L lv ∗ env m ρ c ∗ some' c sq1 ∗ ow c (Or c 9) ∗ some' (nxt c) rq1 ∗ dutyTok ER (sC c 1) 0 false ∗ dutyTok ER (rC (peer 1 c) 1) 0 false)
      ⊢ iprop((env m ρ c ∗ ow c (Or c 8) ∗ cred (tallyAt (sC c 1) () (NN 1)) -∗ Q ⟨k0_pay16 (X2 m ρ c), (G2 m ρ c), io, k0_pay17 (F := F), (Scalar.addi (Scalar.muli (v2 c) 4#32) 0#32)⟩)
        -∗ wpc c (k0_part6 (F := F) xM hx wM hw iM hi eM he oM ho gM hg sqM hsq shM hsh rqM hrq rhM hrh cc0_scratch5 cc0_scratch6 c (v2 c) (Scalar.remsi (Scalar.addi (v2 c) 1#32) 4#32) (Scalar.remsi (Scalar.addi (v2 c) 2#32) 4#32) (k0_pay10 (X2 m ρ c)) ((G2 m ρ c)) (k0_pay13 (v2 c) (k0_pay10 (X2 m ρ c)) ((G2 m ρ c)) io (k0_pay11 (F := F)) (k0_pay12 (v2 c) (G2 m ρ c)) (Q0_256 m ρ c) (Q1_256 m ρ c) (Q2_256 m ρ c)) (k0_pay14 (v2 c) io) ((Scalar.ofBits .f32 0x00000000#32))) Q) := by
  rw [k0_part6_eq_skeleton]
  unfold k0_part6_skel
  simp only [semWaitWord, Prog.lift, Prog.bind_op, Prog.bind_ret, Prog.pure_eq_ret]
  iintro ⟨#HR, #HL, E, sq1, O, p1, ts1, tr1⟩ Hk
  iapply (ld_e m ρ c _) $$ E; iintro E
  iapply (ld_some c sqM _) $$ sq1; iintro sq1
  iapply (st_some c sqM _ (A1 m ρ c)) $$ sq1; iintro sq1
  iapply (copy m ρ K c (os := ![1, 0, 0]) (od := ![1, 0, 0]) 1 sqM rqM (dev4_eq c) sem_s1 sem_r1 (A1 m ρ c) rfl (Or c 9) (Or c 8) rfl rfl (land1 m ρ c)) $$ [HR sq1 p1 O ts1 tr1]
  · isplitr; · iexact HR
    isplitl [sq1]; · iexact sq1
    isplitl [p1]; · iexact p1
    isplitl [O]; · iexact O
    isplitl [ts1]; · iexact ts1
    iexact tr1
  iintro ⟨cs1, O⟩
  iapply (ld_x m ρ c _) $$ E; iintro E
  iapply (ld_g m ρ c _) $$ E; iintro E
  iapply (wpc_ret c _)
  iapply Hk
  isplitl [E]; · iexact E
  isplitl [O]; · iexact O
  iexact cs1

theorem run7 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v239 : FVec F S256x256 .f32) (v250 : FVec F S256x256 .f32), FVec F S256x256 .f32)) → sProp 𝕄} :
    iprop(recs m ρ K ∗ levAts L lv ∗ env m ρ c)
      ⊢ iprop((env m ρ c -∗ Q ⟨k0_pay18 (v2 c) (k0_pay16 (X2 m ρ c)) ((G2 m ρ c)) io (k0_pay17 (F := F)) ((Scalar.addi (Scalar.muli (v2 c) 4#32) 0#32)) (Q0_512 m ρ c) (Q1_512 m ρ c), k0_pay19 (k0_pay16 (X2 m ρ c)) (Q2_512 m ρ c), k0_pay20 (v2 c) ((G2 m ρ c)) io⟩)
        -∗ wpc c (k0_part7 (F := F) xM hx wM hw iM hi eM he oM ho gM hg sqM hsq shM hsh rqM hrq rhM hrh cc0_scratch5 cc0_scratch6 (v2 c) (k0_pay16 (X2 m ρ c)) ((G2 m ρ c)) io (k0_pay17 (F := F)) ((Scalar.addi (Scalar.muli (v2 c) 4#32) 0#32))) Q) := by
  rw [k0_part7_eq_skeleton]
  unfold k0_part7_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run8 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((FVec F S256x512 .f32)) → sProp 𝕄} :
    iprop(recs m ρ K ∗ levAts L lv ∗ env m ρ c ∗ some' c sq2 ∗ ow c (Or c 8) ∗ some' (prv c) rq2 ∗ dutyTok ER (sC c 2) 0 false ∗ dutyTok ER (rC (peer 2 c) 2) 0 false)
      ⊢ iprop((env m ρ c ∗ ow c (Or c 7) ∗ cred (tallyAt (sC c 2) () (NN 2)) -∗ Q (k0_pay22 (X2 m ρ c)))
        -∗ wpc c (k0_part8 (F := F) xM hx wM hw iM hi eM he oM ho gM hg sqM hsq shM hsh rqM hrq rhM hrh cc0_scratch5 cc0_scratch6 c (v2 c) (Scalar.remsi (Scalar.subi (Scalar.addi (v2 c) 4#32) 1#32) 4#32) (Scalar.remsi (Scalar.addi (v2 c) 2#32) 4#32) (k0_pay16 (X2 m ρ c)) ((G2 m ρ c)) io (k0_pay18 (v2 c) (k0_pay16 (X2 m ρ c)) ((G2 m ρ c)) io (k0_pay17 (F := F)) ((Scalar.addi (Scalar.muli (v2 c) 4#32) 0#32)) (Q0_512 m ρ c) (Q1_512 m ρ c)) (k0_pay19 (k0_pay16 (X2 m ρ c)) (Q2_512 m ρ c)) (k0_pay20 (v2 c) ((G2 m ρ c)) io)) Q) := by
  rw [k0_part8_eq_skeleton]
  unfold k0_part8_skel
  simp only [semWaitWord, Prog.lift, Prog.bind_op, Prog.bind_ret, Prog.pure_eq_ret]
  iintro ⟨#HR, #HL, E, sq2, O, p2, ts2, tr2⟩ Hk
  iapply (ld_e m ρ c _) $$ E; iintro E
  iapply (ld_some c sqM _) $$ sq2; iintro sq2
  iapply (st_some c sqM _ (A2 m ρ c)) $$ sq2; iintro sq2
  iapply (copy m ρ K c (os := ![2, 0, 0]) (od := ![2, 0, 0]) 2 sqM rqM (dev5_eq c) sem_s2 sem_r2 (A2 m ρ c) rfl (Or c 8) (Or c 7) rfl rfl (land2 m ρ c)) $$ [HR sq2 p2 O ts2 tr2]
  · isplitr; · iexact HR
    isplitl [sq2]; · iexact sq2
    isplitl [p2]; · iexact p2
    isplitl [O]; · iexact O
    isplitl [ts2]; · iexact ts2
    iexact tr2
  iintro ⟨cs2, O⟩
  iapply (ld_x m ρ c _) $$ E; iintro E
  iapply (wpc_ret c _)
  iapply Hk
  isplitl [E]; · iexact E
  isplitl [O]; · iexact O
  iexact cs2

theorem run9 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v287 : Vec F S256x16 .f32) (v288 : IVec S256x16 32) (v317 : FVec F S256x256 .f32), FVec F S256 .f32)) → sProp 𝕄} :
    iprop(recs m ρ K ∗ levAts L lv ∗ env m ρ c)
      ⊢ iprop((env m ρ c -∗ Q ⟨(G2 m ρ c), io, k0_pay23 (v2 c) (k0_pay22 (X2 m ρ c)) (G2 m ρ c) (Q0_768 m ρ c) (Q1_768 m ρ c), k0_pay24 (v2 c) (G2 m ρ c)⟩)
        -∗ wpc c (k0_part9 (F := F) xM hx wM hw iM hi eM he oM ho gM hg sqM hsq shM hsh rqM hrq rhM hrh cc0_scratch5 cc0_scratch6 c (v2 c) (k0_pay22 (X2 m ρ c))) Q) := by
  rw [k0_part9_eq_skeleton]
  unfold k0_part9_skel
  simp only [semWaitWord, Prog.lift, Prog.bind_op, Prog.bind_ret, Prog.pure_eq_ret]
  iintro ⟨#HR, #HL, E⟩ Hk
  iapply (ld_g m ρ c _) $$ E; iintro E
  iapply (ld_e m ρ c _) $$ E; iintro E
  iapply (ld_e m ρ c _) $$ E; iintro E
  iapply (wpc_ret c _)
  iapply Hk
  iexact E

theorem run10 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((PUnit)) → sProp 𝕄} :
    iprop(recs m ρ K ∗ levAts L lv ∗ env m ρ c ∗ some' c sq3)
      ⊢ iprop((env m ρ c ∗ hold c sq3 (A3 m ρ c) -∗ Q PUnit.unit)
        -∗ wpc c (k0_part10 (F := F) xM hx wM hw iM hi eM he oM ho gM hg sqM hsq shM hsh rqM hrq rhM hrh cc0_scratch5 cc0_scratch6 (v2 c) (Scalar.remsi (Scalar.subi (Scalar.addi (v2 c) 4#32) 1#32) 4#32) (k0_pay22 (X2 m ρ c)) ((G2 m ρ c)) io (k0_pay23 (v2 c) (k0_pay22 (X2 m ρ c)) (G2 m ρ c) (Q0_768 m ρ c) (Q1_768 m ρ c)) (k0_pay24 (v2 c) (G2 m ρ c))) Q) := by
  rw [k0_part10_eq_skeleton]
  unfold k0_part10_skel
  simp only [semWaitWord, Prog.lift, Prog.bind_op, Prog.bind_ret, Prog.pure_eq_ret]
  iintro ⟨#HR, #HL, E, sq3⟩ Hk
  iapply (ld_e m ρ c _) $$ E; iintro E
  iapply (ld_e m ρ c _) $$ E; iintro E
  iapply (ld_some c sqM _) $$ sq3; iintro sq3
  iapply (st_some c sqM _ (A3 m ρ c)) $$ sq3; iintro sq3
  iapply (wpc_ret c _)
  iapply Hk
  isplitl [E]; · iexact E
  iexact sq3

theorem run11 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v363 : FVec F S256x512 .f32) (v365 : Vec F S256x16 .f32) (v366 : IVec S256x16 32) (v395 : FVec F S256x256 .f32), BitVec 32)) → sProp 𝕄} :
    iprop(recs m ρ K ∗ levAts L lv ∗ ow c (Or c 7) ∗ hold c sq3 (A3 m ρ c) ∗ some' (prv c) rq3 ∗ dutyTok ER (sC c 3) 0 false ∗ dutyTok ER (rC (peer 3 c) 3) 0 false ∗ env m ρ c)
      ⊢ iprop((ow c (Or c 6) ∗ cred (tallyAt (sC c 3) () (NN 3)) ∗ env m ρ c -∗ Q ⟨k0_pay26 (X1 m ρ c), (G1 m ρ c), io, k0_pay27 (v2 c) (X1 m ρ c) (G1 m ρ c) (Q0_0 m ρ c) (Q1_0 m ρ c), (Scalar.muli (v2 c) 4#32)⟩)
        -∗ wpc c (k0_part11 (F := F) xM hx wM hw iM hi eM he oM ho gM hg sqM hsq shM hsh rqM hrq rhM hrh cc0_scratch5 cc0_scratch6 c (v2 c) (Scalar.remsi (Scalar.addi (v2 c) 1#32) 4#32)) Q) := by
  rw [k0_part11_eq_skeleton]
  unfold k0_part11_skel
  simp only [semWaitWord, Prog.lift, Prog.bind_op, Prog.bind_ret, Prog.pure_eq_ret]
  iintro ⟨#HR, #HL, O, sq3, p3, ts3, tr3, E⟩ Hk
  iapply (copy m ρ K c (os := ![3, 0, 0]) (od := ![3, 0, 0]) 3 sqM rqM (dev6_eq c) sem_s3 sem_r3 (A3 m ρ c) rfl (Or c 7) (Or c 6) rfl rfl (land3 m ρ c)) $$ [HR sq3 p3 O ts3 tr3]
  · isplitr; · iexact HR
    isplitl [sq3]; · iexact sq3
    isplitl [p3]; · iexact p3
    isplitl [O]; · iexact O
    isplitl [ts3]; · iexact ts3
    iexact tr3
  iintro ⟨cs3, O⟩
  iapply (ld_x m ρ c _) $$ E; iintro E
  iapply (ld_g m ρ c _) $$ E; iintro E
  iapply (ld_e m ρ c _) $$ E; iintro E
  iapply (ld_e m ρ c _) $$ E; iintro E
  iapply (wpc_ret c _)
  iapply Hk
  isplitl [O]; · iexact O
  isplitl [cs3]; · iexact cs3
  iexact E

theorem run12 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v423 : FVec F S256x256 .f32) (v427 : FVec F S256x512 .f32) (v429 : Vec F S256x16 .f32) (v430 : IVec S256x16 32) (v431 : FVec F S256x256 .f32), IVec S256x16 1)) → sProp 𝕄} :
    iprop(recs m ρ K ∗ levAts L lv ∗ env m ρ c)
      ⊢ iprop((env m ρ c -∗ Q ⟨k0_pay28 (v2 c) (k0_pay26 (X1 m ρ c)) ((G1 m ρ c)) io (k0_pay27 (v2 c) (X1 m ρ c) (G1 m ρ c) (Q0_0 m ρ c) (Q1_0 m ρ c)) ((Scalar.muli (v2 c) 4#32)) (Q2_0 m ρ c) (Q3_0 m ρ c), k0_pay29 (X1 m ρ c), (G1 m ρ c), io, k0_pay30 (F := F), k0_pay31 (v2 c)⟩)
        -∗ wpc c (k0_part12 (F := F) xM hx wM hw iM hi eM he oM ho gM hg sqM hsq shM hsh rqM hrq rhM hrh cc0_scratch5 cc0_scratch6 c (v2 c) (Scalar.remsi (Scalar.addi (v2 c) 1#32) 4#32) (k0_pay26 (X1 m ρ c)) ((G1 m ρ c)) io (k0_pay27 (v2 c) (X1 m ρ c) (G1 m ρ c) (Q0_0 m ρ c) (Q1_0 m ρ c)) ((Scalar.muli (v2 c) 4#32))) Q) := by
  rw [k0_part12_eq_skeleton]
  unfold k0_part12_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_x m ρ c _) $$ E; iintro E
  iapply (ld_g m ρ c _) $$ E; iintro E
  iapply (wpc_ret c _)
  iapply Hk
  iexact E

theorem run13 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((FVec F S256x256 .f32)) → sProp 𝕄} :
    iprop(recs m ρ K ∗ levAts L lv ∗ env m ρ c)
      ⊢ iprop((env m ρ c -∗ Q (k0_pay32 (v2 c) (k0_pay29 (X1 m ρ c)) ((G1 m ρ c)) io (k0_pay30 (F := F)) (k0_pay31 (v2 c)) (Q0_256 m ρ c) (Q1_256 m ρ c) (Q2_256 m ρ c)))
        -∗ wpc c (k0_part13 (F := F) xM hx wM hw iM hi eM he oM ho gM hg sqM hsq shM hsh rqM hrq rhM hrh cc0_scratch5 cc0_scratch6 (v2 c) (k0_pay29 (X1 m ρ c)) ((G1 m ρ c)) io (k0_pay30 (F := F)) (k0_pay31 (v2 c))) Q) := by
  rw [k0_part13_eq_skeleton]
  unfold k0_part13_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run14 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v487 : FVec F S256x256 .f32) (v491 : FVec F S256x512 .f32) (v493 : Vec F S256x16 .f32) (v494 : IVec S256x16 32) (v509 : FVec F S256x256 .f32), BitVec 32)) → sProp 𝕄} :
    iprop(recs m ρ K ∗ levAts L lv ∗ env m ρ c)
      ⊢ iprop((env m ρ c -∗ Q ⟨k0_pay33 (v2 c) (k0_pay29 (X1 m ρ c)) ((G1 m ρ c)) io (k0_pay32 (v2 c) (k0_pay29 (X1 m ρ c)) ((G1 m ρ c)) io (k0_pay30 (F := F)) (k0_pay31 (v2 c)) (Q0_256 m ρ c) (Q1_256 m ρ c) (Q2_256 m ρ c)) (Q3_256 m ρ c), k0_pay34 (X3 m ρ c), (G3 m ρ c), io, k0_pay35 (v2 c) (X3 m ρ c) (G3 m ρ c) (Q0_512 m ρ c), (Scalar.addi (Scalar.muli (v2 c) 4#32) 1#32)⟩)
        -∗ wpc c (k0_part14 (F := F) xM hx wM hw iM hi eM he oM ho gM hg sqM hsq shM hsh rqM hrq rhM hrh cc0_scratch5 cc0_scratch6 c (v2 c) (Scalar.remsi (Scalar.addi (v2 c) 3#32) 4#32) (k0_pay29 (X1 m ρ c)) ((G1 m ρ c)) io (k0_pay32 (v2 c) (k0_pay29 (X1 m ρ c)) ((G1 m ρ c)) io (k0_pay30 (F := F)) (k0_pay31 (v2 c)) (Q0_256 m ρ c) (Q1_256 m ρ c) (Q2_256 m ρ c))) Q) := by
  rw [k0_part14_eq_skeleton]
  unfold k0_part14_skel
  simp only [semWaitWord, Prog.lift, Prog.bind_op, Prog.bind_ret, Prog.pure_eq_ret]
  iintro ⟨#HR, #HL, E⟩ Hk
  iapply (ld_e m ρ c _) $$ E; iintro E
  iapply (ld_x m ρ c _) $$ E; iintro E
  iapply (ld_g m ρ c _) $$ E; iintro E
  iapply (ld_e m ρ c _) $$ E; iintro E
  iapply (wpc_ret c _)
  iapply Hk
  iexact E

theorem run15 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v537 : FVec F S256x256 .f32) (v548 : FVec F S256x256 .f32), FVec F S256x256 .f32)) → sProp 𝕄} :
    iprop(recs m ρ K ∗ levAts L lv ∗ env m ρ c)
      ⊢ iprop((env m ρ c -∗ Q ⟨k0_pay36 (v2 c) (k0_pay34 (X3 m ρ c)) ((G3 m ρ c)) io (k0_pay35 (v2 c) (X3 m ρ c) (G3 m ρ c) (Q0_512 m ρ c)) ((Scalar.addi (Scalar.muli (v2 c) 4#32) 1#32)) (Q1_512 m ρ c) (Q2_512 m ρ c), k0_pay37 (k0_pay34 (X3 m ρ c)) (Q3_512 m ρ c), k0_pay38 (v2 c) ((G3 m ρ c)) io⟩)
        -∗ wpc c (k0_part15 (F := F) xM hx wM hw iM hi eM he oM ho gM hg sqM hsq shM hsh rqM hrq rhM hrh cc0_scratch5 cc0_scratch6 (v2 c) (k0_pay34 (X3 m ρ c)) ((G3 m ρ c)) io (k0_pay35 (v2 c) (X3 m ρ c) (G3 m ρ c) (Q0_512 m ρ c)) ((Scalar.addi (Scalar.muli (v2 c) 4#32) 1#32))) Q) := by
  rw [k0_part15_eq_skeleton]
  unfold k0_part15_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run16 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v551 : FVec F S256x256 .f32) (v555 : FVec F S256x512 .f32) (v557 : Vec F S256x16 .f32) (v558 : IVec S256x16 32) (v587 : FVec F S256x256 .f32), BitVec 32)) → sProp 𝕄} :
    iprop(recs m ρ K ∗ levAts L lv ∗ env m ρ c)
      ⊢ iprop((env m ρ c -∗ Q ⟨k0_pay39 (k0_pay36 (v2 c) (k0_pay34 (X3 m ρ c)) ((G3 m ρ c)) io (k0_pay35 (v2 c) (X3 m ρ c) (G3 m ρ c) (Q0_512 m ρ c)) ((Scalar.addi (Scalar.muli (v2 c) 4#32) 1#32)) (Q1_512 m ρ c) (Q2_512 m ρ c)) (k0_pay37 (k0_pay34 (X3 m ρ c)) (Q3_512 m ρ c)) (k0_pay38 (v2 c) ((G3 m ρ c)) io), k0_pay40 (X3 m ρ c), (G3 m ρ c), io, k0_pay41 (v2 c) (X3 m ρ c) (G3 m ρ c) (Q0_768 m ρ c) (Q1_768 m ρ c), (Scalar.muli (v2 c) 4#32)⟩)
        -∗ wpc c (k0_part16 (F := F) xM hx wM hw iM hi eM he oM ho gM hg sqM hsq shM hsh rqM hrq rhM hrh cc0_scratch5 cc0_scratch6 c (v2 c) (Scalar.remsi (Scalar.addi (v2 c) 3#32) 4#32) (k0_pay36 (v2 c) (k0_pay34 (X3 m ρ c)) ((G3 m ρ c)) io (k0_pay35 (v2 c) (X3 m ρ c) (G3 m ρ c) (Q0_512 m ρ c)) ((Scalar.addi (Scalar.muli (v2 c) 4#32) 1#32)) (Q1_512 m ρ c) (Q2_512 m ρ c)) (k0_pay37 (k0_pay34 (X3 m ρ c)) (Q3_512 m ρ c)) (k0_pay38 (v2 c) ((G3 m ρ c)) io)) Q) := by
  rw [k0_part16_eq_skeleton]
  unfold k0_part16_skel
  simp only [semWaitWord, Prog.lift, Prog.bind_op, Prog.bind_ret, Prog.pure_eq_ret]
  iintro ⟨#HR, #HL, E⟩ Hk
  iapply (ld_x m ρ c _) $$ E; iintro E
  iapply (ld_g m ρ c _) $$ E; iintro E
  iapply (ld_e m ρ c _) $$ E; iintro E
  iapply (ld_e m ρ c _) $$ E; iintro E
  iapply (wpc_ret c _)
  iapply Hk
  iexact E

theorem run17 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((FVec F S256x256 .f32)) → sProp 𝕄} :
    iprop(recs m ρ K ∗ levAts L lv ∗ env m ρ c ∗ ow c (Or c 6) ∗ cred (tallyAt (sC c 0) () (NN 0)) ∗ atPos ER (sC c 0) 0 ∅ 0)
      ⊢ iprop((env m ρ c ∗ ow c (Or c 6) ∗ some' c sq0 ∗ semVal (sC c 0) 0 -∗ Q (k0_pay42 (v2 c) (k0_pay40 (X3 m ρ c)) ((G3 m ρ c)) io (k0_pay41 (v2 c) (X3 m ρ c) (G3 m ρ c) (Q0_768 m ρ c) (Q1_768 m ρ c)) ((Scalar.muli (v2 c) 4#32)) (Q2_768 m ρ c) (Q3_768 m ρ c)))
        -∗ wpc c (k0_part17 (F := F) xM hx wM hw iM hi eM he oM ho gM hg sqM hsq shM hsh rqM hrq rhM hrh cc0_scratch5 cc0_scratch6 (v2 c) (k0_pay40 (X3 m ρ c)) ((G3 m ρ c)) io (k0_pay41 (v2 c) (X3 m ρ c) (G3 m ρ c) (Q0_768 m ρ c) (Q1_768 m ρ c)) ((Scalar.muli (v2 c) 4#32))) Q) := by
  rw [k0_part17_eq_skeleton]
  unfold k0_part17_skel
  simp only [semWaitWord, Prog.lift, Prog.bind_op, Prog.bind_ret, Prog.pure_eq_ret]
  iintro ⟨#HR, #HL, E, O, cs0, as0⟩ Hk
  iapply (ld_e m ρ c _) $$ E; iintro E
  iapply (ld_e m ρ c _) $$ E; iintro E
  iapply (wait_send m ρ K c 0 (Or c 6) (mayWait_leg c _ (by decide) 6 (by decide)) sem_s0 rfl) $$ [HR HL O cs0 as0]
  · isplitr; · iexact HR
    isplitr; · iexact HL
    isplitl [O]; · iexact O
    isplitl [cs0]; · iexact cs0
    iexact as0
  iintro ⟨O, sq0, vs0⟩
  ihave sq0 := (sp0 c) $$ sq0
  iapply (wpc_ret c _)
  iapply Hk
  isplitl [E]; · iexact E
  isplitl [O]; · iexact O
  isplitl [sq0]; · iexact sq0
  iexact vs0

end Parts

end Cert.KernelIdeal.Run
-- ==== Proof.IdealRun.PartsB.lean ====
module

public import proofs.«01_k».proof.Proof.IdealRun.PartsBase

/-! # The parts of the body, 18 to 33 -/

@[expose] public section

set_option maxRecDepth 65536

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 21 → ℕ) (c : Dev nD)

theorem run18 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((PUnit)) → sProp 𝕄} :
    iprop(recs m ρ K ∗ levAts L lv ∗ ow c (Or c 6) ∗ cred (tallyAt (rC c 0) () (NN 0)) ∗ atPos ER (rC c 0) 0 ∅ 0 ∗ some' (nxt c) rq4 ∗ dutyTok ER (sC c 4) 0 false ∗ dutyTok ER (rC (peer 4 c) 4) 0 false)
      ⊢ iprop((ow c (Or c 5) ∗ semVal (rC c 0) 0 ∗ cred (tallyAt (sC c 4) () (NN 4)) -∗ Q PUnit.unit)
        -∗ wpc c (k0_part18 (F := F) xM hx wM hw iM hi eM he oM ho gM hg sqM hsq shM hsh rqM hrq rhM hrh cc0_scratch5 cc0_scratch6 c (Scalar.remsi (Scalar.addi (v2 c) 1#32) 4#32) (k0_pay28 (v2 c) (k0_pay26 (X1 m ρ c)) ((G1 m ρ c)) io (k0_pay27 (v2 c) (X1 m ρ c) (G1 m ρ c) (Q0_0 m ρ c) (Q1_0 m ρ c)) ((Scalar.muli (v2 c) 4#32)) (Q2_0 m ρ c) (Q3_0 m ρ c))) Q) := by
  rw [k0_part18_eq_skeleton]
  unfold k0_part18_skel
  simp only [semWaitWord, Prog.lift, Prog.bind_op, Prog.bind_ret, Prog.pure_eq_ret]
  iintro ⟨#HR, #HL, O, cr0, ar0, p4, ts4, tr4⟩ Hk
  iapply (wait_recv m ρ K c 0 (Or c 6) (mayWait_leg c _ (by decide) 6 (by decide)) sem_r0 rfl) $$ [HR HL O cr0 ar0]
  · isplitr; · iexact HR
    isplitr; · iexact HL
    isplitl [O]; · iexact O
    isplitl [cr0]; · iexact cr0
    iexact ar0
  iintro ⟨O, rq0, vr0⟩
  ihave rq0 := (rp0 m ρ c) $$ rq0
  iapply (ld_hold c rqM _ (A0 m ρ (prv c))) $$ rq0; iintro rq0
  iapply (ld_hold c rqM _ (A0 m ρ (prv c))) $$ rq0; iintro rq0
  ihave rq0 := (hold_some c _ _) $$ rq0
  iapply (st_some c rqM _ (T0 m ρ c)) $$ rq0; iintro rq0
  iapply (copy m ρ K c (os := ![0, 0, 0]) (od := ![4, 0, 0]) 4 rqM rqM (dev7_eq c) sem_s4 sem_r4 (T0 m ρ c) rfl (Or c 6) (Or c 5) rfl rfl (land4 m ρ c)) $$ [HR rq0 p4 O ts4 tr4]
  · isplitr; · iexact HR
    isplitl [rq0]; · iexact rq0
    isplitl [p4]; · iexact p4
    isplitl [O]; · iexact O
    isplitl [ts4]; · iexact ts4
    iexact tr4
  iintro ⟨cs4, O⟩
  iapply (wpc_ret c _)
  iapply Hk
  isplitl [O]; · iexact O
  isplitl [vr0]; · iexact vr0
  iexact cs4

theorem run19 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((PUnit)) → sProp 𝕄} :
    iprop(recs m ρ K ∗ levAts L lv ∗ ow c (Or c 5) ∗ cred (tallyAt (sC c 1) () (NN 1)) ∗ atPos ER (sC c 1) 0 ∅ 0 ∗ cred (tallyAt (rC c 1) () (NN 1)) ∗ atPos ER (rC c 1) 0 ∅ 0)
      ⊢ iprop((ow c (Or c 5) ∗ some' c sq1 ∗ semVal (sC c 1) 0 ∗ hold c rq1 (T1 m ρ c) ∗ semVal (rC c 1) 0 -∗ Q PUnit.unit)
        -∗ wpc c (k0_part19 (F := F) xM hx wM hw iM hi eM he oM ho gM hg sqM hsq shM hsh rqM hrq rhM hrh cc0_scratch5 cc0_scratch6 (Scalar.remsi (Scalar.addi (v2 c) 1#32) 4#32) (k0_pay33 (v2 c) (k0_pay29 (X1 m ρ c)) ((G1 m ρ c)) io (k0_pay32 (v2 c) (k0_pay29 (X1 m ρ c)) ((G1 m ρ c)) io (k0_pay30 (F := F)) (k0_pay31 (v2 c)) (Q0_256 m ρ c) (Q1_256 m ρ c) (Q2_256 m ρ c)) (Q3_256 m ρ c))) Q) := by
  rw [k0_part19_eq_skeleton]
  unfold k0_part19_skel
  simp only [semWaitWord, Prog.lift, Prog.bind_op, Prog.bind_ret, Prog.pure_eq_ret]
  iintro ⟨#HR, #HL, O, cs1, as1, cr1, ar1⟩ Hk
  iapply (wait_send m ρ K c 1 (Or c 5) (mayWait_leg c _ (by decide) 5 (by decide)) sem_s1 rfl) $$ [HR HL O cs1 as1]
  · isplitr; · iexact HR
    isplitr; · iexact HL
    isplitl [O]; · iexact O
    isplitl [cs1]; · iexact cs1
    iexact as1
  iintro ⟨O, sq1, vs1⟩
  ihave sq1 := (sp1 c) $$ sq1
  iapply (wait_recv m ρ K c 1 (Or c 5) (mayWait_leg c _ (by decide) 5 (by decide)) sem_r1 rfl) $$ [HR HL O cr1 ar1]
  · isplitr; · iexact HR
    isplitr; · iexact HL
    isplitl [O]; · iexact O
    isplitl [cr1]; · iexact cr1
    iexact ar1
  iintro ⟨O, rq1, vr1⟩
  ihave rq1 := (rp1 m ρ c) $$ rq1
  iapply (ld_hold c rqM _ (A1 m ρ (prv c))) $$ rq1; iintro rq1
  iapply (ld_hold c rqM _ (A1 m ρ (prv c))) $$ rq1; iintro rq1
  ihave rq1 := (hold_some c _ _) $$ rq1
  iapply (st_some c rqM _ (T1 m ρ c)) $$ rq1; iintro rq1
  iapply (wpc_ret c _)
  iapply Hk
  isplitl [O]; · iexact O
  isplitl [sq1]; · iexact sq1
  isplitl [vs1]; · iexact vs1
  isplitl [rq1]; · iexact rq1
  iexact vr1

theorem run20 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((BitVec 32)) → sProp 𝕄} :
    iprop(recs m ρ K ∗ levAts L lv ∗ ow c (Or c 5) ∗ hold c rq1 (T1 m ρ c) ∗ some' (nxt c) rq5 ∗ dutyTok ER (sC c 5) 0 false ∗ dutyTok ER (rC (peer 5 c) 5) 0 false ∗ cred (tallyAt (sC c 2) () (NN 2)) ∗ atPos ER (sC c 2) 0 ∅ 0 ∗ cred (tallyAt (rC c 2) () (NN 2)) ∗ atPos ER (rC c 2) 0 ∅ 0)
      ⊢ iprop((ow c (Or c 4) ∗ cred (tallyAt (sC c 5) () (NN 5)) ∗ some' c sq2 ∗ semVal (sC c 2) 0 ∗ hold c rq2 (T2 m ρ c) ∗ semVal (rC c 2) 0 -∗ Q ((Scalar.muli (Scalar.remsi (Scalar.subi (Scalar.addi (v2 c) 4#32) 1#32) 4#32) 1#32)))
        -∗ wpc c (k0_part20 (F := F) xM hx wM hw iM hi eM he oM ho gM hg sqM hsq shM hsh rqM hrq rhM hrh cc0_scratch5 cc0_scratch6 c (Scalar.remsi (Scalar.subi (Scalar.addi (v2 c) 4#32) 1#32) 4#32) (k0_pay39 (k0_pay36 (v2 c) (k0_pay34 (X3 m ρ c)) ((G3 m ρ c)) io (k0_pay35 (v2 c) (X3 m ρ c) (G3 m ρ c) (Q0_512 m ρ c)) ((Scalar.addi (Scalar.muli (v2 c) 4#32) 1#32)) (Q1_512 m ρ c) (Q2_512 m ρ c)) (k0_pay37 (k0_pay34 (X3 m ρ c)) (Q3_512 m ρ c)) (k0_pay38 (v2 c) ((G3 m ρ c)) io))) Q) := by
  rw [k0_part20_eq_skeleton]
  unfold k0_part20_skel
  simp only [semWaitWord, Prog.lift, Prog.bind_op, Prog.bind_ret, Prog.pure_eq_ret]
  iintro ⟨#HR, #HL, O, rq1, p5, ts5, tr5, cs2, as2, cr2, ar2⟩ Hk
  iapply (copy m ρ K c (os := ![1, 0, 0]) (od := ![5, 0, 0]) 5 rqM rqM (dev8_eq c) sem_s5 sem_r5 (T1 m ρ c) rfl (Or c 5) (Or c 4) rfl rfl (land5 m ρ c)) $$ [HR rq1 p5 O ts5 tr5]
  · isplitr; · iexact HR
    isplitl [rq1]; · iexact rq1
    isplitl [p5]; · iexact p5
    isplitl [O]; · iexact O
    isplitl [ts5]; · iexact ts5
    iexact tr5
  iintro ⟨cs5, O⟩
  iapply (wait_send m ρ K c 2 (Or c 4) (mayWait_leg c _ (by decide) 4 (by decide)) sem_s2 rfl) $$ [HR HL O cs2 as2]
  · isplitr; · iexact HR
    isplitr; · iexact HL
    isplitl [O]; · iexact O
    isplitl [cs2]; · iexact cs2
    iexact as2
  iintro ⟨O, sq2, vs2⟩
  ihave sq2 := (sp2 c) $$ sq2
  iapply (wait_recv m ρ K c 2 (Or c 4) (mayWait_leg c _ (by decide) 4 (by decide)) sem_r2 rfl) $$ [HR HL O cr2 ar2]
  · isplitr; · iexact HR
    isplitr; · iexact HL
    isplitl [O]; · iexact O
    isplitl [cr2]; · iexact cr2
    iexact ar2
  iintro ⟨O, rq2, vr2⟩
  ihave rq2 := (rp2 m ρ c) $$ rq2
  iapply (ld_hold c rqM _ (A2 m ρ (nxt c))) $$ rq2; iintro rq2
  iapply (ld_hold c rqM _ (A2 m ρ (nxt c))) $$ rq2; iintro rq2
  ihave rq2 := (hold_some c _ _) $$ rq2
  iapply (st_some c rqM _ (T2 m ρ c)) $$ rq2; iintro rq2
  iapply (wpc_ret c _)
  iapply Hk
  isplitl [O]; · iexact O
  isplitl [cs5]; · iexact cs5
  isplitl [sq2]; · iexact sq2
  isplitl [vs2]; · iexact vs2
  isplitl [rq2]; · iexact rq2
  iexact vr2

theorem run21 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((FVec F S256x256 .bf16)) → sProp 𝕄} :
    iprop(recs m ρ K ∗ levAts L lv ∗ ow c (Or c 4) ∗ hold c rq2 (T2 m ρ c) ∗ some' (prv c) rq6 ∗ dutyTok ER (sC c 6) 0 false ∗ dutyTok ER (rC (peer 6 c) 6) 0 false ∗ cred (tallyAt (sC c 3) () (NN 3)) ∗ atPos ER (sC c 3) 0 ∅ 0 ∗ cred (tallyAt (rC c 3) () (NN 3)) ∗ atPos ER (rC c 3) 0 ∅ 0)
      ⊢ iprop((ow c (Or c 3) ∗ cred (tallyAt (sC c 6) () (NN 6)) ∗ some' c sq3 ∗ semVal (sC c 3) 0 ∗ hold c rq3 (A3 m ρ (nxt c)) ∗ semVal (rC c 3) 0 -∗ Q (k0_pay46 (k0_pay42 (v2 c) (k0_pay40 (X3 m ρ c)) ((G3 m ρ c)) io (k0_pay41 (v2 c) (X3 m ρ c) (G3 m ρ c) (Q0_768 m ρ c) (Q1_768 m ρ c)) ((Scalar.muli (v2 c) 4#32)) (Q2_768 m ρ c) (Q3_768 m ρ c)) (A3 m ρ (nxt c))))
        -∗ wpc c (k0_part21 (F := F) xM hx wM hw iM hi eM he oM ho gM hg sqM hsq shM hsh rqM hrq rhM hrh cc0_scratch5 cc0_scratch6 c (Scalar.remsi (Scalar.subi (Scalar.addi (v2 c) 4#32) 1#32) 4#32) (k0_pay42 (v2 c) (k0_pay40 (X3 m ρ c)) ((G3 m ρ c)) io (k0_pay41 (v2 c) (X3 m ρ c) (G3 m ρ c) (Q0_768 m ρ c) (Q1_768 m ρ c)) ((Scalar.muli (v2 c) 4#32)) (Q2_768 m ρ c) (Q3_768 m ρ c)) ((Scalar.muli (Scalar.remsi (Scalar.subi (Scalar.addi (v2 c) 4#32) 1#32) 4#32) 1#32))) Q) := by
  rw [k0_part21_eq_skeleton]
  unfold k0_part21_skel
  simp only [semWaitWord, Prog.lift, Prog.bind_op, Prog.bind_ret, Prog.pure_eq_ret]
  iintro ⟨#HR, #HL, O, rq2, p6, ts6, tr6, cs3, as3, cr3, ar3⟩ Hk
  iapply (copy m ρ K c (os := ![2, 0, 0]) (od := ![6, 0, 0]) 6 rqM rqM (dev9_eq c) sem_s6 sem_r6 (T2 m ρ c) rfl (Or c 4) (Or c 3) rfl rfl (land6 m ρ c)) $$ [HR rq2 p6 O ts6 tr6]
  · isplitr; · iexact HR
    isplitl [rq2]; · iexact rq2
    isplitl [p6]; · iexact p6
    isplitl [O]; · iexact O
    isplitl [ts6]; · iexact ts6
    iexact tr6
  iintro ⟨cs6, O⟩
  iapply (wait_send m ρ K c 3 (Or c 3) (mayWait_leg c _ (by decide) 3 (by decide)) sem_s3 rfl) $$ [HR HL O cs3 as3]
  · isplitr; · iexact HR
    isplitr; · iexact HL
    isplitl [O]; · iexact O
    isplitl [cs3]; · iexact cs3
    iexact as3
  iintro ⟨O, sq3, vs3⟩
  ihave sq3 := (sp3 c) $$ sq3
  iapply (wait_recv m ρ K c 3 (Or c 3) (mayWait_leg c _ (by decide) 3 (by decide)) sem_r3 rfl) $$ [HR HL O cr3 ar3]
  · isplitr; · iexact HR
    isplitr; · iexact HL
    isplitl [O]; · iexact O
    isplitl [cr3]; · iexact cr3
    iexact ar3
  iintro ⟨O, rq3, vr3⟩
  ihave rq3 := (rp3 m ρ c) $$ rq3
  iapply (ld_hold c rqM _ (A3 m ρ (nxt c))) $$ rq3; iintro rq3
  iapply (wpc_ret c _)
  iapply Hk
  isplitl [O]; · iexact O
  isplitl [cs6]; · iexact cs6
  isplitl [sq3]; · iexact sq3
  isplitl [vs3]; · iexact vs3
  isplitl [rq3]; · iexact rq3
  iexact vr3

theorem run22 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v747 : FVec F S256x512 .f32) (v749 : Vec F S256x16 .f32) (v750 : IVec S256x16 32), FVec F S256x512 .f32)) → sProp 𝕄} :
    iprop(recs m ρ K ∗ levAts L lv ∗ hold c rq3 (A3 m ρ (nxt c)) ∗ ow c (Or c 3) ∗ some' (prv c) rq7 ∗ dutyTok ER (sC c 7) 0 false ∗ dutyTok ER (rC (peer 7 c) 7) 0 false ∗ env m ρ c)
      ⊢ iprop((ow c (Or c 2) ∗ cred (tallyAt (sC c 7) () (NN 7)) ∗ env m ρ c -∗ Q ⟨k0_pay48 (X3 m ρ c), (G3 m ρ c), io, k0_pay49 (v2 c) (X3 m ρ c) (G3 m ρ c) (W0_0 m ρ c)⟩)
        -∗ wpc c (k0_part22 (F := F) xM hx wM hw iM hi eM he oM ho gM hg sqM hsq shM hsh rqM hrq rhM hrh cc0_scratch5 cc0_scratch6 c (v2 c) (Scalar.remsi (Scalar.subi (Scalar.addi (v2 c) 4#32) 1#32) 4#32) (Scalar.remsi (Scalar.addi (v2 c) 3#32) 4#32) (k0_pay46 (k0_pay42 (v2 c) (k0_pay40 (X3 m ρ c)) ((G3 m ρ c)) io (k0_pay41 (v2 c) (X3 m ρ c) (G3 m ρ c) (Q0_768 m ρ c) (Q1_768 m ρ c)) ((Scalar.muli (v2 c) 4#32)) (Q2_768 m ρ c) (Q3_768 m ρ c)) (A3 m ρ (nxt c)))) Q) := by
  rw [k0_part22_eq_skeleton]
  unfold k0_part22_skel
  simp only [semWaitWord, Prog.lift, Prog.bind_op, Prog.bind_ret, Prog.pure_eq_ret]
  iintro ⟨#HR, #HL, rq3, O, p7, ts7, tr7, E⟩ Hk
  iapply (ld_hold c rqM _ (A3 m ρ (nxt c))) $$ rq3; iintro rq3
  ihave rq3 := (hold_some c _ _) $$ rq3
  iapply (st_some c rqM _ (T3 m ρ c)) $$ rq3; iintro rq3
  iapply (copy m ρ K c (os := ![3, 0, 0]) (od := ![7, 0, 0]) 7 rqM rqM (dev10_eq c) sem_s7 sem_r7 (T3 m ρ c) rfl (Or c 3) (Or c 2) rfl rfl (land7 m ρ c)) $$ [HR rq3 p7 O ts7 tr7]
  · isplitr; · iexact HR
    isplitl [rq3]; · iexact rq3
    isplitl [p7]; · iexact p7
    isplitl [O]; · iexact O
    isplitl [ts7]; · iexact ts7
    iexact tr7
  iintro ⟨cs7, O⟩
  iapply (ld_x m ρ c _) $$ E; iintro E
  iapply (ld_g m ρ c _) $$ E; iintro E
  iapply (ld_e m ρ c _) $$ E; iintro E
  iapply (wpc_ret c _)
  iapply Hk
  isplitl [O]; · iexact O
  isplitl [cs7]; · iexact cs7
  iexact E

theorem run23 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v793 : FVec F S256x512 .f32) (v801 : FVec F S256x1 .f32), Vec F S1x512x512 .f32)) → sProp 𝕄} :
    iprop(recs m ρ K ∗ levAts L lv ∗ env m ρ c)
      ⊢ iprop((env m ρ c -∗ Q ⟨k0_pay50 (v2 c) (k0_pay48 (X3 m ρ c)) ((G3 m ρ c)) io (k0_pay49 (v2 c) (X3 m ρ c) (G3 m ρ c) (W0_0 m ρ c)) (W1_0 m ρ c) (W2_0 m ρ c), k0_pay51 (v2 c) ((G3 m ρ c)) io, (W3_0 m ρ c)⟩)
        -∗ wpc c (k0_part23 (F := F) xM hx wM hw iM hi eM he oM ho gM hg sqM hsq shM hsh rqM hrq rhM hrh cc0_scratch5 cc0_scratch6 (v2 c) (k0_pay48 (X3 m ρ c)) ((G3 m ρ c)) io (k0_pay49 (v2 c) (X3 m ρ c) (G3 m ρ c) (W0_0 m ρ c))) Q) := by
  rw [k0_part23_eq_skeleton]
  unfold k0_part23_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run24 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v825 : FVec F S256x512 .f32) (v827 : Vec F S256x16 .f32) (v828 : IVec S256x16 32) (v829 : FVec F S256x512 .f32), FVec F S256x1 .f32)) → sProp 𝕄} :
    iprop(recs m ρ K ∗ levAts L lv ∗ some' c sh0 ∗ ow c (Or c 2) ∗ some' (prv c) rh0 ∗ dutyTok ER (sC c 8) 0 false ∗ dutyTok ER (rC (peer 8 c) 8) 0 false ∗ env m ρ c)
      ⊢ iprop((ow c (Or c 1) ∗ cred (tallyAt (sC c 8) () (NN 8)) ∗ env m ρ c -∗ Q ⟨k0_pay53 (X1 m ρ c), (G1 m ρ c), io, k0_pay54 (F := F), k0_pay55 (v2 c) (G1 m ρ c)⟩)
        -∗ wpc c (k0_part24 (F := F) xM hx wM hw iM hi eM he oM ho gM hg sqM hsq shM hsh rqM hrq rhM hrh cc0_scratch5 cc0_scratch6 c (v2 c) (Scalar.remsi (Scalar.subi (Scalar.addi (v2 c) 4#32) 1#32) 4#32) (Scalar.remsi (Scalar.addi (v2 c) 1#32) 4#32) (k0_pay48 (X3 m ρ c)) (k0_pay50 (v2 c) (k0_pay48 (X3 m ρ c)) ((G3 m ρ c)) io (k0_pay49 (v2 c) (X3 m ρ c) (G3 m ρ c) (W0_0 m ρ c)) (W1_0 m ρ c) (W2_0 m ρ c)) (k0_pay51 (v2 c) ((G3 m ρ c)) io) ((W3_0 m ρ c))) Q) := by
  rw [k0_part24_eq_skeleton]
  unfold k0_part24_skel
  simp only [semWaitWord, Prog.lift, Prog.bind_op, Prog.bind_ret, Prog.pure_eq_ret]
  iintro ⟨#HR, #HL, sh0, O, p8, ts8, tr8, E⟩ Hk
  iapply (ld_some c shM _) $$ sh0; iintro sh0
  iapply (st_some c shM _ (H0 m ρ c)) $$ sh0; iintro sh0
  iapply (copy m ρ K c (os := ![0, 0, 0]) (od := ![0, 0, 0]) 8 shM rhM (dev11_eq c) sem_s8 sem_r8 (H0 m ρ c) rfl (Or c 2) (Or c 1) rfl rfl (land8 m ρ c)) $$ [HR sh0 p8 O ts8 tr8]
  · isplitr; · iexact HR
    isplitl [sh0]; · iexact sh0
    isplitl [p8]; · iexact p8
    isplitl [O]; · iexact O
    isplitl [ts8]; · iexact ts8
    iexact tr8
  iintro ⟨cs8, O⟩
  iapply (ld_x m ρ c _) $$ E; iintro E
  iapply (ld_g m ρ c _) $$ E; iintro E
  iapply (wpc_ret c _)
  iapply Hk
  isplitl [O]; · iexact O
  isplitl [cs8]; · iexact cs8
  iexact E

theorem run25 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v871 : FVec F S256x512 .f32) (v875 : IVec S256x16 1), F .f32)) → sProp 𝕄} :
    iprop(recs m ρ K ∗ levAts L lv ∗ env m ρ c)
      ⊢ iprop((env m ρ c -∗ Q ⟨k0_pay56 (v2 c) (k0_pay53 (X1 m ρ c)) ((G1 m ρ c)) io (k0_pay54 (F := F)) (k0_pay55 (v2 c) (G1 m ρ c)) (W0_512 m ρ c) (W1_512 m ρ c) (W2_512 m ρ c), k0_pay57 (v2 c) io, (Scalar.ofBits .f32 0x00000000#32)⟩)
        -∗ wpc c (k0_part25 (F := F) xM hx wM hw iM hi eM he oM ho gM hg sqM hsq shM hsh rqM hrq rhM hrh cc0_scratch5 cc0_scratch6 (v2 c) (k0_pay53 (X1 m ρ c)) ((G1 m ρ c)) io (k0_pay54 (F := F)) (k0_pay55 (v2 c) (G1 m ρ c))) Q) := by
  rw [k0_part25_eq_skeleton]
  unfold k0_part25_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run26 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v903 : FVec F S256x512 .f32) (v905 : Vec F S256x16 .f32) (v906 : IVec S256x16 32) (v907 : FVec F S256x512 .f32), BitVec 32)) → sProp 𝕄} :
    iprop(recs m ρ K ∗ levAts L lv ∗ env m ρ c ∗ some' c sh1 ∗ ow c (Or c 1) ∗ some' (nxt c) rh1 ∗ dutyTok ER (sC c 9) 0 false ∗ dutyTok ER (rC (peer 9 c) 9) 0 false)
      ⊢ iprop((env m ρ c ∗ ow c (Or c 0) ∗ cred (tallyAt (sC c 9) () (NN 9)) -∗ Q ⟨k0_pay59 (X0 m ρ c), (G0 m ρ c), io, k0_pay60 (F := F), (Scalar.addi (Scalar.muli (v2 c) 4#32) 0#32)⟩)
        -∗ wpc c (k0_part26 (F := F) xM hx wM hw iM hi eM he oM ho gM hg sqM hsq shM hsh rqM hrq rhM hrh cc0_scratch5 cc0_scratch6 c (v2 c) (Scalar.remsi (Scalar.addi (v2 c) 1#32) 4#32) (k0_pay53 (X1 m ρ c)) ((G1 m ρ c)) (k0_pay56 (v2 c) (k0_pay53 (X1 m ρ c)) ((G1 m ρ c)) io (k0_pay54 (F := F)) (k0_pay55 (v2 c) (G1 m ρ c)) (W0_512 m ρ c) (W1_512 m ρ c) (W2_512 m ρ c)) (k0_pay57 (v2 c) io) ((Scalar.ofBits .f32 0x00000000#32))) Q) := by
  rw [k0_part26_eq_skeleton]
  unfold k0_part26_skel
  simp only [semWaitWord, Prog.lift, Prog.bind_op, Prog.bind_ret, Prog.pure_eq_ret]
  iintro ⟨#HR, #HL, E, sh1, O, p9, ts9, tr9⟩ Hk
  iapply (ld_e m ρ c _) $$ E; iintro E
  iapply (ld_some c shM _) $$ sh1; iintro sh1
  iapply (st_some c shM _ (H1 m ρ c)) $$ sh1; iintro sh1
  iapply (copy m ρ K c (os := ![1, 0, 0]) (od := ![1, 0, 0]) 9 shM rhM (dev12_eq c) sem_s9 sem_r9 (H1 m ρ c) rfl (Or c 1) (Or c 0) rfl rfl (land9 m ρ c)) $$ [HR sh1 p9 O ts9 tr9]
  · isplitr; · iexact HR
    isplitl [sh1]; · iexact sh1
    isplitl [p9]; · iexact p9
    isplitl [O]; · iexact O
    isplitl [ts9]; · iexact ts9
    iexact tr9
  iintro ⟨cs9, O⟩
  iapply (ld_x m ρ c _) $$ E; iintro E
  iapply (ld_g m ρ c _) $$ E; iintro E
  iapply (wpc_ret c _)
  iapply Hk
  isplitl [E]; · iexact E
  isplitl [O]; · iexact O
  iexact cs9

theorem run27 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v935 : FVec F S256x512 .f32) (v946 : FVec F S256x512 .f32), FVec F S256x512 .f32)) → sProp 𝕄} :
    iprop(recs m ρ K ∗ levAts L lv ∗ env m ρ c)
      ⊢ iprop((env m ρ c -∗ Q ⟨k0_pay61 (v2 c) (k0_pay59 (X0 m ρ c)) ((G0 m ρ c)) io (k0_pay60 (F := F)) ((Scalar.addi (Scalar.muli (v2 c) 4#32) 0#32)) (W0_0 m ρ c) (W1_0 m ρ c), k0_pay62 (k0_pay59 (X0 m ρ c)) (W2_0 m ρ c), k0_pay63 (v2 c) ((G0 m ρ c)) io⟩)
        -∗ wpc c (k0_part27 (F := F) xM hx wM hw iM hi eM he oM ho gM hg sqM hsq shM hsh rqM hrq rhM hrh cc0_scratch5 cc0_scratch6 (v2 c) (k0_pay59 (X0 m ρ c)) ((G0 m ρ c)) io (k0_pay60 (F := F)) ((Scalar.addi (Scalar.muli (v2 c) 4#32) 0#32))) Q) := by
  rw [k0_part27_eq_skeleton]
  unfold k0_part27_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run28 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v963 : FVec F S256x512 .f32) (v967 : FVec F S256x512 .f32) (v969 : Vec F S256x16 .f32) (v970 : IVec S256x16 32) (v985 : FVec F S256x512 .f32), BitVec 32)) → sProp 𝕄} :
    iprop(recs m ρ K ∗ levAts L lv ∗ env m ρ c)
      ⊢ iprop((env m ρ c -∗ Q ⟨k0_pay64 (v2 c) (k0_pay59 (X0 m ρ c)) ((G0 m ρ c)) io (k0_pay61 (v2 c) (k0_pay59 (X0 m ρ c)) ((G0 m ρ c)) io (k0_pay60 (F := F)) ((Scalar.addi (Scalar.muli (v2 c) 4#32) 0#32)) (W0_0 m ρ c) (W1_0 m ρ c)) (k0_pay62 (k0_pay59 (X0 m ρ c)) (W2_0 m ρ c)) (k0_pay63 (v2 c) ((G0 m ρ c)) io) (W3_0 m ρ c), k0_pay65 (X0 m ρ c), (G0 m ρ c), io, k0_pay66 (v2 c) (X0 m ρ c) (G0 m ρ c) (W0_512 m ρ c), (Scalar.muli (v2 c) 4#32)⟩)
        -∗ wpc c (k0_part28 (F := F) xM hx wM hw iM hi eM he oM ho gM hg sqM hsq shM hsh rqM hrq rhM hrh cc0_scratch5 cc0_scratch6 c (v2 c) (k0_pay59 (X0 m ρ c)) ((G0 m ρ c)) io (k0_pay61 (v2 c) (k0_pay59 (X0 m ρ c)) ((G0 m ρ c)) io (k0_pay60 (F := F)) ((Scalar.addi (Scalar.muli (v2 c) 4#32) 0#32)) (W0_0 m ρ c) (W1_0 m ρ c)) (k0_pay62 (k0_pay59 (X0 m ρ c)) (W2_0 m ρ c)) (k0_pay63 (v2 c) ((G0 m ρ c)) io)) Q) := by
  rw [k0_part28_eq_skeleton]
  unfold k0_part28_skel
  simp only [semWaitWord, Prog.lift, Prog.bind_op, Prog.bind_ret, Prog.pure_eq_ret]
  iintro ⟨#HR, #HL, E⟩ Hk
  iapply (ld_e m ρ c _) $$ E; iintro E
  iapply (ld_x m ρ c _) $$ E; iintro E
  iapply (ld_g m ρ c _) $$ E; iintro E
  iapply (ld_e m ρ c _) $$ E; iintro E
  iapply (wpc_ret c _)
  iapply Hk
  iexact E

theorem run29 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v1013 : FVec F S256x512 .f32) (v1021 : FVec F S256x1 .f32) (v1023 : FVec F S512x512 .f32), FVec F S256x512 .f32)) → sProp 𝕄} :
    iprop(recs m ρ K ∗ levAts L lv ∗ env m ρ c)
      ⊢ iprop((env m ρ c -∗ Q ⟨k0_pay67 (v2 c) (k0_pay65 (X0 m ρ c)) ((G0 m ρ c)) io (k0_pay66 (v2 c) (X0 m ρ c) (G0 m ρ c) (W0_512 m ρ c)) ((Scalar.muli (v2 c) 4#32)) (W1_512 m ρ c) (W2_512 m ρ c), k0_pay68 (v2 c) ((G0 m ρ c)) io, k0_pay69 (W3_512 m ρ c), (constant S256x512 .f32 0x00000000#32)⟩)
        -∗ wpc c (k0_part29 (F := F) xM hx wM hw iM hi eM he oM ho gM hg sqM hsq shM hsh rqM hrq rhM hrh cc0_scratch5 cc0_scratch6 (v2 c) (k0_pay65 (X0 m ρ c)) ((G0 m ρ c)) io (k0_pay66 (v2 c) (X0 m ρ c) (G0 m ρ c) (W0_512 m ρ c)) ((Scalar.muli (v2 c) 4#32))) Q) := by
  rw [k0_part29_eq_skeleton]
  unfold k0_part29_skel
  simp only [semWaitWord, Prog.lift, Prog.bind_op, Prog.bind_ret, Prog.pure_eq_ret]
  iintro ⟨#HR, #HL, E⟩ Hk
  iapply (ld_e m ρ c _) $$ E; iintro E
  iapply (ld_e m ρ c _) $$ E; iintro E
  iapply (ld_e m ρ c _) $$ E; iintro E
  iapply (wpc_ret c _)
  iapply Hk
  iexact E

theorem run30 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v1027 : FVec F S256x512 .f32), BitVec 32)) → sProp 𝕄} :
    iprop(recs m ρ K ∗ levAts L lv ∗ ow c (Or c 0) ∗ cred (tallyAt (sC c 4) () (NN 4)) ∗ atPos ER (sC c 4) 0 ∅ 0 ∗ cred (tallyAt (rC c 4) () (NN 4)) ∗ atPos ER (rC c 4) 0 ∅ 0 ∗ cred (tallyAt (sC c 5) () (NN 5)) ∗ atPos ER (sC c 5) 0 ∅ 0)
      ⊢ iprop((ow c (Or c 0) ∗ some' c rq0 ∗ semVal (sC c 4) 0 ∗ hold c rq4 (T0 m ρ (prv c)) ∗ semVal (rC c 4) 0 ∗ some' c rq1 ∗ semVal (sC c 5) 0 -∗ Q ⟨k0_pay70 (k0_pay65 (X0 m ρ c)) (k0_pay67 (v2 c) (k0_pay65 (X0 m ρ c)) ((G0 m ρ c)) io (k0_pay66 (v2 c) (X0 m ρ c) (G0 m ρ c) (W0_512 m ρ c)) ((Scalar.muli (v2 c) 4#32)) (W1_512 m ρ c) (W2_512 m ρ c)) (k0_pay68 (v2 c) ((G0 m ρ c)) io) (k0_pay69 (W3_512 m ρ c)) ((constant S256x512 .f32 0x00000000#32)), 1#32⟩)
        -∗ wpc c (k0_part30 (F := F) xM hx wM hw iM hi eM he oM ho gM hg sqM hsq shM hsh rqM hrq rhM hrh cc0_scratch5 cc0_scratch6 (Scalar.remsi (Scalar.addi (v2 c) 1#32) 4#32) (k0_pay65 (X0 m ρ c)) (k0_pay67 (v2 c) (k0_pay65 (X0 m ρ c)) ((G0 m ρ c)) io (k0_pay66 (v2 c) (X0 m ρ c) (G0 m ρ c) (W0_512 m ρ c)) ((Scalar.muli (v2 c) 4#32)) (W1_512 m ρ c) (W2_512 m ρ c)) (k0_pay68 (v2 c) ((G0 m ρ c)) io) (k0_pay69 (W3_512 m ρ c)) ((constant S256x512 .f32 0x00000000#32))) Q) := by
  rw [k0_part30_eq_skeleton]
  unfold k0_part30_skel
  simp only [semWaitWord, Prog.lift, Prog.bind_op, Prog.bind_ret, Prog.pure_eq_ret]
  iintro ⟨#HR, #HL, O, cs4, as4, cr4, ar4, cs5, as5⟩ Hk
  iapply (wait_send m ρ K c 4 (Or c 0) (mayWait_end c _) sem_s4 rfl) $$ [HR HL O cs4 as4]
  · isplitr; · iexact HR
    isplitr; · iexact HL
    isplitl [O]; · iexact O
    isplitl [cs4]; · iexact cs4
    iexact as4
  iintro ⟨O, rq0, vs4⟩
  ihave rq0 := (sp4 c) $$ rq0
  iapply (wait_recv m ρ K c 4 (Or c 0) (mayWait_end c _) sem_r4 rfl) $$ [HR HL O cr4 ar4]
  · isplitr; · iexact HR
    isplitr; · iexact HL
    isplitl [O]; · iexact O
    isplitl [cr4]; · iexact cr4
    iexact ar4
  iintro ⟨O, rq4, vr4⟩
  ihave rq4 := (rp4 m ρ c) $$ rq4
  iapply (wait_send m ρ K c 5 (Or c 0) (mayWait_end c _) sem_s5 rfl) $$ [HR HL O cs5 as5]
  · isplitr; · iexact HR
    isplitr; · iexact HL
    isplitl [O]; · iexact O
    isplitl [cs5]; · iexact cs5
    iexact as5
  iintro ⟨O, rq1, vs5⟩
  ihave rq1 := (sp5 c) $$ rq1
  iapply (wpc_ret c _)
  iapply Hk
  isplitl [O]; · iexact O
  isplitl [rq0]; · iexact rq0
  isplitl [vs4]; · iexact vs4
  isplitl [rq4]; · iexact rq4
  isplitl [vr4]; · iexact vr4
  isplitl [rq1]; · iexact rq1
  iexact vs5

theorem run31 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((Σ' (v1073 : FVec F S256x512 .f32), Vec F S1x256x256 .bf16)) → sProp 𝕄} :
    iprop(recs m ρ K ∗ levAts L lv ∗ ow c (Or c 0) ∗ cred (tallyAt (rC c 5) () (NN 5)) ∗ atPos ER (rC c 5) 0 ∅ 0 ∗ cred (tallyAt (sC c 8) () (NN 8)) ∗ atPos ER (sC c 8) 0 ∅ 0 ∗ cred (tallyAt (rC c 8) () (NN 8)) ∗ atPos ER (rC c 8) 0 ∅ 0 ∗ hold c rq4 (T0 m ρ (prv c)))
      ⊢ iprop((ow c (Or c 0) ∗ hold c rq5 (T1 m ρ (prv c)) ∗ semVal (rC c 5) 0 ∗ some' c sh0 ∗ semVal (sC c 8) 0 ∗ hold c rh0 (H0 m ρ (nxt c)) ∗ semVal (rC c 8) 0 ∗ hold c rq4 (T0 m ρ (prv c)) -∗ Q ⟨k0_pay71 (k0_pay64 (v2 c) (k0_pay59 (X0 m ρ c)) ((G0 m ρ c)) io (k0_pay61 (v2 c) (k0_pay59 (X0 m ρ c)) ((G0 m ρ c)) io (k0_pay60 (F := F)) ((Scalar.addi (Scalar.muli (v2 c) 4#32) 0#32)) (W0_0 m ρ c) (W1_0 m ρ c)) (k0_pay62 (k0_pay59 (X0 m ρ c)) (W2_0 m ρ c)) (k0_pay63 (v2 c) ((G0 m ρ c)) io) (W3_0 m ρ c)) (H0 m ρ (nxt c)), (T0 m ρ (prv c))⟩)
        -∗ wpc c (k0_part31 (F := F) xM hx wM hw iM hi eM he oM ho gM hg sqM hsq shM hsh rqM hrq rhM hrh cc0_scratch5 cc0_scratch6 (Scalar.remsi (Scalar.subi (Scalar.addi (v2 c) 4#32) 1#32) 4#32) (Scalar.remsi (Scalar.addi (v2 c) 1#32) 4#32) (k0_pay64 (v2 c) (k0_pay59 (X0 m ρ c)) ((G0 m ρ c)) io (k0_pay61 (v2 c) (k0_pay59 (X0 m ρ c)) ((G0 m ρ c)) io (k0_pay60 (F := F)) ((Scalar.addi (Scalar.muli (v2 c) 4#32) 0#32)) (W0_0 m ρ c) (W1_0 m ρ c)) (k0_pay62 (k0_pay59 (X0 m ρ c)) (W2_0 m ρ c)) (k0_pay63 (v2 c) ((G0 m ρ c)) io) (W3_0 m ρ c)) 1#32) Q) := by
  rw [k0_part31_eq_skeleton]
  unfold k0_part31_skel
  simp only [semWaitWord, Prog.lift, Prog.bind_op, Prog.bind_ret, Prog.pure_eq_ret]
  iintro ⟨#HR, #HL, O, cr5, ar5, cs8, as8, cr8, ar8, rq4⟩ Hk
  iapply (wait_recv m ρ K c 5 (Or c 0) (mayWait_end c _) sem_r5 rfl) $$ [HR HL O cr5 ar5]
  · isplitr; · iexact HR
    isplitr; · iexact HL
    isplitl [O]; · iexact O
    isplitl [cr5]; · iexact cr5
    iexact ar5
  iintro ⟨O, rq5, vr5⟩
  ihave rq5 := (rp5 m ρ c) $$ rq5
  iapply (wait_send m ρ K c 8 (Or c 0) (mayWait_end c _) sem_s8 rfl) $$ [HR HL O cs8 as8]
  · isplitr; · iexact HR
    isplitr; · iexact HL
    isplitl [O]; · iexact O
    isplitl [cs8]; · iexact cs8
    iexact as8
  iintro ⟨O, sh0, vs8⟩
  ihave sh0 := (sp8 c) $$ sh0
  iapply (wait_recv m ρ K c 8 (Or c 0) (mayWait_end c _) sem_r8 rfl) $$ [HR HL O cr8 ar8]
  · isplitr; · iexact HR
    isplitr; · iexact HL
    isplitl [O]; · iexact O
    isplitl [cr8]; · iexact cr8
    iexact ar8
  iintro ⟨O, rh0, vr8⟩
  ihave rh0 := (rp8 m ρ c) $$ rh0
  iapply (ld_hold c rhM _ (H0 m ρ (nxt c))) $$ rh0; iintro rh0
  iapply (ld_hold c rqM _ (T0 m ρ (prv c))) $$ rq4; iintro rq4
  iapply (wpc_ret c _)
  iapply Hk
  isplitl [O]; · iexact O
  isplitl [rq5]; · iexact rq5
  isplitl [vr5]; · iexact vr5
  isplitl [sh0]; · iexact sh0
  isplitl [vs8]; · iexact vs8
  isplitl [rh0]; · iexact rh0
  isplitl [vr8]; · iexact vr8
  iexact rq4

theorem run32 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((PUnit)) → sProp 𝕄} :
    iprop(recs m ρ K ∗ levAts L lv ∗ hold c rq5 (T1 m ρ (prv c)) ∗ some' c o0 ∗ ow c (Or c 0) ∗ cred (tallyAt (sC c 6) () (NN 6)) ∗ atPos ER (sC c 6) 0 ∅ 0 ∗ cred (tallyAt (rC c 6) () (NN 6)) ∗ atPos ER (rC c 6) 0 ∅ 0)
      ⊢ iprop((hold c rq5 (T1 m ρ (prv c)) ∗ hold c o0 (out0 m ρ c) ∗ ow c (Or c 0) ∗ some' c rq2 ∗ semVal (sC c 6) 0 ∗ hold c rq6 (T2 m ρ (nxt c)) ∗ semVal (rC c 6) 0 -∗ Q PUnit.unit)
        -∗ wpc c (k0_part32 (F := F) xM hx wM hw iM hi eM he oM ho gM hg sqM hsq shM hsh rqM hrq rhM hrh cc0_scratch5 cc0_scratch6 (Scalar.remsi (Scalar.subi (Scalar.addi (v2 c) 4#32) 1#32) 4#32) (k0_pay71 (k0_pay64 (v2 c) (k0_pay59 (X0 m ρ c)) ((G0 m ρ c)) io (k0_pay61 (v2 c) (k0_pay59 (X0 m ρ c)) ((G0 m ρ c)) io (k0_pay60 (F := F)) ((Scalar.addi (Scalar.muli (v2 c) 4#32) 0#32)) (W0_0 m ρ c) (W1_0 m ρ c)) (k0_pay62 (k0_pay59 (X0 m ρ c)) (W2_0 m ρ c)) (k0_pay63 (v2 c) ((G0 m ρ c)) io) (W3_0 m ρ c)) (H0 m ρ (nxt c))) ((T0 m ρ (prv c)))) Q) := by
  rw [k0_part32_eq_skeleton]
  unfold k0_part32_skel
  simp only [semWaitWord, Prog.lift, Prog.bind_op, Prog.bind_ret, Prog.pure_eq_ret]
  iintro ⟨#HR, #HL, rq5, o0, O, cs6, as6, cr6, ar6⟩ Hk
  iapply (ld_hold c rqM _ (T1 m ρ (prv c))) $$ rq5; iintro rq5
  iapply (ld_some c oM _) $$ o0; iintro o0
  iapply (st_some c oM _ (out0 m ρ c)) $$ o0; iintro o0
  iapply (wait_send m ρ K c 6 (Or c 0) (mayWait_end c _) sem_s6 rfl) $$ [HR HL O cs6 as6]
  · isplitr; · iexact HR
    isplitr; · iexact HL
    isplitl [O]; · iexact O
    isplitl [cs6]; · iexact cs6
    iexact as6
  iintro ⟨O, rq2, vs6⟩
  ihave rq2 := (sp6 c) $$ rq2
  iapply (wait_recv m ρ K c 6 (Or c 0) (mayWait_end c _) sem_r6 rfl) $$ [HR HL O cr6 ar6]
  · isplitr; · iexact HR
    isplitr; · iexact HL
    isplitl [O]; · iexact O
    isplitl [cr6]; · iexact cr6
    iexact ar6
  iintro ⟨O, rq6, vr6⟩
  ihave rq6 := (rp6 m ρ c) $$ rq6
  iapply (wpc_ret c _)
  iapply Hk
  isplitl [rq5]; · iexact rq5
  isplitl [o0]; · iexact o0
  isplitl [O]; · iexact O
  isplitl [rq2]; · iexact rq2
  isplitl [vs6]; · iexact vs6
  isplitl [rq6]; · iexact rq6
  iexact vr6

theorem run33 {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : ((PUnit)) → sProp 𝕄} :
    iprop(recs m ρ K ∗ levAts L lv ∗ ow c (Or c 0) ∗ cred (tallyAt (sC c 7) () (NN 7)) ∗ atPos ER (sC c 7) 0 ∅ 0 ∗ cred (tallyAt (rC c 7) () (NN 7)) ∗ atPos ER (rC c 7) 0 ∅ 0 ∗ cred (tallyAt (sC c 9) () (NN 9)) ∗ atPos ER (sC c 9) 0 ∅ 0 ∗ cred (tallyAt (rC c 9) () (NN 9)) ∗ atPos ER (rC c 9) 0 ∅ 0)
      ⊢ iprop((ow c (Or c 0) ∗ some' c rq3 ∗ semVal (sC c 7) 0 ∗ hold c rq7 (T3 m ρ (nxt c)) ∗ semVal (rC c 7) 0 ∗ some' c sh1 ∗ semVal (sC c 9) 0 ∗ hold c rh1 (H1 m ρ (prv c)) ∗ semVal (rC c 9) 0 -∗ Q PUnit.unit)
        -∗ wpc c (k0_part33 (F := F) xM hx wM hw iM hi eM he oM ho gM hg sqM hsq shM hsh rqM hrq rhM hrh cc0_scratch5 cc0_scratch6 (Scalar.remsi (Scalar.subi (Scalar.addi (v2 c) 4#32) 1#32) 4#32) (Scalar.remsi (Scalar.addi (v2 c) 1#32) 4#32)) Q) := by
  rw [k0_part33_eq_skeleton]
  unfold k0_part33_skel
  simp only [semWaitWord, Prog.lift, Prog.bind_op, Prog.bind_ret, Prog.pure_eq_ret]
  iintro ⟨#HR, #HL, O, cs7, as7, cr7, ar7, cs9, as9, cr9, ar9⟩ Hk
  iapply (wait_send m ρ K c 7 (Or c 0) (mayWait_end c _) sem_s7 rfl) $$ [HR HL O cs7 as7]
  · isplitr; · iexact HR
    isplitr; · iexact HL
    isplitl [O]; · iexact O
    isplitl [cs7]; · iexact cs7
    iexact as7
  iintro ⟨O, rq3, vs7⟩
  ihave rq3 := (sp7 c) $$ rq3
  iapply (wait_recv m ρ K c 7 (Or c 0) (mayWait_end c _) sem_r7 rfl) $$ [HR HL O cr7 ar7]
  · isplitr; · iexact HR
    isplitr; · iexact HL
    isplitl [O]; · iexact O
    isplitl [cr7]; · iexact cr7
    iexact ar7
  iintro ⟨O, rq7, vr7⟩
  ihave rq7 := (rp7 m ρ c) $$ rq7
  iapply (wait_send m ρ K c 9 (Or c 0) (mayWait_end c _) sem_s9 rfl) $$ [HR HL O cs9 as9]
  · isplitr; · iexact HR
    isplitr; · iexact HL
    isplitl [O]; · iexact O
    isplitl [cs9]; · iexact cs9
    iexact as9
  iintro ⟨O, sh1, vs9⟩
  ihave sh1 := (sp9 c) $$ sh1
  iapply (wait_recv m ρ K c 9 (Or c 0) (mayWait_end c _) sem_r9 rfl) $$ [HR HL O cr9 ar9]
  · isplitr; · iexact HR
    isplitr; · iexact HL
    isplitl [O]; · iexact O
    isplitl [cr9]; · iexact cr9
    iexact ar9
  iintro ⟨O, rh1, vr9⟩
  ihave rh1 := (rp9 m ρ c) $$ rh1
  iapply (wpc_ret c _)
  iapply Hk
  isplitl [O]; · iexact O
  isplitl [rq3]; · iexact rq3
  isplitl [vs7]; · iexact vs7
  isplitl [rq7]; · iexact rq7
  isplitl [vr7]; · iexact vr7
  isplitl [sh1]; · iexact sh1
  isplitl [vs9]; · iexact vs9
  isplitl [rh1]; · iexact rh1
  iexact vr9

end Parts

end Cert.KernelIdeal.Run
-- ==== Proof.IdealRun.Body.lean ====
module

public import proofs.«01_k».proof.Proof.IdealRun.PartsA
public import proofs.«01_k».proof.Proof.IdealRun.PartsB

/-! # The body on one device: its parts in order -/

@[expose] public section

set_option maxRecDepth 65536

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 21 → ℕ) (c : Dev nD)

theorem wpc_bind {α β : Type} {Q : β → sProp 𝕄} (p : Prog (TpuEff nD τ sig (Elt F) Λ₀ .tc) α) (k : α → Prog (TpuEff nD τ sig (Elt F) Λ₀ .tc) β) :
    wpc c p (fun a => wpc c (k a) Q) ⊢ wpc c (p >>= k) Q := by
  unfold wpc
  rw [wp_bind]

/-- What device `c` holds as the body begins, the experts' and the other operands at their blocks. -/
def bodyIn (g₀ : (cc0_scratch0 : Ref sig .tc).ty.Contents (Elt F)) : sProp 𝕄 :=
  iprop((((c : Thread nD τ).loc cc0_stg0_0) ↦{fullShare} xstg m ρ c) ∗ (((c : Thread nD τ).loc cc0_stg1_0) ↦{fullShare} wstg m ρ c) ∗
        (((c : Thread nD τ).loc cc0_stg2_0) ↦{fullShare} istg m ρ c) ∗ (((c : Thread nD τ).loc cc0_scratch0) ↦{fullShare} g₀) ∗
        (((c : Thread nD τ).loc cc0_stg3_0) ↦{fullShare} estg m ρ c) ∗ ow c (O₀ c) ∗ dutyTok ER (barC (prv c)) 0 true ∗ dutyTok ER (barC (nxt c)) 0 false ∗
        (some' c rq0 ∗ some' c rq1 ∗ some' c rq4 ∗ some' c rq5 ∗ some' c rh1) ∗ (some' c rq2 ∗ some' c rq3 ∗ some' c rq6 ∗ some' c rq7 ∗ some' c rh0) ∗
        some' c sq0 ∗ some' c sq1 ∗ some' c sq2 ∗ some' c sq3 ∗ some' c sh0 ∗ some' c sh1 ∗ some' c o0 ∗ some' c o1 ∗ cred (tallyAt (barC c) () 2) ∗
        atPos ER (barC c) 0 ∅ 0 ∗ dutyTok ER (sC c 0) 0 false ∗ dutyTok ER (sC c 1) 0 false ∗ dutyTok ER (sC c 2) 0 false ∗ dutyTok ER (sC c 3) 0 false ∗
        dutyTok ER (sC c 4) 0 false ∗ dutyTok ER (sC c 5) 0 false ∗ dutyTok ER (sC c 6) 0 false ∗ dutyTok ER (sC c 7) 0 false ∗ dutyTok ER (sC c 8) 0 false ∗
        dutyTok ER (sC c 9) 0 false ∗ dutyTok ER (rC (peer 0 c) 0) 0 false ∗ dutyTok ER (rC (peer 1 c) 1) 0 false ∗ dutyTok ER (rC (peer 2 c) 2) 0 false ∗
        dutyTok ER (rC (peer 3 c) 3) 0 false ∗ dutyTok ER (rC (peer 4 c) 4) 0 false ∗ dutyTok ER (rC (peer 5 c) 5) 0 false ∗
        dutyTok ER (rC (peer 6 c) 6) 0 false ∗ dutyTok ER (rC (peer 7 c) 7) 0 false ∗ dutyTok ER (rC (peer 8 c) 8) 0 false ∗
        dutyTok ER (rC (peer 9 c) 9) 0 false ∗ atPos ER (sC c 0) 0 ∅ 0 ∗ atPos ER (sC c 1) 0 ∅ 0 ∗ atPos ER (sC c 2) 0 ∅ 0 ∗ atPos ER (sC c 3) 0 ∅ 0 ∗
        atPos ER (sC c 4) 0 ∅ 0 ∗ atPos ER (sC c 5) 0 ∅ 0 ∗ atPos ER (sC c 6) 0 ∅ 0 ∗ atPos ER (sC c 7) 0 ∅ 0 ∗ atPos ER (sC c 8) 0 ∅ 0 ∗
        atPos ER (sC c 9) 0 ∅ 0 ∗ atPos ER (rC c 0) 0 ∅ 0 ∗ atPos ER (rC c 1) 0 ∅ 0 ∗ atPos ER (rC c 2) 0 ∅ 0 ∗ atPos ER (rC c 3) 0 ∅ 0 ∗
        atPos ER (rC c 4) 0 ∅ 0 ∗ atPos ER (rC c 5) 0 ∅ 0 ∗ atPos ER (rC c 6) 0 ∅ 0 ∗ atPos ER (rC c 7) 0 ∅ 0 ∗ atPos ER (rC c 8) 0 ∅ 0 ∗
        atPos ER (rC c 9) 0 ∅ 0 ∗ cred (tallyAt (rC c 0) () (NN 0)) ∗ cred (tallyAt (rC c 1) () (NN 1)) ∗ cred (tallyAt (rC c 2) () (NN 2)) ∗
        cred (tallyAt (rC c 3) () (NN 3)) ∗ cred (tallyAt (rC c 4) () (NN 4)) ∗ cred (tallyAt (rC c 5) () (NN 5)) ∗ cred (tallyAt (rC c 6) () (NN 6)) ∗
        cred (tallyAt (rC c 7) () (NN 7)) ∗ cred (tallyAt (rC c 8) () (NN 8)) ∗ cred (tallyAt (rC c 9) () (NN 9)))

/-- What it holds at the end. -/
def bodyOut : sProp 𝕄 :=
  iprop(env m ρ c ∗ (((c : Thread nD τ).loc cc0_stg1_0) ↦{fullShare} wstg m ρ c) ∗ (((c : Thread nD τ).loc cc0_stg2_0) ↦{fullShare} istg m ρ c) ∗
        ow c (Or c 0) ∗ some' c sq0 ∗ some' c sq1 ∗ some' c sq2 ∗ some' c sq3 ∗ some' c sh0 ∗ some' c sh1 ∗ some' c rq0 ∗ some' c rq1 ∗ some' c rq2 ∗
        some' c rq3 ∗ some' c rq4 ∗ some' c rq5 ∗ some' c rq6 ∗ some' c rq7 ∗ some' c rh0 ∗ some' c rh1 ∗ hold c o0 (out0 m ρ c) ∗ hold c o1 (out1 m ρ c) ∗
        semVal (barC c) 0 ∗ semVal (sC c 0) 0 ∗ semVal (sC c 1) 0 ∗ semVal (sC c 2) 0 ∗ semVal (sC c 3) 0 ∗ semVal (sC c 4) 0 ∗ semVal (sC c 5) 0 ∗
        semVal (sC c 6) 0 ∗ semVal (sC c 7) 0 ∗ semVal (sC c 8) 0 ∗ semVal (sC c 9) 0 ∗ semVal (rC c 0) 0 ∗ semVal (rC c 1) 0 ∗ semVal (rC c 2) 0 ∗
        semVal (rC c 3) 0 ∗ semVal (rC c 4) 0 ∗ semVal (rC c 5) 0 ∗ semVal (rC c 6) 0 ∗ semVal (rC c 7) 0 ∗ semVal (rC c 8) 0 ∗ semVal (rC c 9) 0)

theorem body_run {hx : xM.IsWhole} {hw : wM.IsWhole} {hi : iM.IsWhole} {he : eM.IsWhole} {ho : oM.IsWhole} {hg : gM.IsWhole} {hsq : sqM.IsWhole} {hsh : shM.IsWhole} {hrq : rqM.IsWhole} {hrh : rhM.IsWhole} {Q : PUnit → sProp 𝕄} (g₀ : (cc0_scratch0 : Ref sig .tc).ty.Contents (Elt F)) :
    iprop(recs m ρ K ∗ levAts L lv ∗ bodyIn m ρ c g₀)
      ⊢ iprop((bodyOut m ρ c -∗ Q ⟨⟩) -∗ wpc c (cc0_body (F := F) xM hx wM hw iM hi eM he oM ho gM hg sqM hsq shM hsh rqM hrq rhM hrh cc0_scratch5 cc0_scratch6) Q) := by
  rw [cc0_body_eq_skeleton]
  unfold cc0_body_skel bodyIn bodyOut
  iintro ⟨#HR, #HL, x, w, i, g, ew, O, bp, bn, gp, gn, sq0, sq1, sq2, sq3, sh0, sh1, o0, o1, cb, ab, ts0, ts1, ts2, ts3, ts4, ts5, ts6, ts7, ts8, ts9, tr0, tr1, tr2, tr3, tr4, tr5, tr6, tr7, tr8, tr9, as0, as1, as2, as3, as4, as5, as6, as7, as8, as9, ar0, ar1, ar2, ar3, ar4, ar5, ar6, ar7, ar8, ar9, cr0, cr1, cr2, cr3, cr4, cr5, cr6, cr7, cr8, cr9⟩ Hk
  iapply (wpc_bind c _ _)
  iapply (run1 m ρ K c) $$ [HR x w i O bp bn gp gn]
  · isplitr; · iexact HR
    isplitl [x]; · iexact x
    isplitl [w]; · iexact w
    isplitl [i]; · iexact i
    isplitl [O]; · iexact O
    isplitl [bp]; · iexact bp
    isplitl [bn]; · iexact bn
    isplitl [gp]; · iexact gp
    iexact gn
  iintro ⟨x, w, i, O⟩
  iapply (wpc_bind c _ _)
  iapply (run2 m ρ c g₀) $$ [x g ew]
  · isplitl [x]; · iexact x
    isplitl [g]; · iexact g
    iexact ew
  iintro E
  iapply (wpc_bind c _ _)
  iapply (run3 m ρ K c) $$ [HR HL E]
  · isplitr; · iexact HR
    isplitr; · iexact HL
    iexact E
  iintro E
  iapply (wpc_bind c _ _)
  iapply (run4 m ρ K c) $$ [HR HL sq0 O cb ab ts0 tr0 E]
  · isplitr; · iexact HR
    isplitr; · iexact HL
    isplitl [sq0]; · iexact sq0
    isplitl [O]; · iexact O
    isplitl [cb]; · iexact cb
    isplitl [ab]; · iexact ab
    isplitl [ts0]; · iexact ts0
    isplitl [tr0]; · iexact tr0
    iexact E
  iintro ⟨O, p1, p2, p3, p4, p5, p6, p7, p8, p9, vb, cs0, E⟩
  iapply (wpc_bind c _ _)
  iapply (run5 m ρ K c) $$ [HR HL E]
  · isplitr; · iexact HR
    isplitr; · iexact HL
    iexact E
  iintro E
  iapply (wpc_bind c _ _)
  iapply (run6 m ρ K c) $$ [HR HL E sq1 O p1 ts1 tr1]
  · isplitr; · iexact HR
    isplitr; · iexact HL
    isplitl [E]; · iexact E
    isplitl [sq1]; · iexact sq1
    isplitl [O]; · iexact O
    isplitl [p1]; · iexact p1
    isplitl [ts1]; · iexact ts1
    iexact tr1
  iintro ⟨E, O, cs1⟩
  iapply (wpc_bind c _ _)
  iapply (run7 m ρ K c) $$ [HR HL E]
  · isplitr; · iexact HR
    isplitr; · iexact HL
    iexact E
  iintro E
  iapply (wpc_bind c _ _)
  iapply (run8 m ρ K c) $$ [HR HL E sq2 O p2 ts2 tr2]
  · isplitr; · iexact HR
    isplitr; · iexact HL
    isplitl [E]; · iexact E
    isplitl [sq2]; · iexact sq2
    isplitl [O]; · iexact O
    isplitl [p2]; · iexact p2
    isplitl [ts2]; · iexact ts2
    iexact tr2
  iintro ⟨E, O, cs2⟩
  iapply (wpc_bind c _ _)
  iapply (run9 m ρ K c) $$ [HR HL E]
  · isplitr; · iexact HR
    isplitr; · iexact HL
    iexact E
  iintro E
  iapply (wpc_bind c _ _)
  iapply (run10 m ρ K c) $$ [HR HL E sq3]
  · isplitr; · iexact HR
    isplitr; · iexact HL
    isplitl [E]; · iexact E
    iexact sq3
  iintro ⟨E, sq3⟩
  iapply (wpc_bind c _ _)
  iapply (run11 m ρ K c) $$ [HR HL O sq3 p3 ts3 tr3 E]
  · isplitr; · iexact HR
    isplitr; · iexact HL
    isplitl [O]; · iexact O
    isplitl [sq3]; · iexact sq3
    isplitl [p3]; · iexact p3
    isplitl [ts3]; · iexact ts3
    isplitl [tr3]; · iexact tr3
    iexact E
  iintro ⟨O, cs3, E⟩
  iapply (wpc_bind c _ _)
  iapply (run12 m ρ K c) $$ [HR HL E]
  · isplitr; · iexact HR
    isplitr; · iexact HL
    iexact E
  iintro E
  iapply (wpc_bind c _ _)
  iapply (run13 m ρ K c) $$ [HR HL E]
  · isplitr; · iexact HR
    isplitr; · iexact HL
    iexact E
  iintro E
  iapply (wpc_bind c _ _)
  iapply (run14 m ρ K c) $$ [HR HL E]
  · isplitr; · iexact HR
    isplitr; · iexact HL
    iexact E
  iintro E
  iapply (wpc_bind c _ _)
  iapply (run15 m ρ K c) $$ [HR HL E]
  · isplitr; · iexact HR
    isplitr; · iexact HL
    iexact E
  iintro E
  iapply (wpc_bind c _ _)
  iapply (run16 m ρ K c) $$ [HR HL E]
  · isplitr; · iexact HR
    isplitr; · iexact HL
    iexact E
  iintro E
  iapply (wpc_bind c _ _)
  iapply (run17 m ρ K c) $$ [HR HL E O cs0 as0]
  · isplitr; · iexact HR
    isplitr; · iexact HL
    isplitl [E]; · iexact E
    isplitl [O]; · iexact O
    isplitl [cs0]; · iexact cs0
    iexact as0
  iintro ⟨E, O, sq0, vs0⟩
  iapply (wpc_bind c _ _)
  iapply (run18 m ρ K c) $$ [HR HL O cr0 ar0 p4 ts4 tr4]
  · isplitr; · iexact HR
    isplitr; · iexact HL
    isplitl [O]; · iexact O
    isplitl [cr0]; · iexact cr0
    isplitl [ar0]; · iexact ar0
    isplitl [p4]; · iexact p4
    isplitl [ts4]; · iexact ts4
    iexact tr4
  iintro ⟨O, vr0, cs4⟩
  iapply (wpc_bind c _ _)
  iapply (run19 m ρ K c) $$ [HR HL O cs1 as1 cr1 ar1]
  · isplitr; · iexact HR
    isplitr; · iexact HL
    isplitl [O]; · iexact O
    isplitl [cs1]; · iexact cs1
    isplitl [as1]; · iexact as1
    isplitl [cr1]; · iexact cr1
    iexact ar1
  iintro ⟨O, sq1, vs1, rq1, vr1⟩
  iapply (wpc_bind c _ _)
  iapply (run20 m ρ K c) $$ [HR HL O rq1 p5 ts5 tr5 cs2 as2 cr2 ar2]
  · isplitr; · iexact HR
    isplitr; · iexact HL
    isplitl [O]; · iexact O
    isplitl [rq1]; · iexact rq1
    isplitl [p5]; · iexact p5
    isplitl [ts5]; · iexact ts5
    isplitl [tr5]; · iexact tr5
    isplitl [cs2]; · iexact cs2
    isplitl [as2]; · iexact as2
    isplitl [cr2]; · iexact cr2
    iexact ar2
  iintro ⟨O, cs5, sq2, vs2, rq2, vr2⟩
  iapply (wpc_bind c _ _)
  iapply (run21 m ρ K c) $$ [HR HL O rq2 p6 ts6 tr6 cs3 as3 cr3 ar3]
  · isplitr; · iexact HR
    isplitr; · iexact HL
    isplitl [O]; · iexact O
    isplitl [rq2]; · iexact rq2
    isplitl [p6]; · iexact p6
    isplitl [ts6]; · iexact ts6
    isplitl [tr6]; · iexact tr6
    isplitl [cs3]; · iexact cs3
    isplitl [as3]; · iexact as3
    isplitl [cr3]; · iexact cr3
    iexact ar3
  iintro ⟨O, cs6, sq3, vs3, rq3, vr3⟩
  iapply (wpc_bind c _ _)
  iapply (run22 m ρ K c) $$ [HR HL rq3 O p7 ts7 tr7 E]
  · isplitr; · iexact HR
    isplitr; · iexact HL
    isplitl [rq3]; · iexact rq3
    isplitl [O]; · iexact O
    isplitl [p7]; · iexact p7
    isplitl [ts7]; · iexact ts7
    isplitl [tr7]; · iexact tr7
    iexact E
  iintro ⟨O, cs7, E⟩
  iapply (wpc_bind c _ _)
  iapply (run23 m ρ K c) $$ [HR HL E]
  · isplitr; · iexact HR
    isplitr; · iexact HL
    iexact E
  iintro E
  iapply (wpc_bind c _ _)
  iapply (run24 m ρ K c) $$ [HR HL sh0 O p8 ts8 tr8 E]
  · isplitr; · iexact HR
    isplitr; · iexact HL
    isplitl [sh0]; · iexact sh0
    isplitl [O]; · iexact O
    isplitl [p8]; · iexact p8
    isplitl [ts8]; · iexact ts8
    isplitl [tr8]; · iexact tr8
    iexact E
  iintro ⟨O, cs8, E⟩
  iapply (wpc_bind c _ _)
  iapply (run25 m ρ K c) $$ [HR HL E]
  · isplitr; · iexact HR
    isplitr; · iexact HL
    iexact E
  iintro E
  iapply (wpc_bind c _ _)
  iapply (run26 m ρ K c) $$ [HR HL E sh1 O p9 ts9 tr9]
  · isplitr; · iexact HR
    isplitr; · iexact HL
    isplitl [E]; · iexact E
    isplitl [sh1]; · iexact sh1
    isplitl [O]; · iexact O
    isplitl [p9]; · iexact p9
    isplitl [ts9]; · iexact ts9
    iexact tr9
  iintro ⟨E, O, cs9⟩
  iapply (wpc_bind c _ _)
  iapply (run27 m ρ K c) $$ [HR HL E]
  · isplitr; · iexact HR
    isplitr; · iexact HL
    iexact E
  iintro E
  iapply (wpc_bind c _ _)
  iapply (run28 m ρ K c) $$ [HR HL E]
  · isplitr; · iexact HR
    isplitr; · iexact HL
    iexact E
  iintro E
  iapply (wpc_bind c _ _)
  iapply (run29 m ρ K c) $$ [HR HL E]
  · isplitr; · iexact HR
    isplitr; · iexact HL
    iexact E
  iintro E
  iapply (wpc_bind c _ _)
  iapply (run30 m ρ K c) $$ [HR HL O cs4 as4 cr4 ar4 cs5 as5]
  · isplitr; · iexact HR
    isplitr; · iexact HL
    isplitl [O]; · iexact O
    isplitl [cs4]; · iexact cs4
    isplitl [as4]; · iexact as4
    isplitl [cr4]; · iexact cr4
    isplitl [ar4]; · iexact ar4
    isplitl [cs5]; · iexact cs5
    iexact as5
  iintro ⟨O, rq0, vs4, rq4, vr4, rq1, vs5⟩
  iapply (wpc_bind c _ _)
  iapply (run31 m ρ K c) $$ [HR HL O cr5 ar5 cs8 as8 cr8 ar8 rq4]
  · isplitr; · iexact HR
    isplitr; · iexact HL
    isplitl [O]; · iexact O
    isplitl [cr5]; · iexact cr5
    isplitl [ar5]; · iexact ar5
    isplitl [cs8]; · iexact cs8
    isplitl [as8]; · iexact as8
    isplitl [cr8]; · iexact cr8
    isplitl [ar8]; · iexact ar8
    iexact rq4
  iintro ⟨O, rq5, vr5, sh0, vs8, rh0, vr8, rq4⟩
  iapply (wpc_bind c _ _)
  iapply (run32 m ρ K c) $$ [HR HL rq5 o0 O cs6 as6 cr6 ar6]
  · isplitr; · iexact HR
    isplitr; · iexact HL
    isplitl [rq5]; · iexact rq5
    isplitl [o0]; · iexact o0
    isplitl [O]; · iexact O
    isplitl [cs6]; · iexact cs6
    isplitl [as6]; · iexact as6
    isplitl [cr6]; · iexact cr6
    iexact ar6
  iintro ⟨rq5, o0, O, rq2, vs6, rq6, vr6⟩
  iapply (wpc_bind c _ _)
  iapply (run33 m ρ K c) $$ [HR HL O cs7 as7 cr7 ar7 cs9 as9 cr9 ar9]
  · isplitr; · iexact HR
    isplitr; · iexact HL
    isplitl [O]; · iexact O
    isplitl [cs7]; · iexact cs7
    isplitl [as7]; · iexact as7
    isplitl [cr7]; · iexact cr7
    isplitl [ar7]; · iexact ar7
    isplitl [cs9]; · iexact cs9
    isplitl [as9]; · iexact as9
    isplitl [cr9]; · iexact cr9
    iexact ar9
  iintro ⟨O, rq3, vs7, rq7, vr7, sh1, vs9, rh1, vr9⟩
  simp only [Prog.lift, Prog.bind_op, Prog.bind_ret, Prog.pure_eq_ret]
  iapply (ld_hold c rhM _ _) $$ rh1; iintro rh1
  iapply (ld_hold c rqM _ _) $$ rq6; iintro rq6
  iapply (ld_hold c rqM _ _) $$ rq7; iintro rq7
  iapply (ld_some c oM _) $$ o1; iintro o1
  iapply (st_some c oM _ _) $$ o1; iintro o1
  iapply (wpc_ret c _)
  iapply Hk
  isplitl [E]; · iexact E
  isplitl [w]; · iexact w
  isplitl [i]; · iexact i
  isplitl [O]; · iexact O
  isplitl [sq0]; · iexact sq0
  isplitl [sq1]; · iexact sq1
  isplitl [sq2]; · iexact sq2
  isplitl [sq3]; · iexact sq3
  isplitl [sh0]; · iexact sh0
  isplitl [sh1]; · iexact sh1
  isplitl [rq0]; · iexact rq0
  isplitl [rq1]; · iexact rq1
  isplitl [rq2]; · iexact rq2
  isplitl [rq3]; · iexact rq3
  isplitl [rq4]; · iapply (hold_some c rq4 _); iexact rq4
  isplitl [rq5]; · iapply (hold_some c rq5 _); iexact rq5
  isplitl [rq6]; · iapply (hold_some c rq6 _); iexact rq6
  isplitl [rq7]; · iapply (hold_some c rq7 _); iexact rq7
  isplitl [rh0]; · iapply (hold_some c rh0 _); iexact rh0
  isplitl [rh1]; · iapply (hold_some c rh1 _); iexact rh1
  isplitl [o0]; · iexact o0
  isplitl [o1]; · iexact o1
  isplitl [vb]; · iexact vb
  isplitl [vs0]; · iexact vs0
  isplitl [vs1]; · iexact vs1
  isplitl [vs2]; · iexact vs2
  isplitl [vs3]; · iexact vs3
  isplitl [vs4]; · iexact vs4
  isplitl [vs5]; · iexact vs5
  isplitl [vs6]; · iexact vs6
  isplitl [vs7]; · iexact vs7
  isplitl [vs8]; · iexact vs8
  isplitl [vs9]; · iexact vs9
  isplitl [vr0]; · iexact vr0
  isplitl [vr1]; · iexact vr1
  isplitl [vr2]; · iexact vr2
  isplitl [vr3]; · iexact vr3
  isplitl [vr4]; · iexact vr4
  isplitl [vr5]; · iexact vr5
  isplitl [vr6]; · iexact vr6
  isplitl [vr7]; · iexact vr7
  isplitl [vr8]; · iexact vr8
  iexact vr9

end Parts

end Cert.KernelIdeal.Run
-- ==== Proof.IdealRun.Slots.lean ====
module

public import proofs.«01_k».proof.Proof.IdealRun.PartsBase
public import Idealize.ShloMosaic.Lib.Ring

/-! # Whole buffers as their slots, and back -/

@[expose] public section

set_option maxRecDepth 65536

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-- The elements of slot `k` of the buffer: those whose leading coordinate is `k`. -/
def sqSet (k : Fin 4) : Finset S4x256x256.Idx := Finset.univ.filter fun i => (i 0).val = k.val
theorem sq_disj (k k' : Fin 4) (h : k ≠ k') : Disjoint (sqSet k) (sqSet k') := by
  rw [Finset.disjoint_left]
  intro i hi hi'
  exact h (Fin.ext ((Finset.mem_filter.mp hi).2.symm.trans (Finset.mem_filter.mp hi').2))
theorem sq_cover : Finset.univ.biUnion sqSet = Finset.univ := by
  ext i
  simp only [Finset.mem_biUnion, Finset.mem_univ, true_and, iff_true]
  exact ⟨i 0, Finset.mem_filter.mpr ⟨Finset.mem_univ _, rfl⟩⟩
theorem sq_set (k : Fin 4) (inb) : (Rect.unit (s := S4x256x256) ![k.val, 0, 0] S1x256x256.size inb).set = sqSet k := by
  ext i
  rw [Rect.mem_set_unit, sqSet, Finset.mem_filter]
  constructor
  · intro h
    have h0 := h 0
    have e : k.val ≤ (i 0).val ∧ (i 0).val < k.val + 1 := h0
    exact ⟨Finset.mem_univ _, by omega⟩
  · rintro ⟨-, h⟩ a
    have h1 := (i 1).isLt; have h2 := (i 2).isLt
    match a with
    | ⟨0, _⟩ => show k.val ≤ (i 0).val ∧ (i 0).val < k.val + 1; omega
    | ⟨1, _⟩ => exact ⟨Nat.zero_le _, (Nat.zero_add _).symm ▸ h1⟩
    | ⟨2, _⟩ => exact ⟨Nat.zero_le _, (Nat.zero_add _).symm ▸ h2⟩
theorem sq_some (k : Fin 4) (inb) :
    (some' c ((sqM : Memref sig .tc .vmem S4x256x256 .bf16).access (Rect.unit (s := S4x256x256) ![k.val, 0, 0] S1x256x256.size inb)) : sProp 𝕄)
      = iprop(∃ f : Buf (Elt F) ((c : Thread nD τ).loc cc0_scratch1), ((c : Thread nD τ).loc cc0_scratch1) ↦[sqSet k]{fullShare} f) := by
  have h : (((sqM : Memref sig .tc .vmem S4x256x256 .bf16).access (Rect.unit (s := S4x256x256) ![k.val, 0, 0] S1x256x256.size inb))).set = sqSet k :=
    (View.set_slice_whole cc0_scratch1 _).trans (sq_set k inb)
  unfold some'
  rw [h]
theorem sq0_eq : (some' c sq0 : sProp 𝕄) = iprop(∃ f : Buf (Elt F) ((c : Thread nD τ).loc cc0_scratch1), ((c : Thread nD τ).loc cc0_scratch1) ↦[sqSet 0]{fullShare} f) := sq_some c 0 _
theorem sq1_eq : (some' c sq1 : sProp 𝕄) = iprop(∃ f : Buf (Elt F) ((c : Thread nD τ).loc cc0_scratch1), ((c : Thread nD τ).loc cc0_scratch1) ↦[sqSet 1]{fullShare} f) := sq_some c 1 _
theorem sq2_eq : (some' c sq2 : sProp 𝕄) = iprop(∃ f : Buf (Elt F) ((c : Thread nD τ).loc cc0_scratch1), ((c : Thread nD τ).loc cc0_scratch1) ↦[sqSet 2]{fullShare} f) := sq_some c 2 _
theorem sq3_eq : (some' c sq3 : sProp 𝕄) = iprop(∃ f : Buf (Elt F) ((c : Thread nD τ).loc cc0_scratch1), ((c : Thread nD τ).loc cc0_scratch1) ↦[sqSet 3]{fullShare} f) := sq_some c 3 _
theorem sq_split (f : Buf (Elt F) ((c : Thread nD τ).loc cc0_scratch1)) :
    (((c : Thread nD τ).loc cc0_scratch1) ↦{fullShare} f : sProp 𝕄) ⊢ iprop(some' c sq0 ∗ some' c sq1 ∗ some' c sq2 ∗ some' c sq3) := by
  rw [Ring.pointsTo_blocks sqSet sq_disj sq_cover f, bigSep_univ_eq_bigSepL [(0 : Fin 4), (1 : Fin 4), (2 : Fin 4), (3 : Fin 4)] (by decide) (by decide)]
  show iprop((((c : Thread nD τ).loc cc0_scratch1) ↦[sqSet 0]{fullShare} f) ∗ (((c : Thread nD τ).loc cc0_scratch1) ↦[sqSet 1]{fullShare} f) ∗ (((c : Thread nD τ).loc cc0_scratch1) ↦[sqSet 2]{fullShare} f) ∗ (((c : Thread nD τ).loc cc0_scratch1) ↦[sqSet 3]{fullShare} f)) ⊢ _
  iintro ⟨h0, h1, h2, h3⟩
  isplitl [h0]; · iapply (Entails.of_eq (sq0_eq c).symm); iexists f; iexact h0
  isplitl [h1]; · iapply (Entails.of_eq (sq1_eq c).symm); iexists f; iexact h1
  isplitl [h2]; · iapply (Entails.of_eq (sq2_eq c).symm); iexists f; iexact h2
  iapply (Entails.of_eq (sq3_eq c).symm); iexists f; iexact h3
theorem sq_join :
    (iprop(some' c sq0 ∗ some' c sq1 ∗ some' c sq2 ∗ some' c sq3) : sProp 𝕄) ⊢ iprop(∃ f : Buf (Elt F) ((c : Thread nD τ).loc cc0_scratch1), ((c : Thread nD τ).loc cc0_scratch1) ↦{fullShare} f) := by
  iintro ⟨h0, h1, h2, h3⟩
  ihave h0 := (Entails.of_eq (sq0_eq c)) $$ h0
  ihave h1 := (Entails.of_eq (sq1_eq c)) $$ h1
  ihave h2 := (Entails.of_eq (sq2_eq c)) $$ h2
  ihave h3 := (Entails.of_eq (sq3_eq c)) $$ h3
  icases h0 with ⟨%f₀, h0⟩
  have key := Ring.pointsTo_blocks_join_exists (Ix := Unit) (Name := ℕ) (U := UU) (Lvl := ℕ) sqSet sq_disj sq_cover (q := fullShare) f₀
  rw [bigSep_univ_eq_bigSepL [(0 : Fin 4), (1 : Fin 4), (2 : Fin 4), (3 : Fin 4)] (by decide) (by decide)] at key
  have key' : iprop((∃ f : Buf (Elt F) ((c : Thread nD τ).loc cc0_scratch1), ((c : Thread nD τ).loc cc0_scratch1) ↦[sqSet 0]{fullShare} f) ∗ (∃ f : Buf (Elt F) ((c : Thread nD τ).loc cc0_scratch1), ((c : Thread nD τ).loc cc0_scratch1) ↦[sqSet 1]{fullShare} f) ∗ (∃ f : Buf (Elt F) ((c : Thread nD τ).loc cc0_scratch1), ((c : Thread nD τ).loc cc0_scratch1) ↦[sqSet 2]{fullShare} f) ∗ (∃ f : Buf (Elt F) ((c : Thread nD τ).loc cc0_scratch1), ((c : Thread nD τ).loc cc0_scratch1) ↦[sqSet 3]{fullShare} f)) ⊢ (iprop(∃ g : Buf (Elt F) ((c : Thread nD τ).loc cc0_scratch1), ((c : Thread nD τ).loc cc0_scratch1) ↦{fullShare} g) : sProp 𝕄) := key
  iapply key'
  isplitl [h0]; · iexists f₀; iexact h0
  isplitl [h1]; · iexact h1
  isplitl [h2]; · iexact h2
  iexact h3

/-- The elements of slot `k` of the buffer: those whose leading coordinate is `k`. -/
def shSet (k : Fin 2) : Finset S2x256x512.Idx := Finset.univ.filter fun i => (i 0).val = k.val
theorem sh_disj (k k' : Fin 2) (h : k ≠ k') : Disjoint (shSet k) (shSet k') := by
  rw [Finset.disjoint_left]
  intro i hi hi'
  exact h (Fin.ext ((Finset.mem_filter.mp hi).2.symm.trans (Finset.mem_filter.mp hi').2))
theorem sh_cover : Finset.univ.biUnion shSet = Finset.univ := by
  ext i
  simp only [Finset.mem_biUnion, Finset.mem_univ, true_and, iff_true]
  exact ⟨i 0, Finset.mem_filter.mpr ⟨Finset.mem_univ _, rfl⟩⟩
theorem sh_set (k : Fin 2) (inb) : (Rect.unit (s := S2x256x512) ![k.val, 0, 0] S1x256x512.size inb).set = shSet k := by
  ext i
  rw [Rect.mem_set_unit, shSet, Finset.mem_filter]
  constructor
  · intro h
    have h0 := h 0
    have e : k.val ≤ (i 0).val ∧ (i 0).val < k.val + 1 := h0
    exact ⟨Finset.mem_univ _, by omega⟩
  · rintro ⟨-, h⟩ a
    have h1 := (i 1).isLt; have h2 := (i 2).isLt
    match a with
    | ⟨0, _⟩ => show k.val ≤ (i 0).val ∧ (i 0).val < k.val + 1; omega
    | ⟨1, _⟩ => exact ⟨Nat.zero_le _, (Nat.zero_add _).symm ▸ h1⟩
    | ⟨2, _⟩ => exact ⟨Nat.zero_le _, (Nat.zero_add _).symm ▸ h2⟩
theorem sh_some (k : Fin 2) (inb) :
    (some' c ((shM : Memref sig .tc .vmem S2x256x512 .bf16).access (Rect.unit (s := S2x256x512) ![k.val, 0, 0] S1x256x512.size inb)) : sProp 𝕄)
      = iprop(∃ f : Buf (Elt F) ((c : Thread nD τ).loc cc0_scratch2), ((c : Thread nD τ).loc cc0_scratch2) ↦[shSet k]{fullShare} f) := by
  have h : (((shM : Memref sig .tc .vmem S2x256x512 .bf16).access (Rect.unit (s := S2x256x512) ![k.val, 0, 0] S1x256x512.size inb))).set = shSet k :=
    (View.set_slice_whole cc0_scratch2 _).trans (sh_set k inb)
  unfold some'
  rw [h]
theorem sh0_eq : (some' c sh0 : sProp 𝕄) = iprop(∃ f : Buf (Elt F) ((c : Thread nD τ).loc cc0_scratch2), ((c : Thread nD τ).loc cc0_scratch2) ↦[shSet 0]{fullShare} f) := sh_some c 0 _
theorem sh1_eq : (some' c sh1 : sProp 𝕄) = iprop(∃ f : Buf (Elt F) ((c : Thread nD τ).loc cc0_scratch2), ((c : Thread nD τ).loc cc0_scratch2) ↦[shSet 1]{fullShare} f) := sh_some c 1 _
theorem sh_split (f : Buf (Elt F) ((c : Thread nD τ).loc cc0_scratch2)) :
    (((c : Thread nD τ).loc cc0_scratch2) ↦{fullShare} f : sProp 𝕄) ⊢ iprop(some' c sh0 ∗ some' c sh1) := by
  rw [Ring.pointsTo_blocks shSet sh_disj sh_cover f, bigSep_univ_eq_bigSepL [(0 : Fin 2), (1 : Fin 2)] (by decide) (by decide)]
  show iprop((((c : Thread nD τ).loc cc0_scratch2) ↦[shSet 0]{fullShare} f) ∗ (((c : Thread nD τ).loc cc0_scratch2) ↦[shSet 1]{fullShare} f)) ⊢ _
  iintro ⟨h0, h1⟩
  isplitl [h0]; · iapply (Entails.of_eq (sh0_eq c).symm); iexists f; iexact h0
  iapply (Entails.of_eq (sh1_eq c).symm); iexists f; iexact h1
theorem sh_join :
    (iprop(some' c sh0 ∗ some' c sh1) : sProp 𝕄) ⊢ iprop(∃ f : Buf (Elt F) ((c : Thread nD τ).loc cc0_scratch2), ((c : Thread nD τ).loc cc0_scratch2) ↦{fullShare} f) := by
  iintro ⟨h0, h1⟩
  ihave h0 := (Entails.of_eq (sh0_eq c)) $$ h0
  ihave h1 := (Entails.of_eq (sh1_eq c)) $$ h1
  icases h0 with ⟨%f₀, h0⟩
  have key := Ring.pointsTo_blocks_join_exists (Ix := Unit) (Name := ℕ) (U := UU) (Lvl := ℕ) shSet sh_disj sh_cover (q := fullShare) f₀
  rw [bigSep_univ_eq_bigSepL [(0 : Fin 2), (1 : Fin 2)] (by decide) (by decide)] at key
  have key' : iprop((∃ f : Buf (Elt F) ((c : Thread nD τ).loc cc0_scratch2), ((c : Thread nD τ).loc cc0_scratch2) ↦[shSet 0]{fullShare} f) ∗ (∃ f : Buf (Elt F) ((c : Thread nD τ).loc cc0_scratch2), ((c : Thread nD τ).loc cc0_scratch2) ↦[shSet 1]{fullShare} f)) ⊢ (iprop(∃ g : Buf (Elt F) ((c : Thread nD τ).loc cc0_scratch2), ((c : Thread nD τ).loc cc0_scratch2) ↦{fullShare} g) : sProp 𝕄) := key
  iapply key'
  isplitl [h0]; · iexists f₀; iexact h0
  iexact h1

/-- The elements of slot `k` of the buffer: those whose leading coordinate is `k`. -/
def rqSet (k : Fin 8) : Finset S8x256x256.Idx := Finset.univ.filter fun i => (i 0).val = k.val
theorem rq_disj (k k' : Fin 8) (h : k ≠ k') : Disjoint (rqSet k) (rqSet k') := by
  rw [Finset.disjoint_left]
  intro i hi hi'
  exact h (Fin.ext ((Finset.mem_filter.mp hi).2.symm.trans (Finset.mem_filter.mp hi').2))
theorem rq_cover : Finset.univ.biUnion rqSet = Finset.univ := by
  ext i
  simp only [Finset.mem_biUnion, Finset.mem_univ, true_and, iff_true]
  exact ⟨i 0, Finset.mem_filter.mpr ⟨Finset.mem_univ _, rfl⟩⟩
theorem rq_set (k : Fin 8) (inb) : (Rect.unit (s := S8x256x256) ![k.val, 0, 0] S1x256x256.size inb).set = rqSet k := by
  ext i
  rw [Rect.mem_set_unit, rqSet, Finset.mem_filter]
  constructor
  · intro h
    have h0 := h 0
    have e : k.val ≤ (i 0).val ∧ (i 0).val < k.val + 1 := h0
    exact ⟨Finset.mem_univ _, by omega⟩
  · rintro ⟨-, h⟩ a
    have h1 := (i 1).isLt; have h2 := (i 2).isLt
    match a with
    | ⟨0, _⟩ => show k.val ≤ (i 0).val ∧ (i 0).val < k.val + 1; omega
    | ⟨1, _⟩ => exact ⟨Nat.zero_le _, (Nat.zero_add _).symm ▸ h1⟩
    | ⟨2, _⟩ => exact ⟨Nat.zero_le _, (Nat.zero_add _).symm ▸ h2⟩
theorem rq_some (k : Fin 8) (inb) :
    (some' c ((rqM : Memref sig .tc .vmem S8x256x256 .bf16).access (Rect.unit (s := S8x256x256) ![k.val, 0, 0] S1x256x256.size inb)) : sProp 𝕄)
      = iprop(∃ f : Buf (Elt F) ((c : Thread nD τ).loc cc0_scratch3), ((c : Thread nD τ).loc cc0_scratch3) ↦[rqSet k]{fullShare} f) := by
  have h : (((rqM : Memref sig .tc .vmem S8x256x256 .bf16).access (Rect.unit (s := S8x256x256) ![k.val, 0, 0] S1x256x256.size inb))).set = rqSet k :=
    (View.set_slice_whole cc0_scratch3 _).trans (rq_set k inb)
  unfold some'
  rw [h]
theorem rq0_eq : (some' c rq0 : sProp 𝕄) = iprop(∃ f : Buf (Elt F) ((c : Thread nD τ).loc cc0_scratch3), ((c : Thread nD τ).loc cc0_scratch3) ↦[rqSet 0]{fullShare} f) := rq_some c 0 _
theorem rq1_eq : (some' c rq1 : sProp 𝕄) = iprop(∃ f : Buf (Elt F) ((c : Thread nD τ).loc cc0_scratch3), ((c : Thread nD τ).loc cc0_scratch3) ↦[rqSet 1]{fullShare} f) := rq_some c 1 _
theorem rq2_eq : (some' c rq2 : sProp 𝕄) = iprop(∃ f : Buf (Elt F) ((c : Thread nD τ).loc cc0_scratch3), ((c : Thread nD τ).loc cc0_scratch3) ↦[rqSet 2]{fullShare} f) := rq_some c 2 _
theorem rq3_eq : (some' c rq3 : sProp 𝕄) = iprop(∃ f : Buf (Elt F) ((c : Thread nD τ).loc cc0_scratch3), ((c : Thread nD τ).loc cc0_scratch3) ↦[rqSet 3]{fullShare} f) := rq_some c 3 _
theorem rq4_eq : (some' c rq4 : sProp 𝕄) = iprop(∃ f : Buf (Elt F) ((c : Thread nD τ).loc cc0_scratch3), ((c : Thread nD τ).loc cc0_scratch3) ↦[rqSet 4]{fullShare} f) := rq_some c 4 _
theorem rq5_eq : (some' c rq5 : sProp 𝕄) = iprop(∃ f : Buf (Elt F) ((c : Thread nD τ).loc cc0_scratch3), ((c : Thread nD τ).loc cc0_scratch3) ↦[rqSet 5]{fullShare} f) := rq_some c 5 _
theorem rq6_eq : (some' c rq6 : sProp 𝕄) = iprop(∃ f : Buf (Elt F) ((c : Thread nD τ).loc cc0_scratch3), ((c : Thread nD τ).loc cc0_scratch3) ↦[rqSet 6]{fullShare} f) := rq_some c 6 _
theorem rq7_eq : (some' c rq7 : sProp 𝕄) = iprop(∃ f : Buf (Elt F) ((c : Thread nD τ).loc cc0_scratch3), ((c : Thread nD τ).loc cc0_scratch3) ↦[rqSet 7]{fullShare} f) := rq_some c 7 _
theorem rq_split (f : Buf (Elt F) ((c : Thread nD τ).loc cc0_scratch3)) :
    (((c : Thread nD τ).loc cc0_scratch3) ↦{fullShare} f : sProp 𝕄) ⊢ iprop(some' c rq0 ∗ some' c rq1 ∗ some' c rq2 ∗ some' c rq3 ∗ some' c rq4 ∗ some' c rq5 ∗ some' c rq6 ∗ some' c rq7) := by
  rw [Ring.pointsTo_blocks rqSet rq_disj rq_cover f, bigSep_univ_eq_bigSepL [(0 : Fin 8), (1 : Fin 8), (2 : Fin 8), (3 : Fin 8), (4 : Fin 8), (5 : Fin 8), (6 : Fin 8), (7 : Fin 8)] (by decide) (by decide)]
  show iprop((((c : Thread nD τ).loc cc0_scratch3) ↦[rqSet 0]{fullShare} f) ∗ (((c : Thread nD τ).loc cc0_scratch3) ↦[rqSet 1]{fullShare} f) ∗ (((c : Thread nD τ).loc cc0_scratch3) ↦[rqSet 2]{fullShare} f) ∗ (((c : Thread nD τ).loc cc0_scratch3) ↦[rqSet 3]{fullShare} f) ∗ (((c : Thread nD τ).loc cc0_scratch3) ↦[rqSet 4]{fullShare} f) ∗ (((c : Thread nD τ).loc cc0_scratch3) ↦[rqSet 5]{fullShare} f) ∗ (((c : Thread nD τ).loc cc0_scratch3) ↦[rqSet 6]{fullShare} f) ∗ (((c : Thread nD τ).loc cc0_scratch3) ↦[rqSet 7]{fullShare} f)) ⊢ _
  iintro ⟨h0, h1, h2, h3, h4, h5, h6, h7⟩
  isplitl [h0]; · iapply (Entails.of_eq (rq0_eq c).symm); iexists f; iexact h0
  isplitl [h1]; · iapply (Entails.of_eq (rq1_eq c).symm); iexists f; iexact h1
  isplitl [h2]; · iapply (Entails.of_eq (rq2_eq c).symm); iexists f; iexact h2
  isplitl [h3]; · iapply (Entails.of_eq (rq3_eq c).symm); iexists f; iexact h3
  isplitl [h4]; · iapply (Entails.of_eq (rq4_eq c).symm); iexists f; iexact h4
  isplitl [h5]; · iapply (Entails.of_eq (rq5_eq c).symm); iexists f; iexact h5
  isplitl [h6]; · iapply (Entails.of_eq (rq6_eq c).symm); iexists f; iexact h6
  iapply (Entails.of_eq (rq7_eq c).symm); iexists f; iexact h7
theorem rq_join :
    (iprop(some' c rq0 ∗ some' c rq1 ∗ some' c rq2 ∗ some' c rq3 ∗ some' c rq4 ∗ some' c rq5 ∗ some' c rq6 ∗ some' c rq7) : sProp 𝕄) ⊢ iprop(∃ f : Buf (Elt F) ((c : Thread nD τ).loc cc0_scratch3), ((c : Thread nD τ).loc cc0_scratch3) ↦{fullShare} f) := by
  iintro ⟨h0, h1, h2, h3, h4, h5, h6, h7⟩
  ihave h0 := (Entails.of_eq (rq0_eq c)) $$ h0
  ihave h1 := (Entails.of_eq (rq1_eq c)) $$ h1
  ihave h2 := (Entails.of_eq (rq2_eq c)) $$ h2
  ihave h3 := (Entails.of_eq (rq3_eq c)) $$ h3
  ihave h4 := (Entails.of_eq (rq4_eq c)) $$ h4
  ihave h5 := (Entails.of_eq (rq5_eq c)) $$ h5
  ihave h6 := (Entails.of_eq (rq6_eq c)) $$ h6
  ihave h7 := (Entails.of_eq (rq7_eq c)) $$ h7
  icases h0 with ⟨%f₀, h0⟩
  have key := Ring.pointsTo_blocks_join_exists (Ix := Unit) (Name := ℕ) (U := UU) (Lvl := ℕ) rqSet rq_disj rq_cover (q := fullShare) f₀
  rw [bigSep_univ_eq_bigSepL [(0 : Fin 8), (1 : Fin 8), (2 : Fin 8), (3 : Fin 8), (4 : Fin 8), (5 : Fin 8), (6 : Fin 8), (7 : Fin 8)] (by decide) (by decide)] at key
  have key' : iprop((∃ f : Buf (Elt F) ((c : Thread nD τ).loc cc0_scratch3), ((c : Thread nD τ).loc cc0_scratch3) ↦[rqSet 0]{fullShare} f) ∗ (∃ f : Buf (Elt F) ((c : Thread nD τ).loc cc0_scratch3), ((c : Thread nD τ).loc cc0_scratch3) ↦[rqSet 1]{fullShare} f) ∗ (∃ f : Buf (Elt F) ((c : Thread nD τ).loc cc0_scratch3), ((c : Thread nD τ).loc cc0_scratch3) ↦[rqSet 2]{fullShare} f) ∗ (∃ f : Buf (Elt F) ((c : Thread nD τ).loc cc0_scratch3), ((c : Thread nD τ).loc cc0_scratch3) ↦[rqSet 3]{fullShare} f) ∗ (∃ f : Buf (Elt F) ((c : Thread nD τ).loc cc0_scratch3), ((c : Thread nD τ).loc cc0_scratch3) ↦[rqSet 4]{fullShare} f) ∗ (∃ f : Buf (Elt F) ((c : Thread nD τ).loc cc0_scratch3), ((c : Thread nD τ).loc cc0_scratch3) ↦[rqSet 5]{fullShare} f) ∗ (∃ f : Buf (Elt F) ((c : Thread nD τ).loc cc0_scratch3), ((c : Thread nD τ).loc cc0_scratch3) ↦[rqSet 6]{fullShare} f) ∗ (∃ f : Buf (Elt F) ((c : Thread nD τ).loc cc0_scratch3), ((c : Thread nD τ).loc cc0_scratch3) ↦[rqSet 7]{fullShare} f)) ⊢ (iprop(∃ g : Buf (Elt F) ((c : Thread nD τ).loc cc0_scratch3), ((c : Thread nD τ).loc cc0_scratch3) ↦{fullShare} g) : sProp 𝕄) := key
  iapply key'
  isplitl [h0]; · iexists f₀; iexact h0
  isplitl [h1]; · iexact h1
  isplitl [h2]; · iexact h2
  isplitl [h3]; · iexact h3
  isplitl [h4]; · iexact h4
  isplitl [h5]; · iexact h5
  isplitl [h6]; · iexact h6
  iexact h7

/-- The elements of slot `k` of the buffer: those whose leading coordinate is `k`. -/
def rhSet (k : Fin 2) : Finset S2x256x512.Idx := Finset.univ.filter fun i => (i 0).val = k.val
theorem rh_disj (k k' : Fin 2) (h : k ≠ k') : Disjoint (rhSet k) (rhSet k') := by
  rw [Finset.disjoint_left]
  intro i hi hi'
  exact h (Fin.ext ((Finset.mem_filter.mp hi).2.symm.trans (Finset.mem_filter.mp hi').2))
theorem rh_cover : Finset.univ.biUnion rhSet = Finset.univ := by
  ext i
  simp only [Finset.mem_biUnion, Finset.mem_univ, true_and, iff_true]
  exact ⟨i 0, Finset.mem_filter.mpr ⟨Finset.mem_univ _, rfl⟩⟩
theorem rh_set (k : Fin 2) (inb) : (Rect.unit (s := S2x256x512) ![k.val, 0, 0] S1x256x512.size inb).set = rhSet k := by
  ext i
  rw [Rect.mem_set_unit, rhSet, Finset.mem_filter]
  constructor
  · intro h
    have h0 := h 0
    have e : k.val ≤ (i 0).val ∧ (i 0).val < k.val + 1 := h0
    exact ⟨Finset.mem_univ _, by omega⟩
  · rintro ⟨-, h⟩ a
    have h1 := (i 1).isLt; have h2 := (i 2).isLt
    match a with
    | ⟨0, _⟩ => show k.val ≤ (i 0).val ∧ (i 0).val < k.val + 1; omega
    | ⟨1, _⟩ => exact ⟨Nat.zero_le _, (Nat.zero_add _).symm ▸ h1⟩
    | ⟨2, _⟩ => exact ⟨Nat.zero_le _, (Nat.zero_add _).symm ▸ h2⟩
theorem rh_some (k : Fin 2) (inb) :
    (some' c ((rhM : Memref sig .tc .vmem S2x256x512 .bf16).access (Rect.unit (s := S2x256x512) ![k.val, 0, 0] S1x256x512.size inb)) : sProp 𝕄)
      = iprop(∃ f : Buf (Elt F) ((c : Thread nD τ).loc cc0_scratch4), ((c : Thread nD τ).loc cc0_scratch4) ↦[rhSet k]{fullShare} f) := by
  have h : (((rhM : Memref sig .tc .vmem S2x256x512 .bf16).access (Rect.unit (s := S2x256x512) ![k.val, 0, 0] S1x256x512.size inb))).set = rhSet k :=
    (View.set_slice_whole cc0_scratch4 _).trans (rh_set k inb)
  unfold some'
  rw [h]
theorem rh0_eq : (some' c rh0 : sProp 𝕄) = iprop(∃ f : Buf (Elt F) ((c : Thread nD τ).loc cc0_scratch4), ((c : Thread nD τ).loc cc0_scratch4) ↦[rhSet 0]{fullShare} f) := rh_some c 0 _
theorem rh1_eq : (some' c rh1 : sProp 𝕄) = iprop(∃ f : Buf (Elt F) ((c : Thread nD τ).loc cc0_scratch4), ((c : Thread nD τ).loc cc0_scratch4) ↦[rhSet 1]{fullShare} f) := rh_some c 1 _
theorem rh_split (f : Buf (Elt F) ((c : Thread nD τ).loc cc0_scratch4)) :
    (((c : Thread nD τ).loc cc0_scratch4) ↦{fullShare} f : sProp 𝕄) ⊢ iprop(some' c rh0 ∗ some' c rh1) := by
  rw [Ring.pointsTo_blocks rhSet rh_disj rh_cover f, bigSep_univ_eq_bigSepL [(0 : Fin 2), (1 : Fin 2)] (by decide) (by decide)]
  show iprop((((c : Thread nD τ).loc cc0_scratch4) ↦[rhSet 0]{fullShare} f) ∗ (((c : Thread nD τ).loc cc0_scratch4) ↦[rhSet 1]{fullShare} f)) ⊢ _
  iintro ⟨h0, h1⟩
  isplitl [h0]; · iapply (Entails.of_eq (rh0_eq c).symm); iexists f; iexact h0
  iapply (Entails.of_eq (rh1_eq c).symm); iexists f; iexact h1
theorem rh_join :
    (iprop(some' c rh0 ∗ some' c rh1) : sProp 𝕄) ⊢ iprop(∃ f : Buf (Elt F) ((c : Thread nD τ).loc cc0_scratch4), ((c : Thread nD τ).loc cc0_scratch4) ↦{fullShare} f) := by
  iintro ⟨h0, h1⟩
  ihave h0 := (Entails.of_eq (rh0_eq c)) $$ h0
  ihave h1 := (Entails.of_eq (rh1_eq c)) $$ h1
  icases h0 with ⟨%f₀, h0⟩
  have key := Ring.pointsTo_blocks_join_exists (Ix := Unit) (Name := ℕ) (U := UU) (Lvl := ℕ) rhSet rh_disj rh_cover (q := fullShare) f₀
  rw [bigSep_univ_eq_bigSepL [(0 : Fin 2), (1 : Fin 2)] (by decide) (by decide)] at key
  have key' : iprop((∃ f : Buf (Elt F) ((c : Thread nD τ).loc cc0_scratch4), ((c : Thread nD τ).loc cc0_scratch4) ↦[rhSet 0]{fullShare} f) ∗ (∃ f : Buf (Elt F) ((c : Thread nD τ).loc cc0_scratch4), ((c : Thread nD τ).loc cc0_scratch4) ↦[rhSet 1]{fullShare} f)) ⊢ (iprop(∃ g : Buf (Elt F) ((c : Thread nD τ).loc cc0_scratch4), ((c : Thread nD τ).loc cc0_scratch4) ↦{fullShare} g) : sProp 𝕄) := key
  iapply key'
  isplitl [h0]; · iexists f₀; iexact h0
  iexact h1

/-! ## The result's two column halves -/

def loSet : Finset S256x1024.Idx := Finset.univ.filter fun i => (i 1).val < 512
def hiSet : Finset S256x1024.Idx := Finset.univ.filter fun i => ¬ (i 1).val < 512
theorem lo_hi_disj : Disjoint loSet hiSet := Finset.disjoint_filter_filter_not _ _ _
theorem lo_hi_cover : loSet ∪ hiSet = Finset.univ := Finset.filter_union_filter_not_eq _ _
theorem o0_set : (o0 : View sig .tc .vmem S256x512 .f32).set = loSet := by
  refine (View.set_slice_whole cc0_stg4_0 _).trans ?_
  ext i
  rw [Rect.mem_set_unit, loSet, Finset.mem_filter]
  have h0 := (i 0).isLt
  constructor
  · intro h; exact ⟨Finset.mem_univ _, by have := (h 1).2; have e : (i 1).val < 0 + 512 := this; omega⟩
  · rintro ⟨-, h⟩ a
    match a with
    | ⟨0, _⟩ => exact ⟨Nat.zero_le _, (Nat.zero_add _).symm ▸ h0⟩
    | ⟨1, _⟩ => exact ⟨Nat.zero_le _, by show (i 1).val < 0 + 512; omega⟩
theorem o1_set : (o1 : View sig .tc .vmem S256x512 .f32).set = hiSet := by
  refine (View.set_slice_whole cc0_stg4_0 _).trans ?_
  ext i
  rw [Rect.mem_set_unit, hiSet, Finset.mem_filter]
  have h0 := (i 0).isLt
  have h1 : (i 1).val < 1024 := (i 1).isLt
  constructor
  · intro h; exact ⟨Finset.mem_univ _, by have : 512 ≤ (i 1).val := (h 1).1; omega⟩
  · rintro ⟨-, h⟩ a
    match a with
    | ⟨0, _⟩ => exact ⟨Nat.zero_le _, (Nat.zero_add _).symm ▸ h0⟩
    | ⟨1, _⟩ => show 512 ≤ (i 1).val ∧ (i 1).val < 512 + 512; omega
theorem o_split (f : Buf (Elt F) ((c : Thread nD τ).loc cc0_stg4_0)) :
    (((c : Thread nD τ).loc cc0_stg4_0) ↦{fullShare} f : sProp 𝕄) ⊢ iprop(some' c o0 ∗ some' c o1) := by
  unfold some'
  rw [o0_set, o1_set]
  have h : (((c : Thread nD τ).loc cc0_stg4_0) ↦[loSet ∪ hiSet]{fullShare} f : sProp 𝕄) ⊢ _ := (pointsTo_union lo_hi_disj).1
  rw [lo_hi_cover] at h
  refine h.trans ?_
  iintro ⟨h0, h1⟩
  isplitl [h0]
  · iexists f; iexact h0
  iexists f; iexact h1
theorem read_o0 : (o0 : View sig .tc .vmem S256x512 .f32).read (Elt F) (outAt m ρ c) = out0 m ρ c := by
  funext x
  have h1 : (x 1).val < 512 := (x 1).isLt
  rw [View.read_apply]
  have e1 : (((o0 : View sig .tc .vmem S256x512 .f32).emb x) 1).val = (x 1).val := by
    show 0 + 1 * (x 1).val = _; omega
  unfold outAt
  rw [dif_pos (by rw [e1]; exact h1)]
  refine congrArg (out0 m ρ c) (funext fun a => ?_)
  match a with
  | ⟨0, _⟩ => exact Fin.ext ((Nat.zero_add _).trans (Nat.one_mul _))
  | ⟨1, _⟩ => exact Fin.ext e1
theorem read_o1 : (o1 : View sig .tc .vmem S256x512 .f32).read (Elt F) (outAt m ρ c) = out1 m ρ c := by
  funext x
  have h1 : (x 1).val < 512 := (x 1).isLt
  rw [View.read_apply]
  have e1 : (((o1 : View sig .tc .vmem S256x512 .f32).emb x) 1).val = 512 + (x 1).val := by
    show 512 + 1 * (x 1).val = _; omega
  unfold outAt
  rw [dif_neg (by rw [e1]; omega)]
  refine congrArg (out1 m ρ c) (funext fun a => ?_)
  match a with
  | ⟨0, _⟩ => exact Fin.ext ((Nat.zero_add _).trans (Nat.one_mul _))
  | ⟨1, _⟩ => exact Fin.ext (by show (((o1 : View sig .tc .vmem S256x512 .f32).emb x) 1).val - 512 = _; rw [e1]; exact Nat.add_sub_cancel_left _ _)
omit [FloatOps F] in
theorem hold_at {s : Shape} {e : EltTy} (v : View sig .tc .vmem s e) (g : Buf (Elt F) (v.loc (c : Thread nD τ))) :
    (hold c v (v.read (Elt F) g) : sProp 𝕄) ⊢ (v.loc (c : Thread nD τ) ↦[v.set]{fullShare} g) := by
  unfold hold
  iintro ⟨%f, %h, H⟩
  have e : (v.loc (c : Thread nD τ) ↦[v.set]{fullShare} f : sProp 𝕄) = (v.loc (c : Thread nD τ) ↦[v.set]{fullShare} g) := by
    refine pointsTo_congr fun i hi => ?_
    obtain ⟨x, -, rfl⟩ := Finset.mem_map.mp hi
    have := congrFun h x
    rw [View.read_apply, View.read_apply] at this
    exact (cast_inj _).mp this
  iapply (Entails.of_eq e); iexact H
theorem o_join :
    (iprop(hold c o0 (out0 m ρ c) ∗ hold c o1 (out1 m ρ c)) : sProp 𝕄) ⊢ (((c : Thread nD τ).loc cc0_stg4_0) ↦{fullShare} outAt m ρ c) := by
  have h0 := hold_at (F := F) c o0 (outAt m ρ c)
  have h1 := hold_at (F := F) c o1 (outAt m ρ c)
  rw [read_o0, o0_set] at h0
  rw [read_o1, o1_set] at h1
  have h : _ ⊢ (((c : Thread nD τ).loc cc0_stg4_0) ↦[loSet ∪ hiSet]{fullShare} outAt m ρ c : sProp 𝕄) := (pointsTo_union lo_hi_disj).2
  rw [lo_hi_cover] at h
  refine BIBase.Entails.trans ?_ h
  iintro ⟨H0, H1⟩
  isplitl [H0]
  · iapply h0; iexact H0
  iapply h1; iexact H1

end Cert.KernelIdeal.Run
-- ==== Proof.IdealRun.Launch.lean ====
module

public import proofs.«01_k».proof.Proof.IdealRun.Body
public import proofs.«01_k».proof.Proof.IdealRun.Slots
public import Idealize.ShloMosaic.Lib.Pipeline.CollectiveSegs

/-! # The launch: from the memory at launch to the run of the whole program -/

@[expose] public section

set_option maxRecDepth 65536

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one pipeline -/

/-- What device `c` is dealt of the protocol's ghost state: its own cells' positions and the tokens of the duties it pays. -/
def lin (c : Dev nD) : sProp 𝕄 :=
  iprop(dutyTok ER (barC (prv c)) 0 true ∗ dutyTok ER (barC (nxt c)) 0 false ∗ atPos ER (barC c) 0 ∅ 0 ∗ dutyTok ER (sC c 0) 0 false ∗
      dutyTok ER (sC c 1) 0 false ∗ dutyTok ER (sC c 2) 0 false ∗ dutyTok ER (sC c 3) 0 false ∗ dutyTok ER (sC c 4) 0 false ∗ dutyTok ER (sC c 5) 0 false ∗
      dutyTok ER (sC c 6) 0 false ∗ dutyTok ER (sC c 7) 0 false ∗ dutyTok ER (sC c 8) 0 false ∗ dutyTok ER (sC c 9) 0 false ∗
      dutyTok ER (rC (peer 0 c) 0) 0 false ∗ dutyTok ER (rC (peer 1 c) 1) 0 false ∗ dutyTok ER (rC (peer 2 c) 2) 0 false ∗
      dutyTok ER (rC (peer 3 c) 3) 0 false ∗ dutyTok ER (rC (peer 4 c) 4) 0 false ∗ dutyTok ER (rC (peer 5 c) 5) 0 false ∗
      dutyTok ER (rC (peer 6 c) 6) 0 false ∗ dutyTok ER (rC (peer 7 c) 7) 0 false ∗ dutyTok ER (rC (peer 8 c) 8) 0 false ∗
      dutyTok ER (rC (peer 9 c) 9) 0 false ∗ atPos ER (sC c 0) 0 ∅ 0 ∗ atPos ER (sC c 1) 0 ∅ 0 ∗ atPos ER (sC c 2) 0 ∅ 0 ∗ atPos ER (sC c 3) 0 ∅ 0 ∗
      atPos ER (sC c 4) 0 ∅ 0 ∗ atPos ER (sC c 5) 0 ∅ 0 ∗ atPos ER (sC c 6) 0 ∅ 0 ∗ atPos ER (sC c 7) 0 ∅ 0 ∗ atPos ER (sC c 8) 0 ∅ 0 ∗
      atPos ER (sC c 9) 0 ∅ 0 ∗ atPos ER (rC c 0) 0 ∅ 0 ∗ atPos ER (rC c 1) 0 ∅ 0 ∗ atPos ER (rC c 2) 0 ∅ 0 ∗ atPos ER (rC c 3) 0 ∅ 0 ∗
      atPos ER (rC c 4) 0 ∅ 0 ∗ atPos ER (rC c 5) 0 ∅ 0 ∗ atPos ER (rC c 6) 0 ∅ 0 ∗ atPos ER (rC c 7) 0 ∅ 0 ∗ atPos ER (rC c 8) 0 ∅ 0 ∗
      atPos ER (rC c 9) 0 ∅ 0)

/-- The credit device `c` starts with: its barrier's two units and its ten receive cells' amounts. -/
def crd (c : Dev nD) : sProp 𝕄 :=
  iprop(cred (tallyAt (barC c) () 2) ∗ cred (tallyAt (rC c 0) () (NN 0)) ∗ cred (tallyAt (rC c 1) () (NN 1)) ∗ cred (tallyAt (rC c 2) () (NN 2)) ∗
      cred (tallyAt (rC c 3) () (NN 3)) ∗ cred (tallyAt (rC c 4) () (NN 4)) ∗ cred (tallyAt (rC c 5) () (NN 5)) ∗ cred (tallyAt (rC c 6) () (NN 6)) ∗
      cred (tallyAt (rC c 7) () (NN 7)) ∗ cred (tallyAt (rC c 8) () (NN 8)) ∗ cred (tallyAt (rC c 9) () (NN 9)))

def start (c : Dev nD) : sProp 𝕄 := iprop((∃ K, recs m ρ K ∗ lin c) ∗ crd c ∗ levAts L lv)

/-- The scratch buffers, each whole at some contents. -/
def scr (c : Dev nD) : sProp 𝕄 :=
  iprop((∃ f : Buf (Elt F) ((c : Thread nD τ).loc cc0_scratch0), ((c : Thread nD τ).loc cc0_scratch0) ↦{fullShare} f) ∗
      (∃ f : Buf (Elt F) ((c : Thread nD τ).loc cc0_scratch1), ((c : Thread nD τ).loc cc0_scratch1) ↦{fullShare} f) ∗
      (∃ f : Buf (Elt F) ((c : Thread nD τ).loc cc0_scratch2), ((c : Thread nD τ).loc cc0_scratch2) ↦{fullShare} f) ∗
      (∃ f : Buf (Elt F) ((c : Thread nD τ).loc cc0_scratch3), ((c : Thread nD τ).loc cc0_scratch3) ↦{fullShare} f) ∗
      (∃ f : Buf (Elt F) ((c : Thread nD τ).loc cc0_scratch4), ((c : Thread nD τ).loc cc0_scratch4) ↦{fullShare} f))

/-- The protocol's counters at zero. -/
def done (c : Dev nD) : sProp 𝕄 :=
  iprop(semVal (barC c) 0 ∗ semVal (sC c 0) 0 ∗ semVal (sC c 1) 0 ∗ semVal (sC c 2) 0 ∗ semVal (sC c 3) 0 ∗ semVal (sC c 4) 0 ∗ semVal (sC c 5) 0 ∗
      semVal (sC c 6) 0 ∗ semVal (sC c 7) 0 ∗ semVal (sC c 8) 0 ∗ semVal (sC c 9) 0 ∗ semVal (rC c 0) 0 ∗ semVal (rC c 1) 0 ∗ semVal (rC c 2) 0 ∗
      semVal (rC c 3) 0 ∗ semVal (rC c 4) 0 ∗ semVal (rC c 5) 0 ∗ semVal (rC c 6) 0 ∗ semVal (rC c 7) 0 ∗ semVal (rC c 8) 0 ∗ semVal (rC c 9) 0)

def Φ₀ (c : Dev nD) : sProp 𝕄 := iprop(start m ρ c ∗ scr c)
def Φ₁ (c : Dev nD) : sProp 𝕄 := iprop(scr c ∗ done c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => istg m ρ c
    | ⟨3, _⟩ => estg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ ∗ stg c cc0_stg0_0 (xstg m ρ c) ∗ stg c cc0_stg1_0 (wstg m ρ c)
    ∗ stg c cc0_stg2_0 (istg m ρ c) ∗ stg c cc0_stg3_0 (estg m ρ c) ∗ stg c cc0_stg4_0 (outAt m ρ c))

theorem sound_body (c : Dev nD) :
    bodyPre m ρ c ⊢ wpc c (cc0_body (F := F) xM (Memref.isWhole_whole _) wM (Memref.isWhole_whole _) iM (Memref.isWhole_whole _) eM (Memref.isWhole_whole _)
      oM (Memref.isWhole_whole _) gM (Memref.isWhole_whole _) sqM (Memref.isWhole_whole _) shM (Memref.isWhole_whole _) rqM (Memref.isWhole_whole _)
      rhM (Memref.isWhole_whole _) cc0_scratch5 cc0_scratch6) (fun _ => bodyPost m ρ c) := by
  unfold bodyPre Φ₀ start lin crd scr
  iintro ⟨⟨⟨⟨%K, #HR, bp, bn, ab, ts0, ts1, ts2, ts3, ts4, ts5, ts6, ts7, ts8, ts9, tr0, tr1, tr2, tr3, tr4, tr5, tr6, tr7, tr8, tr9, as0, as1, as2, as3, as4, as5, as6, as7, as8, as9, ar0, ar1, ar2, ar3, ar4, ar5, ar6, ar7, ar8, ar9⟩, ⟨cb, cr0, cr1, cr2, cr3, cr4, cr5, cr6, cr7, cr8, cr9⟩, #HL⟩, ⟨%f0, g⟩, ⟨%f1, sq⟩, ⟨%f2, sh⟩, ⟨%f3, rq⟩, ⟨%f4, rh⟩⟩, Ho,
    ⟨%d0, %g0, %hg0, x⟩, ⟨%d1, %g1, %hg1, w⟩, ⟨%d2, %g2, %hg2, i⟩, ⟨%d3, %g3, %hg3, ew⟩, ⟨%d4, %g4, %hg4, o⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  have hi : g2 = istg m ρ c := by rw [hg2]; unfold Dat.before; rw [if_pos (fetch0_2 t0_0)]; rfl
  have he : g3 = estg m ρ c := by rw [hg3]; unfold Dat.before; rw [if_pos (fetch0_3 t0_0)]; rfl
  subst hx; subst hw; subst hi; subst he
  unfold Dat.owesAt Pipeline.owesWithin
  icases Ho with ⟨%W, %hW, HO⟩
  rw [show (dats m ρ 0 c).owed t0_0.castSucc = O₀ c from rfl]
  ihave sq := (sq_split c f1) $$ sq
  icases sq with ⟨sq0, sq1, sq2, sq3⟩
  ihave sh := (sh_split c f2) $$ sh
  icases sh with ⟨sh0, sh1⟩
  ihave rq := (rq_split c f3) $$ rq
  icases rq with ⟨rq0, rq1, rq2, rq3, rq4, rq5, rq6, rq7⟩
  ihave rh := (rh_split c f4) $$ rh
  icases rh with ⟨rh0, rh1⟩
  ihave o := (o_split c g4) $$ o
  icases o with ⟨o0, o1⟩
  iapply (body_run m ρ K c f0) $$ [HR HL x w i g ew HO bp bn rq0 rq1 rq2 rq3 rq4 rq5 rq6 rq7 rh0 rh1 sq0 sq1 sq2 sq3 sh0 sh1 o0 o1 cb ab ts0 ts1 ts2 ts3 ts4 ts5 ts6 ts7 ts8 ts9 tr0 tr1 tr2 tr3 tr4 tr5 tr6 tr7 tr8 tr9 as0 as1 as2 as3 as4 as5 as6 as7 as8 as9 ar0 ar1 ar2 ar3 ar4 ar5 ar6 ar7 ar8 ar9 cr0 cr1 cr2 cr3 cr4 cr5 cr6 cr7 cr8 cr9]
  · unfold bodyIn
    isplitr; · iexact HR
    isplitr; · iexact HL
    isplitl [x]; · iexact x
    isplitl [w]; · iexact w
    isplitl [i]; · iexact i
    isplitl [g]; · iexact g
    isplitl [ew]; · iexact ew
    isplitl [HO]; · unfold ow; iexists W; iexact HO
    isplitl [bp]; · iexact bp
    isplitl [bn]; · iexact bn
    isplitl [rq0 rq1 rq4 rq5 rh1]
    · isplitl [rq0]; · iexact rq0
      isplitl [rq1]; · iexact rq1
      isplitl [rq4]; · iexact rq4
      isplitl [rq5]; · iexact rq5
      iexact rh1
    isplitl [rq2 rq3 rq6 rq7 rh0]
    · isplitl [rq2]; · iexact rq2
      isplitl [rq3]; · iexact rq3
      isplitl [rq6]; · iexact rq6
      isplitl [rq7]; · iexact rq7
      iexact rh0
    isplitl [sq0]; · iexact sq0
    isplitl [sq1]; · iexact sq1
    isplitl [sq2]; · iexact sq2
    isplitl [sq3]; · iexact sq3
    isplitl [sh0]; · iexact sh0
    isplitl [sh1]; · iexact sh1
    isplitl [o0]; · iexact o0
    isplitl [o1]; · iexact o1
    isplitl [cb]; · iexact cb
    isplitl [ab]; · iexact ab
    isplitl [ts0]; · iexact ts0
    isplitl [ts1]; · iexact ts1
    isplitl [ts2]; · iexact ts2
    isplitl [ts3]; · iexact ts3
    isplitl [ts4]; · iexact ts4
    isplitl [ts5]; · iexact ts5
    isplitl [ts6]; · iexact ts6
    isplitl [ts7]; · iexact ts7
    isplitl [ts8]; · iexact ts8
    isplitl [ts9]; · iexact ts9
    isplitl [tr0]; · iexact tr0
    isplitl [tr1]; · iexact tr1
    isplitl [tr2]; · iexact tr2
    isplitl [tr3]; · iexact tr3
    isplitl [tr4]; · iexact tr4
    isplitl [tr5]; · iexact tr5
    isplitl [tr6]; · iexact tr6
    isplitl [tr7]; · iexact tr7
    isplitl [tr8]; · iexact tr8
    isplitl [tr9]; · iexact tr9
    isplitl [as0]; · iexact as0
    isplitl [as1]; · iexact as1
    isplitl [as2]; · iexact as2
    isplitl [as3]; · iexact as3
    isplitl [as4]; · iexact as4
    isplitl [as5]; · iexact as5
    isplitl [as6]; · iexact as6
    isplitl [as7]; · iexact as7
    isplitl [as8]; · iexact as8
    isplitl [as9]; · iexact as9
    isplitl [ar0]; · iexact ar0
    isplitl [ar1]; · iexact ar1
    isplitl [ar2]; · iexact ar2
    isplitl [ar3]; · iexact ar3
    isplitl [ar4]; · iexact ar4
    isplitl [ar5]; · iexact ar5
    isplitl [ar6]; · iexact ar6
    isplitl [ar7]; · iexact ar7
    isplitl [ar8]; · iexact ar8
    isplitl [ar9]; · iexact ar9
    isplitl [cr0]; · iexact cr0
    isplitl [cr1]; · iexact cr1
    isplitl [cr2]; · iexact cr2
    isplitl [cr3]; · iexact cr3
    isplitl [cr4]; · iexact cr4
    isplitl [cr5]; · iexact cr5
    isplitl [cr6]; · iexact cr6
    isplitl [cr7]; · iexact cr7
    isplitl [cr8]; · iexact cr8
    iexact cr9
  unfold bodyOut env
  iintro ⟨⟨x, g, ew⟩, w, i, HO, sq0, sq1, sq2, sq3, sh0, sh1, rq0, rq1, rq2, rq3, rq4, rq5, rq6, rq7, rh0, rh1, o0, o1, vb, vs0, vs1, vs2, vs3, vs4, vs5, vs6, vs7, vs8, vs9, vr0, vr1, vr2, vr3, vr4, vr5, vr6, vr7, vr8, vr9⟩
  unfold bodyPost Φ₁ scr done Dat.owesAt Pipeline.owesWithin
  rw [show (dats m ρ 0 c).owed t0_0.succ = 0 from rfl]
  isplitl [g sq0 sq1 sq2 sq3 sh0 sh1 rq0 rq1 rq2 rq3 rq4 rq5 rq6 rq7 rh0 rh1 vb vs0 vs1 vs2 vs3 vs4 vs5 vs6 vs7 vs8 vs9 vr0 vr1 vr2 vr3 vr4 vr5 vr6 vr7 vr8 vr9]
  · isplitl [g sq0 sq1 sq2 sq3 sh0 sh1 rq0 rq1 rq2 rq3 rq4 rq5 rq6 rq7 rh0 rh1]
    · isplitl [g]; · iexists _; iexact g
      isplitl [sq0 sq1 sq2 sq3]
      · iapply (sq_join c)
        isplitl [sq0]; · iexact sq0
        isplitl [sq1]; · iexact sq1
        isplitl [sq2]; · iexact sq2
        iexact sq3
      isplitl [sh0 sh1]
      · iapply (sh_join c)
        isplitl [sh0]; · iexact sh0
        iexact sh1
      isplitl [rq0 rq1 rq2 rq3 rq4 rq5 rq6 rq7]
      · iapply (rq_join c)
        isplitl [rq0]; · iexact rq0
        isplitl [rq1]; · iexact rq1
        isplitl [rq2]; · iexact rq2
        isplitl [rq3]; · iexact rq3
        isplitl [rq4]; · iexact rq4
        isplitl [rq5]; · iexact rq5
        isplitl [rq6]; · iexact rq6
        iexact rq7
      iapply (rh_join c)
      isplitl [rh0]; · iexact rh0
      iexact rh1
    isplitl [vb]; · iexact vb
    isplitl [vs0]; · iexact vs0
    isplitl [vs1]; · iexact vs1
    isplitl [vs2]; · iexact vs2
    isplitl [vs3]; · iexact vs3
    isplitl [vs4]; · iexact vs4
    isplitl [vs5]; · iexact vs5
    isplitl [vs6]; · iexact vs6
    isplitl [vs7]; · iexact vs7
    isplitl [vs8]; · iexact vs8
    isplitl [vs9]; · iexact vs9
    isplitl [vr0]; · iexact vr0
    isplitl [vr1]; · iexact vr1
    isplitl [vr2]; · iexact vr2
    isplitl [vr3]; · iexact vr3
    isplitl [vr4]; · iexact vr4
    isplitl [vr5]; · iexact vr5
    isplitl [vr6]; · iexact vr6
    isplitl [vr7]; · iexact vr7
    isplitl [vr8]; · iexact vr8
    iexact vr9
  isplitl [HO]
  · unfold ow
    icases HO with ⟨%W', HO⟩
    iexists W'
    isplitr; · ipureintro; exact fun _ _ => Or.inl trivial
    iexact HO
  isplitl [x]
  · iexists _; isplitr; · (ipureintro; rfl)
    iexact x
  isplitl [w]
  · iexists _; isplitr; · (ipureintro; rfl)
    iexact w
  isplitl [i]
  · iexists _; isplitr; · (ipureintro; rfl)
    iexact i
  isplitl [ew]
  · iexists _; isplitr; · (ipureintro; rfl)
    iexact ew
  iexists _; isplitr; · (ipureintro; rfl)
  iapply (o_join m ρ c)
  isplitl [o0] <;> iassumption

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The ghost state at launch -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 21, csem k = csem k' → k = k' := by
  intro k k' h
  unfold csem at h
  split at h <;> split at h
  · rename_i h1 h2; rw [h1, h2]
  · cases h
  · cases h
  · have := congrArg Fin.val (SemLoc.dma.inj h)
    exact Fin.ext (by simpa using this)
theorem kcell_injective : Function.Injective (kcell : Dev nD × Fin 21 → GSem nD τ sig) := by
  rintro ⟨c, k⟩ ⟨c', k'⟩ h
  have h1 : c = c' := congrArg (fun g : GSem nD τ sig => g.1.1) h
  subst h1
  rw [csem_inj k k' (congrArg Prod.snd h)]
def ringCells : Finset (GSem nD τ sig) := Finset.univ.map ⟨kcell, kcell_injective⟩

/-- A device's own cells' duty tokens: its barrier's two, then one for each of its send and receive cells. -/
abbrev tokOf (cj : Dev nD × Fin 22) : GSem nD τ sig × ℕ × Bool :=
  if cj.2.val = 0 then (barC cj.1, 0, false) else if cj.2.val = 1 then (barC cj.1, 0, true)
  else (((cj.1 : Thread nD τ), .dma ⟨3 + cj.2.val, by have := cj.2.isLt; show 3 + cj.2.val < 25; omega⟩), 0, false)
theorem tokOf_injective : Function.Injective (tokOf : Dev nD × Fin 22 → GSem nD τ sig × ℕ × Bool) := by
  rintro ⟨c, j⟩ ⟨c', j'⟩ h
  have h1 : c = c' := by
    have := congrArg (fun x : GSem nD τ sig × ℕ × Bool => x.1.1.1) h
    unfold tokOf at this
    dsimp only at this
    split at this <;> split at this <;> (try split at this) <;> (try split at this) <;> exact this
  subst h1
  have h2 : j = j' := by
    unfold tokOf at h
    dsimp only at h
    split at h
    · split at h
      · exact Fin.ext (by omega)
      · split at h
        · exact absurd (congrArg (fun x : GSem nD τ sig × ℕ × Bool => x.2.2) h) (fun h' => by cases h')
        · exact absurd (congrArg (fun x : GSem nD τ sig × ℕ × Bool => x.1.2) h) (fun h' => by cases h')
    · split at h
      · split at h
        · exact absurd (congrArg (fun x : GSem nD τ sig × ℕ × Bool => x.2.2) h) (fun h' => by cases h')
        · split at h
          · exact Fin.ext (by omega)
          · exact absurd (congrArg (fun x : GSem nD τ sig × ℕ × Bool => x.1.2) h) (fun h' => by cases h')
      · split at h
        · exact absurd (congrArg (fun x : GSem nD τ sig × ℕ × Bool => x.1.2) h) (fun h' => by cases h')
        · split at h
          · exact absurd (congrArg (fun x : GSem nD τ sig × ℕ × Bool => x.1.2) h) (fun h' => by cases h')
          · have := congrArg Fin.val (SemLoc.dma.inj (congrArg (fun x : GSem nD τ sig × ℕ × Bool => x.1.2) h))
            exact Fin.ext (by simpa using this)
  rw [h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barC c) 0 false ∗ dutyTok ER (barC c) 0 true ∗ dutyTok ER (sC c 0) 0 false ∗ dutyTok ER (sC c 1) 0 false ∗ dutyTok ER (sC c 2) 0 false ∗
      dutyTok ER (sC c 3) 0 false ∗ dutyTok ER (sC c 4) 0 false ∗ dutyTok ER (sC c 5) 0 false ∗ dutyTok ER (sC c 6) 0 false ∗ dutyTok ER (sC c 7) 0 false ∗
      dutyTok ER (sC c 8) 0 false ∗ dutyTok ER (sC c 9) 0 false ∗ dutyTok ER (rC c 0) 0 false ∗ dutyTok ER (rC c 1) 0 false ∗ dutyTok ER (rC c 2) 0 false ∗
      dutyTok ER (rC c 3) 0 false ∗ dutyTok ER (rC c 4) 0 false ∗ dutyTok ER (rC c 5) 0 false ∗ dutyTok ER (rC c 6) 0 false ∗ dutyTok ER (rC c 7) 0 false ∗
      dutyTok ER (rC c 8) 0 false ∗ dutyTok ER (rC c 9) 0 false)
/-- One step around the ring. -/
def ring : Dev nD ≃ Dev nD := ⟨nxt, prv, prv_nxt, nxt_prv⟩

/-- The tokens of the duties device `c` pays. -/
def payToks (c : Dev nD) : sProp 𝕄 :=
  iprop(dutyTok ER (barC (nxt c)) 0 false ∗ dutyTok ER (barC (prv c)) 0 true ∗ dutyTok ER (sC c 0) 0 false ∗ dutyTok ER (sC c 1) 0 false ∗
      dutyTok ER (sC c 2) 0 false ∗ dutyTok ER (sC c 3) 0 false ∗ dutyTok ER (sC c 4) 0 false ∗ dutyTok ER (sC c 5) 0 false ∗ dutyTok ER (sC c 6) 0 false ∗
      dutyTok ER (sC c 7) 0 false ∗ dutyTok ER (sC c 8) 0 false ∗ dutyTok ER (sC c 9) 0 false ∗ dutyTok ER (rC (nxt c) 0) 0 false ∗
      dutyTok ER (rC (nxt c) 1) 0 false ∗ dutyTok ER (rC (prv c) 2) 0 false ∗ dutyTok ER (rC (prv c) 3) 0 false ∗ dutyTok ER (rC (nxt c) 4) 0 false ∗
      dutyTok ER (rC (nxt c) 5) 0 false ∗ dutyTok ER (rC (prv c) 6) 0 false ∗ dutyTok ER (rC (prv c) 7) 0 false ∗ dutyTok ER (rC (prv c) 8) 0 false ∗
      dutyTok ER (rC (nxt c) 9) 0 false)

def G (c : Dev nD) : sProp 𝕄 :=
  iprop((bigSep Finset.univ fun k : Fin 21 => roundState ER (Rd m ρ) (kcell (c, k)) 0)
    ∗ (bigSep Finset.univ fun k : Fin 21 => iprop(atPos ER (kcell (c, k)) 0 ∅ 0 ∗ reached ER (kcell (c, k)) 0)) ∗ toks c)
def G' (c : Dev nD) : sProp 𝕄 := iprop(∃ K, recs m ρ K ∗ lin c)

omit [FloatOps F] in
theorem bigSep_fin22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ
omit [FloatOps F] in
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin22]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sC c 0) 0 ∗ semVal (sC c 1) 0 ∗ semVal (sC c 2) 0 ∗ semVal (sC c 3) 0 ∗ semVal (sC c 4) 0 ∗ semVal (sC c 5) 0 ∗ semVal (sC c 6) 0 ∗
      semVal (sC c 7) 0 ∗ semVal (sC c 8) 0 ∗ semVal (sC c 9) 0 ∗ semVal (rC c 0) 0 ∗ semVal (rC c 1) 0 ∗ semVal (rC c 2) 0 ∗ semVal (rC c 3) 0 ∗
      semVal (rC c 4) 0 ∗ semVal (rC c 5) 0 ∗ semVal (rC c 6) 0 ∗ semVal (rC c 7) 0 ∗ semVal (rC c 8) 0 ∗ semVal (rC c 9) 0) := by
  rw [Pipeline.ownSems0_eq_of_list c osem [0, 1, 2, 3, 4, 5, 6, 7, 8, 9, 10, 11, 12, 13, 14, 15, 16, 17, 18, 19] (by decide) (by decide)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [ownSems0_eq, unscopedSems0_eq, bigSep_fin21]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens go around: a barrier's and a receive cell's to the neighbour that pays the duty. -/
theorem toks_around : (bigSep Finset.univ fun c : Dev nD => (toks c : sProp 𝕄)) ⊢ bigSep Finset.univ fun c : Dev nD => payToks c := by
  unfold toks payToks
  simp only [bigSep_sep']
  iintro ⟨bf, bt, ts0, ts1, ts2, ts3, ts4, ts5, ts6, ts7, ts8, ts9, tr0, tr1, tr2, tr3, tr4, tr5, tr6, tr7, tr8, tr9⟩
  isplitl [bf]; · iapply (Entails.of_eq (bigSep_univ_equiv ring (fun c : Dev nD => (dutyTok ER (barC c) 0 false : sProp 𝕄)))); iexact bf
  isplitl [bt]; · iapply (Entails.of_eq (bigSep_univ_equiv ring.symm (fun c : Dev nD => (dutyTok ER (barC c) 0 true : sProp 𝕄)))); iexact bt
  isplitl [ts0]; · iexact ts0
  isplitl [ts1]; · iexact ts1
  isplitl [ts2]; · iexact ts2
  isplitl [ts3]; · iexact ts3
  isplitl [ts4]; · iexact ts4
  isplitl [ts5]; · iexact ts5
  isplitl [ts6]; · iexact ts6
  isplitl [ts7]; · iexact ts7
  isplitl [ts8]; · iexact ts8
  isplitl [ts9]; · iexact ts9
  isplitl [tr0]; · iapply (Entails.of_eq (bigSep_univ_equiv ring (fun c : Dev nD => (dutyTok ER (rC c 0) 0 false : sProp 𝕄)))); iexact tr0
  isplitl [tr1]; · iapply (Entails.of_eq (bigSep_univ_equiv ring (fun c : Dev nD => (dutyTok ER (rC c 1) 0 false : sProp 𝕄)))); iexact tr1
  isplitl [tr2]; · iapply (Entails.of_eq (bigSep_univ_equiv ring.symm (fun c : Dev nD => (dutyTok ER (rC c 2) 0 false : sProp 𝕄)))); iexact tr2
  isplitl [tr3]; · iapply (Entails.of_eq (bigSep_univ_equiv ring.symm (fun c : Dev nD => (dutyTok ER (rC c 3) 0 false : sProp 𝕄)))); iexact tr3
  isplitl [tr4]; · iapply (Entails.of_eq (bigSep_univ_equiv ring (fun c : Dev nD => (dutyTok ER (rC c 4) 0 false : sProp 𝕄)))); iexact tr4
  isplitl [tr5]; · iapply (Entails.of_eq (bigSep_univ_equiv ring (fun c : Dev nD => (dutyTok ER (rC c 5) 0 false : sProp 𝕄)))); iexact tr5
  isplitl [tr6]; · iapply (Entails.of_eq (bigSep_univ_equiv ring.symm (fun c : Dev nD => (dutyTok ER (rC c 6) 0 false : sProp 𝕄)))); iexact tr6
  isplitl [tr7]; · iapply (Entails.of_eq (bigSep_univ_equiv ring.symm (fun c : Dev nD => (dutyTok ER (rC c 7) 0 false : sProp 𝕄)))); iexact tr7
  isplitl [tr8]; · iapply (Entails.of_eq (bigSep_univ_equiv ring.symm (fun c : Dev nD => (dutyTok ER (rC c 8) 0 false : sProp 𝕄)))); iexact tr8
  iapply (Entails.of_eq (bigSep_univ_equiv ring (fun c : Dev nD => (dutyTok ER (rC c 9) 0 false : sProp 𝕄)))); iexact tr9

theorem ghost_intro (K : Dev nD × Fin 21 → ℕ) (c : Dev nD) :
    iprop(recs m ρ K ∗ (bigSep Finset.univ fun k : Fin 21 => atPos ER (kcell (c, k)) 0 ∅ 0) ∗ payToks c) ⊢ G' m ρ c := by
  rw [bigSep_fin21]
  unfold payToks G' lin
  iintro ⟨HR, ⟨ab, as0, as1, as2, as3, as4, as5, as6, as7, as8, as9, ar0, ar1, ar2, ar3, ar4, ar5, ar6, ar7, ar8, ar9⟩, bn, bp, ts0, ts1, ts2, ts3, ts4, ts5, ts6, ts7, ts8, ts9, tr0, tr1, tr2, tr3, tr4, tr5, tr6, tr7, tr8, tr9⟩
  iexists K
  isplitl [HR]; · iexact HR
  isplitl [bp]; · iexact bp
  isplitl [bn]; · iexact bn
  isplitl [ab]; · iexact ab
  isplitl [ts0]; · iexact ts0
  isplitl [ts1]; · iexact ts1
  isplitl [ts2]; · iexact ts2
  isplitl [ts3]; · iexact ts3
  isplitl [ts4]; · iexact ts4
  isplitl [ts5]; · iexact ts5
  isplitl [ts6]; · iexact ts6
  isplitl [ts7]; · iexact ts7
  isplitl [ts8]; · iexact ts8
  isplitl [ts9]; · iexact ts9
  isplitl [tr0]; · iexact tr0
  isplitl [tr1]; · iexact tr1
  isplitl [tr2]; · iexact tr2
  isplitl [tr3]; · iexact tr3
  isplitl [tr4]; · iexact tr4
  isplitl [tr5]; · iexact tr5
  isplitl [tr6]; · iexact tr6
  isplitl [tr7]; · iexact tr7
  isplitl [tr8]; · iexact tr8
  isplitl [tr9]; · iexact tr9
  isplitl [as0]; · iexact as0
  isplitl [as1]; · iexact as1
  isplitl [as2]; · iexact as2
  isplitl [as3]; · iexact as3
  isplitl [as4]; · iexact as4
  isplitl [as5]; · iexact as5
  isplitl [as6]; · iexact as6
  isplitl [as7]; · iexact as7
  isplitl [as8]; · iexact as8
  isplitl [as9]; · iexact as9
  isplitl [ar0]; · iexact ar0
  isplitl [ar1]; · iexact ar1
  isplitl [ar2]; · iexact ar2
  isplitl [ar3]; · iexact ar3
  isplitl [ar4]; · iexact ar4
  isplitl [ar5]; · iexact ar5
  isplitl [ar6]; · iexact ar6
  isplitl [ar7]; · iexact ar7
  isplitl [ar8]; · iexact ar8
  iexact ar9

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 21 => iprop(∃ κ : ℕ, cellInv ER (Rd m ρ) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (Rd m ρ) κ (kcell ck) : sProp 𝕄))) $$ HI
  icases HK with ⟨%K, #HI⟩
  ihave Htk := (toks_around (F := F)) $$ Htok
  iapply (bigSep_with_persistent (R := recs m ρ K) fun c _ => ghost_intro m ρ K c)
  isplitr
  · unfold recs
    iapply (Entails.of_eq (bigSep_sep' Finset.univ (fun ck : Dev nD × Fin 21 => (cellInv ER (Rd m ρ) (K ck) (kcell ck) : sProp 𝕄)) (fun ck => reached ER (kcell ck) 0)).symm)
    isplitl; · iexact HI
    iexact HR
  · iapply (Entails.of_eq (bigSep_sep' Finset.univ (fun c : Dev nD => bigSep Finset.univ fun k : Fin 21 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

omit [FloatOps F] in
theorem cred_recv (c : Dev nD) (k : Fin 10) :
    (Pipeline.launchCred (fun d => tallyAt (rC (peer k d) k) () (NN k)) c : sProp 𝕄) ⊢ cred (tallyAt (rC c k) () (NN k)) :=
  Pipeline.launchCred_tallyAt (.dma (rS k)) (peer k) (from' k) (peer_from k) (from_peer k) () (NN k) c
omit [FloatOps F] in
theorem cred_step (c : Dev nD) (n : ℕ) (k : Fin 10) (hk : k = ⟨9 - n, by omega⟩) :
    (Pipeline.launchCred (fun d => Or d (n + 1)) c : sProp 𝕄) ⊢ iprop(Pipeline.launchCred (fun d => Or d n) c ∗ cred (tallyAt (rC c k) () (NN k))) := by
  subst hk
  refine (Entails.of_eq (Pipeline.launchCred_add (fun d => Or d n) (fun d => tallyAt (rC (peer ⟨9 - n, by omega⟩ d) ⟨9 - n, by omega⟩) () (NN ⟨9 - n, by omega⟩)) c)).trans ?_
  exact sep_mono_right (cred_recv c _)
omit [FloatOps F] in
theorem creds (c : Dev nD) : (Pipeline.launchCred O₀ c : sProp 𝕄) ⊢ crd c := by
  have e0 : (Pipeline.launchCred O₀ c : sProp 𝕄) ⊢ _ :=
    Entails.of_eq (Pipeline.launchCred_add O₁ (fun d => tallyAt (barC (prv d)) () 1) c)
  have e1 : (Pipeline.launchCred O₁ c : sProp 𝕄) ⊢ _ :=
    Entails.of_eq (Pipeline.launchCred_add (fun d => Or d 10) (fun d => tallyAt (barC (nxt d)) () 1) c)
  have b1 : (Pipeline.launchCred (fun d => tallyAt (barC (prv d)) () 1) c : sProp 𝕄) ⊢ cred (tallyAt (barC c) () 1) :=
    Pipeline.launchCred_tallyAt (.reg barS) prv nxt prv_nxt nxt_prv () 1 c
  have b2 : (Pipeline.launchCred (fun d => tallyAt (barC (nxt d)) () 1) c : sProp 𝕄) ⊢ cred (tallyAt (barC c) () 1) :=
    Pipeline.launchCred_tallyAt (.reg barS) nxt prv nxt_prv prv_nxt () 1 c
  have b : iprop(cred (tallyAt (barC c) () 1) ∗ cred (tallyAt (barC c) () 1)) ⊢ (cred (tallyAt (barC c) () 2) : sProp 𝕄) := by
    rw [show (tallyAt (barC c) () 2 : CellTallies nD τ sig Unit) = tallyAt (barC c) () 1 + tallyAt (barC c) () 1 from (tallyAt_add _ _ 1 1).symm]
    exact (cred_add _ _).2
  unfold crd
  iintro H
  ihave H := e0 $$ H
  icases H with ⟨H, B1⟩
  ihave H := e1 $$ H
  icases H with ⟨H, B2⟩
  ihave B1 := b1 $$ B1
  ihave B2 := b2 $$ B2
  ihave H := (cred_step c 9 0 rfl) $$ H
  icases H with ⟨H, cr0⟩
  ihave H := (cred_step c 8 1 rfl) $$ H
  icases H with ⟨H, cr1⟩
  ihave H := (cred_step c 7 2 rfl) $$ H
  icases H with ⟨H, cr2⟩
  ihave H := (cred_step c 6 3 rfl) $$ H
  icases H with ⟨H, cr3⟩
  ihave H := (cred_step c 5 4 rfl) $$ H
  icases H with ⟨H, cr4⟩
  ihave H := (cred_step c 4 5 rfl) $$ H
  icases H with ⟨H, cr5⟩
  ihave H := (cred_step c 3 6 rfl) $$ H
  icases H with ⟨H, cr6⟩
  ihave H := (cred_step c 2 7 rfl) $$ H
  icases H with ⟨H, cr7⟩
  ihave H := (cred_step c 1 8 rfl) $$ H
  icases H with ⟨H, cr8⟩
  ihave H := (cred_step c 0 9 rfl) $$ H
  icases H with ⟨H, cr9⟩
  isplitl [B1 B2]
  · iapply b
    isplitl [B1] <;> iassumption
  isplitl [cr0]; · iexact cr0
  isplitl [cr1]; · iexact cr1
  isplitl [cr2]; · iexact cr2
  isplitl [cr3]; · iexact cr3
  isplitl [cr4]; · iexact cr4
  isplitl [cr5]; · iexact cr5
  isplitl [cr6]; · iexact cr6
  isplitl [cr7]; · iexact cr7
  isplitl [cr8]; · iexact cr8
  iexact cr9

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr done
  iintro ⟨Hr, HB, Hz⟩
  isplitl [HB]; · iexact HB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every device's window arrays after the run. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters, for any float values, every fair execution ends, with each device's window arrays
    at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 5) = m ((c : Thread nD τ).loc main_arg0) := (dats (F := F) m ρ 0 c).arrAt_in (0 : Fin 5) rfl _
theorem finalA_w (c : Dev nD) : finalA m ρ c (1 : Fin 5) = m ((c : Thread nD τ).loc main_arg1) := (dats (F := F) m ρ 0 c).arrAt_in (1 : Fin 5) rfl _
theorem finalA_i (c : Dev nD) : finalA m ρ c (2 : Fin 5) = m ((c : Thread nD τ).loc main_arg2) := (dats (F := F) m ρ 0 c).arrAt_in (2 : Fin 5) rfl _
theorem finalA_e (c : Dev nD) : finalA m ρ c (3 : Fin 5) = m ((c : Thread nD τ).loc main_arg3) := (dats (F := F) m ρ 0 c).arrAt_in (3 : Fin 5) rfl _

/-- Device `c`'s result array ends at its output. -/
theorem finalA_o (c : Dev nD) : finalA m ρ c (4 : Fin 5) = outAt m ρ c := by
  have h : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from flush0_4 _, if_pos rfl]
    exact View.read_write_univ _ _
  have hz : (fun a => (win0_4.index (0 : Fin 1)) a * main_v1.ty.shape.size a) = fun _ => 0 :=
    funext fun a => by fin_cases a <;> decide
  exact (Memref.read_access_unit_zero (Elt F) main_v1 hz (fun a => by fin_cases a <;> decide) (finalA m ρ c (4 : Fin 5))).symm.trans h

end Cert.KernelIdeal.Run
-- ==== Proof.Frames.lean ====
module

public import proofs.«01_k».proof.Defs
public import proofs.«01_k».proof.Proof.Gen.ReferenceIdeal
public import proofs.«01_k».proof.Proof.Gen.ReferenceIdeal.Run
public import proofs.«01_k».proof.Proof.IdealRun.Launch
public import proofs.«01_k».proof.Proof.KernelRun.Launch

/-! # The frames: every execution ends, the arguments unchanged, every counter at zero -/

@[expose] public section

noncomputable section

namespace Cert.Proof

open Idealize.ShloMosaic Idealize.SL.Sem

theorem frame_k : Cert.quiescent_Kernel (hKernel := Cert.Kernel.Gen.facts) := fun m ρ _ =>
  (θ_run Cert.Kernel.defs _ _).mono (fun _ h => ⟨fun c => ⟨(h.1 c (0 : Fin 5)).trans (Cert.Kernel.Run.finalA_x m ρ c),
    (h.1 c (1 : Fin 5)).trans (Cert.Kernel.Run.finalA_w m ρ c), (h.1 c (2 : Fin 5)).trans (Cert.Kernel.Run.finalA_i m ρ c),
    (h.1 c (3 : Fin 5)).trans (Cert.Kernel.Run.finalA_e m ρ c)⟩, h.2⟩) (Cert.Kernel.Run.run_main (F := Bits) m ρ)

theorem frame_ki : Cert.quiescent_KernelIdeal (hKernelIdeal := Cert.KernelIdeal.Gen.facts) := fun m ρ _ =>
  (θ_run Cert.KernelIdeal.defs _ _).mono (fun _ h => ⟨fun c => ⟨(h.1 c (0 : Fin 5)).trans (Cert.KernelIdeal.Run.finalA_x m ρ c),
    (h.1 c (1 : Fin 5)).trans (Cert.KernelIdeal.Run.finalA_w m ρ c), (h.1 c (2 : Fin 5)).trans (Cert.KernelIdeal.Run.finalA_i m ρ c),
    (h.1 c (3 : Fin 5)).trans (Cert.KernelIdeal.Run.finalA_e m ρ c)⟩, h.2⟩) (Cert.KernelIdeal.Run.run_main (F := Ideal) m ρ)

/-- The reference declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.IdealRun.Partial.lean ====
module

public import proofs.«01_k».proof.Proof.IdealRun.Common
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.Pipeline.Value

/-! # One device's partial results, in closed form

Every partial result is four of the device's experts' outputs weighted by the gates; the program writes that out for each
chunk and column block. Here it is written once for each width, and read at an index over the extended reals. -/

@[expose] public section

set_option maxRecDepth 65536

noncomputable section

namespace Cert.KernelIdeal.Run

open Cert.KernelIdeal Cert.KernelIdeal.Gen

open Idealize.ShloMosaic
open Idealize.ShloMosaic.TcCoe
open Idealize.ShloMosaic.ValueIdx
open Idealize.SL.Sem

variable {F : FTy → Type} [FloatOps F]

/-- A row's gate of the expert named by the word `w`, as a column. -/
def gcol (w : BitVec 32) (G : Vec F S256x16 .f32) : FVec F S256x1 .f32 :=
  shapeCast S256x1 (multiReduction .add [1] S256 (select (cmpi .eq io (broadcast S256x16 w)) G (broadcast S256x16 (Scalar.ofBits .f32 0x00000000#32)))
    0x00000000#32 reduces_S256x16_S256 (.inl rfl) rfl) shapeCasts_S256_S256x1

/-- One expert's weighted output, 256 columns. -/
def term256 (w : BitVec 32) (X : FVec F S256x512 .f32) (G : Vec F S256x16 .f32) (W : Vec F S1x512x256 .f32) : FVec F S256x256 .f32 :=
  mulf (broadcastTo S256x256 (gcol w G) broadcasts_S256x1_S256x256)
    (matmul dot_S256x512_S512x256_S256x256_1_0_0_1_n_n none X (shapeCast S512x256 W shapeCasts_S1x512x256_S512x256) (constant S256x256 .f32 0x00000000#32))
/-- The four experts' sum. -/
def part256 (v : BitVec 32) (X : Vec F S256x512 .f32) (G : Vec F S256x16 .f32) (W0 W1 W2 W3 : Vec F S1x512x256 .f32) : FVec F S256x256 .f32 :=
  addf (addf (addf (addf (broadcast S256x256 (Scalar.ofBits .f32 0x00000000#32))
    (term256 (Scalar.addi (Scalar.muli v 4#32) 0#32) (shapeCast S256x512 X shapeCasts_S256x512_S256x512) G W0))
    (term256 (Scalar.addi (Scalar.muli v 4#32) 1#32) (shapeCast S256x512 X shapeCasts_S256x512_S256x512) G W1))
    (term256 (Scalar.addi (Scalar.muli v 4#32) 2#32) (shapeCast S256x512 X shapeCasts_S256x512_S256x512) G W2))
    (term256 (Scalar.addi (Scalar.muli v 4#32) 3#32) (shapeCast S256x512 X shapeCasts_S256x512_S256x512) G W3)

/-- One expert's weighted output, 512 columns. -/
def term512 (w : BitVec 32) (X : FVec F S256x512 .f32) (G : Vec F S256x16 .f32) (W : Vec F S1x512x512 .f32) : FVec F S256x512 .f32 :=
  mulf (broadcastTo S256x512 (gcol w G) broadcasts_S256x1_S256x512)
    (matmul dot_S256x512_S512x512_S256x512_1_0_0_1_n_n none X (shapeCast S512x512 W shapeCasts_S1x512x512_S512x512) (constant S256x512 .f32 0x00000000#32))
/-- The four experts' sum. -/
def part512 (v : BitVec 32) (X : Vec F S256x512 .f32) (G : Vec F S256x16 .f32) (W0 W1 W2 W3 : Vec F S1x512x512 .f32) : FVec F S256x512 .f32 :=
  addf (addf (addf (addf (broadcast S256x512 (Scalar.ofBits .f32 0x00000000#32))
    (term512 (Scalar.addi (Scalar.muli v 4#32) 0#32) (shapeCast S256x512 X shapeCasts_S256x512_S256x512) G W0))
    (term512 (Scalar.addi (Scalar.muli v 4#32) 1#32) (shapeCast S256x512 X shapeCasts_S256x512_S256x512) G W1))
    (term512 (Scalar.addi (Scalar.muli v 4#32) 2#32) (shapeCast S256x512 X shapeCasts_S256x512_S256x512) G W2))
    (term512 (Scalar.addi (Scalar.muli v 4#32) 3#32) (shapeCast S256x512 X shapeCasts_S256x512_S256x512) G W3)

variable (m : (ℓ : Loc nD τ sig) → Buf (Elt F) ℓ) (ρ : Dev nD → PrngReg)

/-! ## The program's text is those -/

theorem A0_eq (c : Dev nD) : A0 m ρ c = shapeCast S1x256x256 (truncf .bf16 (part256 (v2 c) (X2 m ρ c) (G2 m ρ c) (Q0_0 m ρ c) (Q1_0 m ρ c) (Q2_0 m ρ c) (Q3_0 m ρ c)) bitsLt_bf16_f32) shapeCasts_S256x256_S1x256x256 := rfl
theorem A1_eq (c : Dev nD) : A1 m ρ c = shapeCast S1x256x256 (truncf .bf16 (part256 (v2 c) (X2 m ρ c) (G2 m ρ c) (Q0_256 m ρ c) (Q1_256 m ρ c) (Q2_256 m ρ c) (Q3_256 m ρ c)) bitsLt_bf16_f32) shapeCasts_S256x256_S1x256x256 := rfl
theorem A2_eq (c : Dev nD) : A2 m ρ c = shapeCast S1x256x256 (truncf .bf16 (part256 (v2 c) (X2 m ρ c) (G2 m ρ c) (Q0_512 m ρ c) (Q1_512 m ρ c) (Q2_512 m ρ c) (Q3_512 m ρ c)) bitsLt_bf16_f32) shapeCasts_S256x256_S1x256x256 := rfl
theorem A3_eq (c : Dev nD) : A3 m ρ c = shapeCast S1x256x256 (truncf .bf16 (part256 (v2 c) (X2 m ρ c) (G2 m ρ c) (Q0_768 m ρ c) (Q1_768 m ρ c) (Q2_768 m ρ c) (Q3_768 m ρ c)) bitsLt_bf16_f32) shapeCasts_S256x256_S1x256x256 := rfl
theorem P0_eq (c : Dev nD) : P0 m ρ c = part256 (v2 c) (X1 m ρ c) (G1 m ρ c) (Q0_0 m ρ c) (Q1_0 m ρ c) (Q2_0 m ρ c) (Q3_0 m ρ c) := rfl
theorem P1_eq (c : Dev nD) : P1 m ρ c = part256 (v2 c) (X1 m ρ c) (G1 m ρ c) (Q0_256 m ρ c) (Q1_256 m ρ c) (Q2_256 m ρ c) (Q3_256 m ρ c) := rfl
theorem P2_eq (c : Dev nD) : P2 m ρ c = part256 (v2 c) (X3 m ρ c) (G3 m ρ c) (Q0_512 m ρ c) (Q1_512 m ρ c) (Q2_512 m ρ c) (Q3_512 m ρ c) := rfl
theorem P3_eq (c : Dev nD) : P3 m ρ c = part256 (v2 c) (X3 m ρ c) (G3 m ρ c) (Q0_768 m ρ c) (Q1_768 m ρ c) (Q2_768 m ρ c) (Q3_768 m ρ c) := rfl
theorem T0_eq (c : Dev nD) : T0 m ρ c = shapeCast S1x256x256 (truncf .bf16 (addf (extf .f32 (shapeCast S256x256 (A0 m ρ (prv c)) shapeCasts_S1x256x256_S256x256) bitsLt_bf16_f32) (P0 m ρ c)) bitsLt_bf16_f32) shapeCasts_S256x256_S1x256x256 := rfl
theorem T1_eq (c : Dev nD) : T1 m ρ c = shapeCast S1x256x256 (truncf .bf16 (addf (extf .f32 (shapeCast S256x256 (A1 m ρ (prv c)) shapeCasts_S1x256x256_S256x256) bitsLt_bf16_f32) (P1 m ρ c)) bitsLt_bf16_f32) shapeCasts_S256x256_S1x256x256 := rfl
theorem T2_eq (c : Dev nD) : T2 m ρ c = shapeCast S1x256x256 (truncf .bf16 (addf (extf .f32 (shapeCast S256x256 (A2 m ρ (nxt c)) shapeCasts_S1x256x256_S256x256) bitsLt_bf16_f32) (P2 m ρ c)) bitsLt_bf16_f32) shapeCasts_S256x256_S1x256x256 := rfl
theorem T3_eq (c : Dev nD) : T3 m ρ c = shapeCast S1x256x256 (truncf .bf16 (addf (extf .f32 (shapeCast S256x256 (A3 m ρ (nxt c)) shapeCasts_S1x256x256_S256x256) bitsLt_bf16_f32) (P3 m ρ c)) bitsLt_bf16_f32) shapeCasts_S256x256_S1x256x256 := rfl
theorem H0_eq (c : Dev nD) : H0 m ρ c = shapeCast S1x256x512 (truncf .bf16 (part512 (v2 c) (X3 m ρ c) (G3 m ρ c) (W0_0 m ρ c) (W1_0 m ρ c) (W2_0 m ρ c) (W3_0 m ρ c)) bitsLt_bf16_f32) shapeCasts_S256x512_S1x256x512 := rfl
theorem H1_eq (c : Dev nD) : H1 m ρ c = shapeCast S1x256x512 (truncf .bf16 (part512 (v2 c) (X1 m ρ c) (G1 m ρ c) (W0_512 m ρ c) (W1_512 m ρ c) (W2_512 m ρ c) (W3_512 m ρ c)) bitsLt_bf16_f32) shapeCasts_S256x512_S1x256x512 := rfl
theorem Own0_eq (c : Dev nD) : Own0 m ρ c = part512 (v2 c) (X0 m ρ c) (G0 m ρ c) (W0_0 m ρ c) (W1_0 m ρ c) (W2_0 m ρ c) (W3_0 m ρ c) := rfl
theorem Own1_eq (c : Dev nD) : Own1 m ρ c = part512 (v2 c) (X0 m ρ c) (G0 m ρ c) (W0_512 m ρ c) (W1_512 m ρ c) (W2_512 m ρ c) (W3_512 m ρ c) := rfl

/-- What a device does with its own half, the neighbour's half and the two quarters that came two hops. -/
def fin (O : FVec F S256x512 .f32) (H : Vec F S1x256x512 .bf16) (T T' : Vec F S1x256x256 .bf16) : FVec F S256x512 .f32 :=
  addf (addf O (extf .f32 (shapeCast S256x512 H shapeCasts_S1x256x512_S256x512) bitsLt_bf16_f32))
    (concatenate S256x512 1 [⟨S256x256, extf .f32 (shapeCast S256x256 T shapeCasts_S1x256x256_S256x256) bitsLt_bf16_f32⟩,
      ⟨S256x256, extf .f32 (shapeCast S256x256 T' shapeCasts_S1x256x256_S256x256) bitsLt_bf16_f32⟩] concatenates_S256x256_S256x256_S256x512_d1)
theorem out0_eq (c : Dev nD) : out0 m ρ c = fin (Own0 m ρ c) (H0 m ρ (nxt c)) (T0 m ρ (prv c)) (T1 m ρ (prv c)) := rfl
theorem out1_eq (c : Dev nD) : out1 m ρ c = fin (Own1 m ρ c) (H1 m ρ (prv c)) (T2 m ρ (nxt c)) (T3 m ρ (nxt c)) := rfl

/-! ## Read at an index, over the extended reals -/

theorem v2_eq : ∀ c : Dev nD, v2 c = BitVec.ofNat 32 c.val := by decide +kernel
theorem word_eq : ∀ (d : Dev nD) (e : Fin 4), Scalar.addi (Scalar.muli (BitVec.ofNat 32 d.val) 4#32) (BitVec.ofNat 32 e.val) = BitVec.ofNat 32 (4 * d.val + e.val) := by decide +kernel

/-- The expert `e` of device `d`. -/
def ex (d : Dev nD) (e : Fin 4) : Fin 16 := ⟨4 * d.val + e.val, by have := d.isLt; have := e.isLt; show 4 * d.val + e.val < 16; have h : d.val < 4 := d.isLt; omega⟩

theorem gcol_apply (e : Fin 16) (G : Vec Ideal S256x16 .f32) (r : Fin 256) (u : Fin 1) :
    gcol (F := Ideal) (BitVec.ofNat 32 e.val) G (ix2 r u) = G (ix2 r e) := by
  unfold gcol
  rw [shapeCast_a_a1_apply]
  refine (Ideal.multiReduction_add_single _ _ _ _ _ _).trans ?_
  refine (Finset.sum_eq_single (ι := Fin 16) e (fun e' _ hne => ?_) (fun h => absurd (Finset.mem_univ _) h)).trans ?_
  · rw [show reduces_S256x16_S256.lift (ix1 r) e' = ix2 r e' from by
      funext a; match a with | ⟨0, _⟩ => rfl | ⟨1, _⟩ => rfl]
    rw [select_apply]
    have h : cmpi .eq io (broadcast S256x16 (BitVec.ofNat 32 e.val)) (ix2 r e') = 0#1 := by
      show IntOp.cmpi .eq (BitVec.ofNat 32 (0 * 16 + e'.val)) (BitVec.ofNat 32 e.val) = 0#1
      rw [Nat.zero_mul, Nat.zero_add]
      revert hne; revert e e'; decide +kernel
    rw [h]
    exact Ideal.ofBits_zero_f32
  · rw [show reduces_S256x16_S256.lift (ix1 r) e = ix2 r e from by
      funext a; match a with | ⟨0, _⟩ => rfl | ⟨1, _⟩ => rfl]
    rw [select_apply]
    have h : cmpi .eq io (broadcast S256x16 (BitVec.ofNat 32 e.val)) (ix2 r e) = 1#1 := by
      show IntOp.cmpi .eq (BitVec.ofNat 32 (0 * 16 + e.val)) (BitVec.ofNat 32 e.val) = 1#1
      rw [Nat.zero_mul, Nat.zero_add]; simp [IntOp.cmpi]
    rw [h]; rfl

theorem mm256_apply (X : FVec Ideal S256x512 .f32) (W : FVec Ideal S512x256 .f32) (r : Fin 256) (j : Fin 256) :
    matmul dot_S256x512_S512x256_S256x256_1_0_0_1_n_n none X W (constant S256x256 .f32 0x00000000#32) (ix2 r j) = ∑ k : Fin 512, X (ix2 r k) * W (ix2 k j) := by
  refine (Ideal.matmul_constant_zero_apply _ none X W (ix2 r j)).trans ?_
  rw [← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  rw [show dot_S256x512_S512x256_S256x256_1_0_0_1_n_n.lhsIdx (ix2 r j) ((contrEquiv1 dot_S256x512_S512x256_S256x256_1_0_0_1_n_n 512 rfl rfl).symm k) = ix2 r k from by
        funext a; match a with | ⟨0, _⟩ => rfl | ⟨1, _⟩ => exact Fin.ext hk,
    show dot_S256x512_S512x256_S256x256_1_0_0_1_n_n.rhsIdx (ix2 r j) ((contrEquiv1 dot_S256x512_S512x256_S256x256_1_0_0_1_n_n 512 rfl rfl).symm k) = ix2 k j from by
        funext a; match a with | ⟨0, _⟩ => exact Fin.ext hk | ⟨1, _⟩ => rfl]

theorem term256_apply (e : Fin 16) (X : FVec Ideal S256x512 .f32) (G : Vec Ideal S256x16 .f32) (W : Vec Ideal S1x512x256 .f32) (r : Fin 256) (j : Fin 256) :
    term256 (F := Ideal) (BitVec.ofNat 32 e.val) X G W (ix2 r j) = (G (ix2 r e) : EReal) * ∑ k : Fin 512, (X (ix2 r k) : EReal) * W (ix3 (0 : Fin 1) k j) := by
  unfold term256
  rw [mulf_apply]
  have h1 : broadcastTo S256x256 (gcol (F := Ideal) (BitVec.ofNat 32 e.val) G) broadcasts_S256x1_S256x256 (ix2 r j) = G (ix2 r e) := by
    rw [broadcastTo_apply _ _ (ix2 r j) (ix2 r (0 : Fin 1)) (fun a => by match a with | ⟨0, _⟩ => rfl | ⟨1, _⟩ => rfl)]
    exact gcol_apply e G r 0
  rw [h1, mm256_apply]
  refine congrArg (_ * ·) (Finset.sum_congr rfl fun k _ => ?_)
  rw [shapeCast_1ab_ab_apply]

/-- A partial result at row `r`, column `j`. -/
theorem part256_apply (d : Dev nD) (X : Vec Ideal S256x512 .f32) (G : Vec Ideal S256x16 .f32) (W0 W1 W2 W3 : Vec Ideal S1x512x256 .f32) (r : Fin 256) (j : Fin 256) :
    part256 (F := Ideal) (v2 d) X G W0 W1 W2 W3 (ix2 r j)
      = ∑ e : Fin 4, (G (ix2 r (ex d e)) : EReal) * ∑ k : Fin 512, (X (ix2 r k) : EReal) * (![W0, W1, W2, W3] e) (ix3 (0 : Fin 1) k j) := by
  unfold part256
  rw [v2_eq, shapeCast_self]
  rw [addf_apply, addf_apply, addf_apply, addf_apply]
  rw [show Scalar.addi (Scalar.muli (BitVec.ofNat 32 d.val) 4#32) 0#32 = BitVec.ofNat 32 (ex d 0).val from word_eq d 0,
    show Scalar.addi (Scalar.muli (BitVec.ofNat 32 d.val) 4#32) 1#32 = BitVec.ofNat 32 (ex d 1).val from word_eq d 1,
    show Scalar.addi (Scalar.muli (BitVec.ofNat 32 d.val) 4#32) 2#32 = BitVec.ofNat 32 (ex d 2).val from word_eq d 2,
    show Scalar.addi (Scalar.muli (BitVec.ofNat 32 d.val) 4#32) 3#32 = BitVec.ofNat 32 (ex d 3).val from word_eq d 3]
  rw [term256_apply, term256_apply, term256_apply, term256_apply]
  rw [show broadcast S256x256 (Scalar.ofBits (F := Ideal) .f32 0x00000000#32) (ix2 r j) = (0 : EReal) from Ideal.ofBits_zero_f32, zero_add]
  rw [Fin.sum_univ_four]
  rfl

theorem mm512_apply (X : FVec Ideal S256x512 .f32) (W : FVec Ideal S512x512 .f32) (r : Fin 256) (j : Fin 512) :
    matmul dot_S256x512_S512x512_S256x512_1_0_0_1_n_n none X W (constant S256x512 .f32 0x00000000#32) (ix2 r j) = ∑ k : Fin 512, X (ix2 r k) * W (ix2 k j) := by
  refine (Ideal.matmul_constant_zero_apply _ none X W (ix2 r j)).trans ?_
  rw [← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  rw [show dot_S256x512_S512x512_S256x512_1_0_0_1_n_n.lhsIdx (ix2 r j) ((contrEquiv1 dot_S256x512_S512x512_S256x512_1_0_0_1_n_n 512 rfl rfl).symm k) = ix2 r k from by
        funext a; match a with | ⟨0, _⟩ => rfl | ⟨1, _⟩ => exact Fin.ext hk,
    show dot_S256x512_S512x512_S256x512_1_0_0_1_n_n.rhsIdx (ix2 r j) ((contrEquiv1 dot_S256x512_S512x512_S256x512_1_0_0_1_n_n 512 rfl rfl).symm k) = ix2 k j from by
        funext a; match a with | ⟨0, _⟩ => exact Fin.ext hk | ⟨1, _⟩ => rfl]

theorem term512_apply (e : Fin 16) (X : FVec Ideal S256x512 .f32) (G : Vec Ideal S256x16 .f32) (W : Vec Ideal S1x512x512 .f32) (r : Fin 256) (j : Fin 512) :
    term512 (F := Ideal) (BitVec.ofNat 32 e.val) X G W (ix2 r j) = (G (ix2 r e) : EReal) * ∑ k : Fin 512, (X (ix2 r k) : EReal) * W (ix3 (0 : Fin 1) k j) := by
  unfold term512
  rw [mulf_apply]
  have h1 : broadcastTo S256x512 (gcol (F := Ideal) (BitVec.ofNat 32 e.val) G) broadcasts_S256x1_S256x512 (ix2 r j) = G (ix2 r e) := by
    rw [broadcastTo_apply _ _ (ix2 r j) (ix2 r (0 : Fin 1)) (fun a => by match a with | ⟨0, _⟩ => rfl | ⟨1, _⟩ => rfl)]
    exact gcol_apply e G r 0
  rw [h1, mm512_apply]
  refine congrArg (_ * ·) (Finset.sum_congr rfl fun k _ => ?_)
  rw [shapeCast_1ab_ab_apply]

/-- A partial result at row `r`, column `j`. -/
theorem part512_apply (d : Dev nD) (X : Vec Ideal S256x512 .f32) (G : Vec Ideal S256x16 .f32) (W0 W1 W2 W3 : Vec Ideal S1x512x512 .f32) (r : Fin 256) (j : Fin 512) :
    part512 (F := Ideal) (v2 d) X G W0 W1 W2 W3 (ix2 r j)
      = ∑ e : Fin 4, (G (ix2 r (ex d e)) : EReal) * ∑ k : Fin 512, (X (ix2 r k) : EReal) * (![W0, W1, W2, W3] e) (ix3 (0 : Fin 1) k j) := by
  unfold part512
  rw [v2_eq, shapeCast_self]
  rw [addf_apply, addf_apply, addf_apply, addf_apply]
  rw [show Scalar.addi (Scalar.muli (BitVec.ofNat 32 d.val) 4#32) 0#32 = BitVec.ofNat 32 (ex d 0).val from word_eq d 0,
    show Scalar.addi (Scalar.muli (BitVec.ofNat 32 d.val) 4#32) 1#32 = BitVec.ofNat 32 (ex d 1).val from word_eq d 1,
    show Scalar.addi (Scalar.muli (BitVec.ofNat 32 d.val) 4#32) 2#32 = BitVec.ofNat 32 (ex d 2).val from word_eq d 2,
    show Scalar.addi (Scalar.muli (BitVec.ofNat 32 d.val) 4#32) 3#32 = BitVec.ofNat 32 (ex d 3).val from word_eq d 3]
  rw [term512_apply, term512_apply, term512_apply, term512_apply]
  rw [show broadcast S256x512 (Scalar.ofBits (F := Ideal) .f32 0x00000000#32) (ix2 r j) = (0 : EReal) from Ideal.ofBits_zero_f32, zero_add]
  rw [Fin.sum_univ_four]
  rfl

end Cert.KernelIdeal.Run
-- ==== Proof.IdealRun.Value.lean ====
module

public import proofs.«01_k».proof.Proof.IdealRun.Partial

/-! # The result on each device, as one sum over the devices and their experts -/

@[expose] public section

set_option maxRecDepth 65536

noncomputable section

namespace Cert.KernelIdeal.Run

open Cert.KernelIdeal Cert.KernelIdeal.Gen

open Idealize.ShloMosaic
open Idealize.ShloMosaic.TcCoe
open Idealize.ShloMosaic.ValueIdx
open Idealize.SL.Sem

variable (m : (ℓ : Loc nD τ sig) → Buf (Elt Ideal) ℓ) (ρ : Dev nD → PrngReg)

/-- Row `r` of chunk `c`. -/
def row (c : Dev nD) (r : Fin 256) : Fin 1024 := ⟨256 * c.val + r.val, by have h : c.val < 4 := c.isLt; have := r.isLt; omega⟩

/-- Device `d`'s activations, gates and experts. -/
def xv (d : Dev nD) (t : Fin 1024) (k : Fin 512) : EReal := xstg m ρ d (ix2 t k)
def gv (d : Dev nD) (t : Fin 1024) (e : Fin 16) : EReal := gates m ρ d (ix2 t e)
def ev (d : Dev nD) (e : Fin 4) (k : Fin 512) (f : Fin 1024) : EReal := estg m ρ d (ix3 e k f)

/-- What device `d`'s experts give row `t`, column `f`. -/
def contrib (d : Dev nD) (t : Fin 1024) (f : Fin 1024) : EReal :=
  ∑ e : Fin 4, gv m ρ d t (ex d e) * ∑ k : Fin 512, xv m ρ d t k * ev m ρ d e k f

/-! ## Reads -/

theorem xA_unit (c : Dev nD) (off : Fin S1024x512.rank → Nat) (inb) (t : Fin 1024) (r : Fin 256) (k : Fin 512) (h0 : off 0 + r.val = t.val) (h1 : off 1 = 0) :
    xA m ρ c (Rect.unit (s := S1024x512) off S256x512.size inb).toLoadRect (ix2 r k) = xstg m ρ c (ix2 t k) := by
  refine congrArg (xstg m ρ c) ?_
  funext a
  match a with
  | ⟨0, _⟩ => exact Fin.ext (by show off 0 + 1 * r.val = t.val; omega)
  | ⟨1, _⟩ => exact Fin.ext (by show off 1 + 1 * k.val = k.val; omega)
theorem gA_unit (c : Dev nD) (off : Fin S1024x16.rank → Nat) (inb) (t : Fin 1024) (r : Fin 256) (k : Fin 16) (h0 : off 0 + r.val = t.val) (h1 : off 1 = 0) :
    gA m ρ c (Rect.unit (s := S1024x16) off S256x16.size inb).toLoadRect (ix2 r k) = gates m ρ c (ix2 t k) := by
  refine congrArg (gates m ρ c) ?_
  funext a
  match a with
  | ⟨0, _⟩ => exact Fin.ext (by show off 0 + 1 * r.val = t.val; omega)
  | ⟨1, _⟩ => exact Fin.ext (by show off 1 + 1 * k.val = k.val; omega)
theorem eA_unit256 (c : Dev nD) (off : Fin S4x512x1024.rank → Nat) (inb) (e : Fin 4) (k : Fin 512) (j : Fin 256) (f : Fin 1024) (h0 : off 0 = e.val) (h1 : off 1 = 0)
    (h2 : off 2 + j.val = f.val) :
    eA m ρ c (Rect.unit (s := S4x512x1024) off S1x512x256.size inb).toLoadRect (ix3 (0 : Fin 1) k j) = estg m ρ c (ix3 e k f) := by
  refine congrArg (estg m ρ c) ?_
  funext a
  match a with
  | ⟨0, _⟩ => exact Fin.ext (by show off 0 + 1 * 0 = e.val; omega)
  | ⟨1, _⟩ => exact Fin.ext (by show off 1 + 1 * k.val = k.val; omega)
  | ⟨2, _⟩ => exact Fin.ext (by show off 2 + 1 * j.val = f.val; omega)
theorem eA_unit512 (c : Dev nD) (off : Fin S4x512x1024.rank → Nat) (inb) (e : Fin 4) (k : Fin 512) (j : Fin 512) (f : Fin 1024) (h0 : off 0 = e.val) (h1 : off 1 = 0)
    (h2 : off 2 + j.val = f.val) :
    eA m ρ c (Rect.unit (s := S4x512x1024) off S1x512x512.size inb).toLoadRect (ix3 (0 : Fin 1) k j) = estg m ρ c (ix3 e k f) := by
  refine congrArg (estg m ρ c) ?_
  funext a
  match a with
  | ⟨0, _⟩ => exact Fin.ext (by show off 0 + 1 * 0 = e.val; omega)
  | ⟨1, _⟩ => exact Fin.ext (by show off 1 + 1 * k.val = k.val; omega)
  | ⟨2, _⟩ => exact Fin.ext (by show off 2 + 1 * j.val = f.val; omega)

theorem X1_apply (d c : Dev nD) (h : (d.val + 1) % 4 = c.val) (r : Fin 256) (k : Fin 512) : X1 m ρ d (ix2 r k) = xstg m ρ d (ix2 (row c r) k) := by
  have e : k0_off1 d 1#32 = ![256 * c.val, 0] := by
    rw [← h]; exact k0_off1_eq d ⟨0, by decide⟩
  exact xA_unit m ρ d _ _ (row c r) r k (by rw [e]; rfl) (by rw [e]; rfl)
theorem X2_apply (d c : Dev nD) (h : (d.val + 2) % 4 = c.val) (r : Fin 256) (k : Fin 512) : X2 m ρ d (ix2 r k) = xstg m ρ d (ix2 (row c r) k) := by
  have e : k0_off1 d 2#32 = ![256 * c.val, 0] := by
    rw [← h]; exact k0_off1_eq d ⟨1, by decide⟩
  exact xA_unit m ρ d _ _ (row c r) r k (by rw [e]; rfl) (by rw [e]; rfl)
theorem X3_apply (d c : Dev nD) (h : (d.val + 3) % 4 = c.val) (r : Fin 256) (k : Fin 512) : X3 m ρ d (ix2 r k) = xstg m ρ d (ix2 (row c r) k) := by
  have e : k0_off1 d 3#32 = ![256 * c.val, 0] := by
    rw [← h]; exact k0_off1_eq d ⟨2, by decide⟩
  exact xA_unit m ρ d _ _ (row c r) r k (by rw [e]; rfl) (by rw [e]; rfl)
theorem G1_apply (d c : Dev nD) (h : (d.val + 1) % 4 = c.val) (r : Fin 256) (k : Fin 16) : G1 m ρ d (ix2 r k) = gates m ρ d (ix2 (row c r) k) := by
  have e : k0_off2 d 1#32 = ![256 * c.val, 0] := by
    rw [← h]; exact k0_off2_eq d ⟨0, by decide⟩
  exact gA_unit m ρ d _ _ (row c r) r k (by rw [e]; rfl) (by rw [e]; rfl)
theorem G2_apply (d c : Dev nD) (h : (d.val + 2) % 4 = c.val) (r : Fin 256) (k : Fin 16) : G2 m ρ d (ix2 r k) = gates m ρ d (ix2 (row c r) k) := by
  have e : k0_off2 d 2#32 = ![256 * c.val, 0] := by
    rw [← h]; exact k0_off2_eq d ⟨1, by decide⟩
  exact gA_unit m ρ d _ _ (row c r) r k (by rw [e]; rfl) (by rw [e]; rfl)
theorem G3_apply (d c : Dev nD) (h : (d.val + 3) % 4 = c.val) (r : Fin 256) (k : Fin 16) : G3 m ρ d (ix2 r k) = gates m ρ d (ix2 (row c r) k) := by
  have e : k0_off2 d 3#32 = ![256 * c.val, 0] := by
    rw [← h]; exact k0_off2_eq d ⟨2, by decide⟩
  exact gA_unit m ρ d _ _ (row c r) r k (by rw [e]; rfl) (by rw [e]; rfl)
theorem X0_apply (d c : Dev nD) (h : d = c) (r : Fin 256) (k : Fin 512) : X0 m ρ d (ix2 r k) = xstg m ρ d (ix2 (row c r) k) := by
  have e : k0_off3 d = ![256 * c.val, 0] := by rw [← h]; exact k0_off3_eq d
  exact xA_unit m ρ d _ _ (row c r) r k (by rw [e]; rfl) (by rw [e]; rfl)
theorem G0_apply (d c : Dev nD) (h : d = c) (r : Fin 256) (k : Fin 16) : G0 m ρ d (ix2 r k) = gates m ρ d (ix2 (row c r) k) := by
  have e : k0_off4 d = ![256 * c.val, 0] := by rw [← h]; exact k0_off4_eq d
  exact gA_unit m ρ d _ _ (row c r) r k (by rw [e]; rfl) (by rw [e]; rfl)
theorem Q_0_apply (d : Dev nD) (e : Fin 4) (k : Fin 512) (j : Fin 256) (f : Fin 1024) (h : 0 + j.val = f.val) :
    (![Q0_0 m ρ d, Q1_0 m ρ d, Q2_0 m ρ d, Q3_0 m ρ d] e) (ix3 (0 : Fin 1) k j) = estg m ρ d (ix3 e k f) := by
  match e with
  | ⟨0, _⟩ => exact eA_unit256 m ρ d ![0, 0, 0] _ ⟨0, by decide⟩ k j f rfl rfl h
  | ⟨1, _⟩ => exact eA_unit256 m ρ d ![1, 0, 0] _ ⟨1, by decide⟩ k j f rfl rfl h
  | ⟨2, _⟩ => exact eA_unit256 m ρ d ![2, 0, 0] _ ⟨2, by decide⟩ k j f rfl rfl h
  | ⟨3, _⟩ => exact eA_unit256 m ρ d ![3, 0, 0] _ ⟨3, by decide⟩ k j f rfl rfl h
theorem Q_256_apply (d : Dev nD) (e : Fin 4) (k : Fin 512) (j : Fin 256) (f : Fin 1024) (h : 256 + j.val = f.val) :
    (![Q0_256 m ρ d, Q1_256 m ρ d, Q2_256 m ρ d, Q3_256 m ρ d] e) (ix3 (0 : Fin 1) k j) = estg m ρ d (ix3 e k f) := by
  match e with
  | ⟨0, _⟩ => exact eA_unit256 m ρ d ![0, 0, 256] _ ⟨0, by decide⟩ k j f rfl rfl h
  | ⟨1, _⟩ => exact eA_unit256 m ρ d ![1, 0, 256] _ ⟨1, by decide⟩ k j f rfl rfl h
  | ⟨2, _⟩ => exact eA_unit256 m ρ d ![2, 0, 256] _ ⟨2, by decide⟩ k j f rfl rfl h
  | ⟨3, _⟩ => exact eA_unit256 m ρ d ![3, 0, 256] _ ⟨3, by decide⟩ k j f rfl rfl h
theorem Q_512_apply (d : Dev nD) (e : Fin 4) (k : Fin 512) (j : Fin 256) (f : Fin 1024) (h : 512 + j.val = f.val) :
    (![Q0_512 m ρ d, Q1_512 m ρ d, Q2_512 m ρ d, Q3_512 m ρ d] e) (ix3 (0 : Fin 1) k j) = estg m ρ d (ix3 e k f) := by
  match e with
  | ⟨0, _⟩ => exact eA_unit256 m ρ d ![0, 0, 512] _ ⟨0, by decide⟩ k j f rfl rfl h
  | ⟨1, _⟩ => exact eA_unit256 m ρ d ![1, 0, 512] _ ⟨1, by decide⟩ k j f rfl rfl h
  | ⟨2, _⟩ => exact eA_unit256 m ρ d ![2, 0, 512] _ ⟨2, by decide⟩ k j f rfl rfl h
  | ⟨3, _⟩ => exact eA_unit256 m ρ d ![3, 0, 512] _ ⟨3, by decide⟩ k j f rfl rfl h
theorem Q_768_apply (d : Dev nD) (e : Fin 4) (k : Fin 512) (j : Fin 256) (f : Fin 1024) (h : 768 + j.val = f.val) :
    (![Q0_768 m ρ d, Q1_768 m ρ d, Q2_768 m ρ d, Q3_768 m ρ d] e) (ix3 (0 : Fin 1) k j) = estg m ρ d (ix3 e k f) := by
  match e with
  | ⟨0, _⟩ => exact eA_unit256 m ρ d ![0, 0, 768] _ ⟨0, by decide⟩ k j f rfl rfl h
  | ⟨1, _⟩ => exact eA_unit256 m ρ d ![1, 0, 768] _ ⟨1, by decide⟩ k j f rfl rfl h
  | ⟨2, _⟩ => exact eA_unit256 m ρ d ![2, 0, 768] _ ⟨2, by decide⟩ k j f rfl rfl h
  | ⟨3, _⟩ => exact eA_unit256 m ρ d ![3, 0, 768] _ ⟨3, by decide⟩ k j f rfl rfl h
theorem W_0_apply (d : Dev nD) (e : Fin 4) (k : Fin 512) (j : Fin 512) (f : Fin 1024) (h : 0 + j.val = f.val) :
    (![W0_0 m ρ d, W1_0 m ρ d, W2_0 m ρ d, W3_0 m ρ d] e) (ix3 (0 : Fin 1) k j) = estg m ρ d (ix3 e k f) := by
  match e with
  | ⟨0, _⟩ => exact eA_unit512 m ρ d ![0, 0, 0] _ ⟨0, by decide⟩ k j f rfl rfl h
  | ⟨1, _⟩ => exact eA_unit512 m ρ d ![1, 0, 0] _ ⟨1, by decide⟩ k j f rfl rfl h
  | ⟨2, _⟩ => exact eA_unit512 m ρ d ![2, 0, 0] _ ⟨2, by decide⟩ k j f rfl rfl h
  | ⟨3, _⟩ => exact eA_unit512 m ρ d ![3, 0, 0] _ ⟨3, by decide⟩ k j f rfl rfl h
theorem W_512_apply (d : Dev nD) (e : Fin 4) (k : Fin 512) (j : Fin 512) (f : Fin 1024) (h : 512 + j.val = f.val) :
    (![W0_512 m ρ d, W1_512 m ρ d, W2_512 m ρ d, W3_512 m ρ d] e) (ix3 (0 : Fin 1) k j) = estg m ρ d (ix3 e k f) := by
  match e with
  | ⟨0, _⟩ => exact eA_unit512 m ρ d ![0, 0, 512] _ ⟨0, by decide⟩ k j f rfl rfl h
  | ⟨1, _⟩ => exact eA_unit512 m ρ d ![1, 0, 512] _ ⟨1, by decide⟩ k j f rfl rfl h
  | ⟨2, _⟩ => exact eA_unit512 m ρ d ![2, 0, 512] _ ⟨2, by decide⟩ k j f rfl rfl h
  | ⟨3, _⟩ => exact eA_unit512 m ρ d ![3, 0, 512] _ ⟨3, by decide⟩ k j f rfl rfl h

/-! ## Every part is its device's contribution to its chunk -/

theorem pA0_apply (d c : Dev nD) (h : (d.val + 2) % 4 = c.val) (r : Fin 256) (j : Fin 256) (f : Fin 1024) (hf : 0 + j.val = f.val) :
    part256 (v2 d) (X2 m ρ d) (G2 m ρ d) (Q0_0 m ρ d) (Q1_0 m ρ d) (Q2_0 m ρ d) (Q3_0 m ρ d) (ix2 r j) = contrib m ρ d (row c r) f := by
  rw [part256_apply]
  refine Finset.sum_congr rfl fun e _ => ?_
  refine congrArg₂ (fun a b : EReal => a * b) (G2_apply m ρ d c h r (ex d e)) (Finset.sum_congr rfl fun k _ => ?_)
  exact congrArg₂ (fun a b : EReal => a * b) (X2_apply m ρ d c h r k) (Q_0_apply m ρ d e k j f hf)
theorem pP0_apply (d c : Dev nD) (h : (d.val + 1) % 4 = c.val) (r : Fin 256) (j : Fin 256) (f : Fin 1024) (hf : 0 + j.val = f.val) :
    part256 (v2 d) (X1 m ρ d) (G1 m ρ d) (Q0_0 m ρ d) (Q1_0 m ρ d) (Q2_0 m ρ d) (Q3_0 m ρ d) (ix2 r j) = contrib m ρ d (row c r) f := by
  rw [part256_apply]
  refine Finset.sum_congr rfl fun e _ => ?_
  refine congrArg₂ (fun a b : EReal => a * b) (G1_apply m ρ d c h r (ex d e)) (Finset.sum_congr rfl fun k _ => ?_)
  exact congrArg₂ (fun a b : EReal => a * b) (X1_apply m ρ d c h r k) (Q_0_apply m ρ d e k j f hf)
theorem pA1_apply (d c : Dev nD) (h : (d.val + 2) % 4 = c.val) (r : Fin 256) (j : Fin 256) (f : Fin 1024) (hf : 256 + j.val = f.val) :
    part256 (v2 d) (X2 m ρ d) (G2 m ρ d) (Q0_256 m ρ d) (Q1_256 m ρ d) (Q2_256 m ρ d) (Q3_256 m ρ d) (ix2 r j) = contrib m ρ d (row c r) f := by
  rw [part256_apply]
  refine Finset.sum_congr rfl fun e _ => ?_
  refine congrArg₂ (fun a b : EReal => a * b) (G2_apply m ρ d c h r (ex d e)) (Finset.sum_congr rfl fun k _ => ?_)
  exact congrArg₂ (fun a b : EReal => a * b) (X2_apply m ρ d c h r k) (Q_256_apply m ρ d e k j f hf)
theorem pP1_apply (d c : Dev nD) (h : (d.val + 1) % 4 = c.val) (r : Fin 256) (j : Fin 256) (f : Fin 1024) (hf : 256 + j.val = f.val) :
    part256 (v2 d) (X1 m ρ d) (G1 m ρ d) (Q0_256 m ρ d) (Q1_256 m ρ d) (Q2_256 m ρ d) (Q3_256 m ρ d) (ix2 r j) = contrib m ρ d (row c r) f := by
  rw [part256_apply]
  refine Finset.sum_congr rfl fun e _ => ?_
  refine congrArg₂ (fun a b : EReal => a * b) (G1_apply m ρ d c h r (ex d e)) (Finset.sum_congr rfl fun k _ => ?_)
  exact congrArg₂ (fun a b : EReal => a * b) (X1_apply m ρ d c h r k) (Q_256_apply m ρ d e k j f hf)
theorem pA2_apply (d c : Dev nD) (h : (d.val + 2) % 4 = c.val) (r : Fin 256) (j : Fin 256) (f : Fin 1024) (hf : 512 + j.val = f.val) :
    part256 (v2 d) (X2 m ρ d) (G2 m ρ d) (Q0_512 m ρ d) (Q1_512 m ρ d) (Q2_512 m ρ d) (Q3_512 m ρ d) (ix2 r j) = contrib m ρ d (row c r) f := by
  rw [part256_apply]
  refine Finset.sum_congr rfl fun e _ => ?_
  refine congrArg₂ (fun a b : EReal => a * b) (G2_apply m ρ d c h r (ex d e)) (Finset.sum_congr rfl fun k _ => ?_)
  exact congrArg₂ (fun a b : EReal => a * b) (X2_apply m ρ d c h r k) (Q_512_apply m ρ d e k j f hf)
theorem pP2_apply (d c : Dev nD) (h : (d.val + 3) % 4 = c.val) (r : Fin 256) (j : Fin 256) (f : Fin 1024) (hf : 512 + j.val = f.val) :
    part256 (v2 d) (X3 m ρ d) (G3 m ρ d) (Q0_512 m ρ d) (Q1_512 m ρ d) (Q2_512 m ρ d) (Q3_512 m ρ d) (ix2 r j) = contrib m ρ d (row c r) f := by
  rw [part256_apply]
  refine Finset.sum_congr rfl fun e _ => ?_
  refine congrArg₂ (fun a b : EReal => a * b) (G3_apply m ρ d c h r (ex d e)) (Finset.sum_congr rfl fun k _ => ?_)
  exact congrArg₂ (fun a b : EReal => a * b) (X3_apply m ρ d c h r k) (Q_512_apply m ρ d e k j f hf)
theorem pA3_apply (d c : Dev nD) (h : (d.val + 2) % 4 = c.val) (r : Fin 256) (j : Fin 256) (f : Fin 1024) (hf : 768 + j.val = f.val) :
    part256 (v2 d) (X2 m ρ d) (G2 m ρ d) (Q0_768 m ρ d) (Q1_768 m ρ d) (Q2_768 m ρ d) (Q3_768 m ρ d) (ix2 r j) = contrib m ρ d (row c r) f := by
  rw [part256_apply]
  refine Finset.sum_congr rfl fun e _ => ?_
  refine congrArg₂ (fun a b : EReal => a * b) (G2_apply m ρ d c h r (ex d e)) (Finset.sum_congr rfl fun k _ => ?_)
  exact congrArg₂ (fun a b : EReal => a * b) (X2_apply m ρ d c h r k) (Q_768_apply m ρ d e k j f hf)
theorem pP3_apply (d c : Dev nD) (h : (d.val + 3) % 4 = c.val) (r : Fin 256) (j : Fin 256) (f : Fin 1024) (hf : 768 + j.val = f.val) :
    part256 (v2 d) (X3 m ρ d) (G3 m ρ d) (Q0_768 m ρ d) (Q1_768 m ρ d) (Q2_768 m ρ d) (Q3_768 m ρ d) (ix2 r j) = contrib m ρ d (row c r) f := by
  rw [part256_apply]
  refine Finset.sum_congr rfl fun e _ => ?_
  refine congrArg₂ (fun a b : EReal => a * b) (G3_apply m ρ d c h r (ex d e)) (Finset.sum_congr rfl fun k _ => ?_)
  exact congrArg₂ (fun a b : EReal => a * b) (X3_apply m ρ d c h r k) (Q_768_apply m ρ d e k j f hf)
theorem pH0_apply (d c : Dev nD) (h : (d.val + 3) % 4 = c.val) (r : Fin 256) (j : Fin 512) (f : Fin 1024) (hf : 0 + j.val = f.val) :
    part512 (v2 d) (X3 m ρ d) (G3 m ρ d) (W0_0 m ρ d) (W1_0 m ρ d) (W2_0 m ρ d) (W3_0 m ρ d) (ix2 r j) = contrib m ρ d (row c r) f := by
  rw [part512_apply]
  refine Finset.sum_congr rfl fun e _ => ?_
  refine congrArg₂ (fun a b : EReal => a * b) (G3_apply m ρ d c h r (ex d e)) (Finset.sum_congr rfl fun k _ => ?_)
  exact congrArg₂ (fun a b : EReal => a * b) (X3_apply m ρ d c h r k) (W_0_apply m ρ d e k j f hf)
theorem pH1_apply (d c : Dev nD) (h : (d.val + 1) % 4 = c.val) (r : Fin 256) (j : Fin 512) (f : Fin 1024) (hf : 512 + j.val = f.val) :
    part512 (v2 d) (X1 m ρ d) (G1 m ρ d) (W0_512 m ρ d) (W1_512 m ρ d) (W2_512 m ρ d) (W3_512 m ρ d) (ix2 r j) = contrib m ρ d (row c r) f := by
  rw [part512_apply]
  refine Finset.sum_congr rfl fun e _ => ?_
  refine congrArg₂ (fun a b : EReal => a * b) (G1_apply m ρ d c h r (ex d e)) (Finset.sum_congr rfl fun k _ => ?_)
  exact congrArg₂ (fun a b : EReal => a * b) (X1_apply m ρ d c h r k) (W_512_apply m ρ d e k j f hf)
theorem pO0_apply (d c : Dev nD) (h : d = c) (r : Fin 256) (j : Fin 512) (f : Fin 1024) (hf : 0 + j.val = f.val) :
    part512 (v2 d) (X0 m ρ d) (G0 m ρ d) (W0_0 m ρ d) (W1_0 m ρ d) (W2_0 m ρ d) (W3_0 m ρ d) (ix2 r j) = contrib m ρ d (row c r) f := by
  rw [part512_apply]
  refine Finset.sum_congr rfl fun e _ => ?_
  refine congrArg₂ (fun a b : EReal => a * b) (G0_apply m ρ d c h r (ex d e)) (Finset.sum_congr rfl fun k _ => ?_)
  exact congrArg₂ (fun a b : EReal => a * b) (X0_apply m ρ d c h r k) (W_0_apply m ρ d e k j f hf)
theorem pO1_apply (d c : Dev nD) (h : d = c) (r : Fin 256) (j : Fin 512) (f : Fin 1024) (hf : 512 + j.val = f.val) :
    part512 (v2 d) (X0 m ρ d) (G0 m ρ d) (W0_512 m ρ d) (W1_512 m ρ d) (W2_512 m ρ d) (W3_512 m ρ d) (ix2 r j) = contrib m ρ d (row c r) f := by
  rw [part512_apply]
  refine Finset.sum_congr rfl fun e _ => ?_
  refine congrArg₂ (fun a b : EReal => a * b) (G0_apply m ρ d c h r (ex d e)) (Finset.sum_congr rfl fun k _ => ?_)
  exact congrArg₂ (fun a b : EReal => a * b) (X0_apply m ρ d c h r k) (W_512_apply m ρ d e k j f hf)

theorem prv_one : ∀ c : Dev nD, ((prv c).val + 1) % 4 = c.val := by decide +kernel
theorem nxt_three : ∀ c : Dev nD, ((nxt c).val + 3) % 4 = c.val := by decide +kernel
theorem prv_two : ∀ c : Dev nD, ((prv (prv c)).val + 2) % 4 = c.val := by decide +kernel
theorem nxt_two : ∀ c : Dev nD, ((nxt (nxt c)).val + 2) % 4 = c.val := by decide +kernel

theorem T0_apply (c : Dev nD) (r j : Fin 256) (f : Fin 1024) (hf : 0 + j.val = f.val) :
    T0 m ρ (prv c) (ix3 (0 : Fin 1) r j) = contrib m ρ (prv (prv c)) (row c r) f + contrib m ρ (prv c) (row c r) f := by
  rw [T0_eq, shapeCast_ab_1ab_apply]
  show addf (shapeCast S256x256 (A0 m ρ (prv (prv c))) shapeCasts_S1x256x256_S256x256) (P0 m ρ (prv c)) (ix2 r j) = _
  rw [addf_apply, shapeCast_1ab_ab_apply, A0_eq, shapeCast_ab_1ab_apply, P0_eq]
  refine congrArg₂ (· + ·) ?_ (pP0_apply m ρ (prv c) c (prv_one c) r j f hf)
  exact pA0_apply m ρ (prv (prv c)) c (prv_two c) r j f hf
theorem T1_apply (c : Dev nD) (r j : Fin 256) (f : Fin 1024) (hf : 256 + j.val = f.val) :
    T1 m ρ (prv c) (ix3 (0 : Fin 1) r j) = contrib m ρ (prv (prv c)) (row c r) f + contrib m ρ (prv c) (row c r) f := by
  rw [T1_eq, shapeCast_ab_1ab_apply]
  show addf (shapeCast S256x256 (A1 m ρ (prv (prv c))) shapeCasts_S1x256x256_S256x256) (P1 m ρ (prv c)) (ix2 r j) = _
  rw [addf_apply, shapeCast_1ab_ab_apply, A1_eq, shapeCast_ab_1ab_apply, P1_eq]
  refine congrArg₂ (· + ·) ?_ (pP1_apply m ρ (prv c) c (prv_one c) r j f hf)
  exact pA1_apply m ρ (prv (prv c)) c (prv_two c) r j f hf
theorem T2_apply (c : Dev nD) (r j : Fin 256) (f : Fin 1024) (hf : 512 + j.val = f.val) :
    T2 m ρ (nxt c) (ix3 (0 : Fin 1) r j) = contrib m ρ (nxt (nxt c)) (row c r) f + contrib m ρ (nxt c) (row c r) f := by
  rw [T2_eq, shapeCast_ab_1ab_apply]
  show addf (shapeCast S256x256 (A2 m ρ (nxt (nxt c))) shapeCasts_S1x256x256_S256x256) (P2 m ρ (nxt c)) (ix2 r j) = _
  rw [addf_apply, shapeCast_1ab_ab_apply, A2_eq, shapeCast_ab_1ab_apply, P2_eq]
  refine congrArg₂ (· + ·) ?_ (pP2_apply m ρ (nxt c) c (nxt_three c) r j f hf)
  exact pA2_apply m ρ (nxt (nxt c)) c (nxt_two c) r j f hf
theorem T3_apply (c : Dev nD) (r j : Fin 256) (f : Fin 1024) (hf : 768 + j.val = f.val) :
    T3 m ρ (nxt c) (ix3 (0 : Fin 1) r j) = contrib m ρ (nxt (nxt c)) (row c r) f + contrib m ρ (nxt c) (row c r) f := by
  rw [T3_eq, shapeCast_ab_1ab_apply]
  show addf (shapeCast S256x256 (A3 m ρ (nxt (nxt c))) shapeCasts_S1x256x256_S256x256) (P3 m ρ (nxt c)) (ix2 r j) = _
  rw [addf_apply, shapeCast_1ab_ab_apply, A3_eq, shapeCast_ab_1ab_apply, P3_eq]
  refine congrArg₂ (· + ·) ?_ (pP3_apply m ρ (nxt c) c (nxt_three c) r j f hf)
  exact pA3_apply m ρ (nxt (nxt c)) c (nxt_two c) r j f hf

theorem H0_apply (c : Dev nD) (r : Fin 256) (j : Fin 512) (f : Fin 1024) (hf : 0 + j.val = f.val) :
    H0 m ρ (nxt c) (ix3 (0 : Fin 1) r j) = contrib m ρ (nxt c) (row c r) f := by
  rw [H0_eq, shapeCast_ab_1ab_apply]
  exact pH0_apply m ρ (nxt c) c (nxt_three c) r j f hf
theorem H1_apply (c : Dev nD) (r : Fin 256) (j : Fin 512) (f : Fin 1024) (hf : 512 + j.val = f.val) :
    H1 m ρ (prv c) (ix3 (0 : Fin 1) r j) = contrib m ρ (prv c) (row c r) f := by
  rw [H1_eq, shapeCast_ab_1ab_apply]
  exact pH1_apply m ρ (prv c) c (prv_one c) r j f hf

/-- The sum a device makes, read at an index: the two quarters side by side. -/
theorem fin_apply (O : FVec Ideal S256x512 .f32) (H : Vec Ideal S1x256x512 .bf16) (T T' : Vec Ideal S1x256x256 .bf16) (r : Fin 256) (j : Fin 512) :
    fin O H T T' (ix2 r j) = (O (ix2 r j) + H (ix3 (0 : Fin 1) r j)
      + (if h : j.val < 256 then T (ix3 (0 : Fin 1) r ⟨j.val, h⟩) else T' (ix3 (0 : Fin 1) r ⟨j.val - 256, by have := j.isLt; omega⟩) : EReal) : EReal) := by
  unfold fin
  rw [addf_apply, addf_apply]
  refine congrArg₂ (· + ·) (congrArg₂ (· + ·) rfl ?_) ?_
  · show shapeCast S256x512 H shapeCasts_S1x256x512_S256x512 (ix2 r j) = _
    rw [shapeCast_1ab_ab_apply]
  · by_cases h : j.val < 256
    · rw [dif_pos h]
      refine Eq.trans (concatenate_apply_piece (1 : Fin S256x512.rank) [⟨S256x256, (extf (F := Ideal) .f32 (shapeCast S256x256 T shapeCasts_S1x256x256_S256x256) bitsLt_bf16_f32 : S256x256.Idx → _)⟩, ⟨S256x256, extf (F := Ideal) .f32 (shapeCast S256x256 T' shapeCasts_S1x256x256_S256x256) bitsLt_bf16_f32⟩] _ _ 0 Nat.zero_lt_two S256x256 _ rfl rfl 0 rfl (ix2 r (⟨j.val, h⟩ : Fin 256)) (fun b hb => ?_) ?_) ?_
      · match b with
        | ⟨0, _⟩ => rfl
        | ⟨1, _⟩ => exact absurd rfl hb
      · show 0 + j.val = j.val; omega
      · show shapeCast S256x256 T shapeCasts_S1x256x256_S256x256 (ix2 r (⟨j.val, h⟩ : Fin 256)) = _
        rw [shapeCast_1ab_ab_apply]
    · rw [dif_neg h]
      have hj : j.val - 256 < 256 := by have := j.isLt; omega
      refine Eq.trans (concatenate_apply_piece (1 : Fin S256x512.rank) [⟨S256x256, (extf (F := Ideal) .f32 (shapeCast S256x256 T shapeCasts_S1x256x256_S256x256) bitsLt_bf16_f32 : S256x256.Idx → _)⟩, ⟨S256x256, extf (F := Ideal) .f32 (shapeCast S256x256 T' shapeCasts_S1x256x256_S256x256) bitsLt_bf16_f32⟩] _ _ 1 Nat.one_lt_two S256x256 _ rfl rfl 256 rfl (ix2 r (⟨j.val - 256, hj⟩ : Fin 256)) (fun b hb => ?_) ?_) ?_
      · match b with
        | ⟨0, _⟩ => rfl
        | ⟨1, _⟩ => exact absurd rfl hb
      · show 256 + (j.val - 256) = j.val; omega
      · show shapeCast S256x256 T' shapeCasts_S1x256x256_S256x256 (ix2 r (⟨j.val - 256, hj⟩ : Fin 256)) = _
        rw [shapeCast_1ab_ab_apply]

theorem ring_names : ∀ c : Dev nD, (c = 0 ∧ nxt c = 1 ∧ prv (prv c) = 2 ∧ nxt (nxt c) = 2 ∧ prv c = 3) ∨ (c = 1 ∧ nxt c = 2 ∧ prv (prv c) = 3 ∧ nxt (nxt c) = 3 ∧ prv c = 0)
    ∨ (c = 2 ∧ nxt c = 3 ∧ prv (prv c) = 0 ∧ nxt (nxt c) = 0 ∧ prv c = 1) ∨ (c = 3 ∧ nxt c = 0 ∧ prv (prv c) = 1 ∧ nxt (nxt c) = 1 ∧ prv c = 2) := by decide +kernel
/-- Going round the ring from device `c` meets every device once. -/
theorem ring_sum (g : Dev nD → EReal) (c : Dev nD) : g c + g (nxt c) + (g (prv (prv c)) + g (prv c)) = ∑ d : Fin 4, g d := by
  rw [Fin.sum_univ_four]
  rcases ring_names c with ⟨h0, h1, h2, h3, h4⟩ | ⟨h0, h1, h2, h3, h4⟩ | ⟨h0, h1, h2, h3, h4⟩ | ⟨h0, h1, h2, h3, h4⟩ <;>
  · rw [h1, h2, h4, h0]; ac_rfl
theorem ring_sum' (g : Dev nD → EReal) (c : Dev nD) : g c + g (prv c) + (g (nxt (nxt c)) + g (nxt c)) = ∑ d : Fin 4, g d := by
  rw [Fin.sum_univ_four]
  rcases ring_names c with ⟨h0, h1, h2, h3, h4⟩ | ⟨h0, h1, h2, h3, h4⟩ | ⟨h0, h1, h2, h3, h4⟩ | ⟨h0, h1, h2, h3, h4⟩ <;>
  · rw [h3, h1, h4, h0]; ac_rfl

theorem out0_apply (c : Dev nD) (r : Fin 256) (j : Fin 512) (f : Fin 1024) (hf : 0 + j.val = f.val) :
    out0 m ρ c (ix2 r j) = ∑ d : Fin 4, contrib m ρ d (row c r) f := by
  rw [out0_eq, fin_apply, H0_apply m ρ c r j f hf, Own0_eq, pO0_apply m ρ c c rfl r j f hf]
  rw [← ring_sum (fun d => contrib m ρ d (row c r) f) c]
  refine congrArg₂ (fun a b : EReal => a + b) rfl ?_
  by_cases h : j.val < 256
  · rw [dif_pos h]; exact T0_apply m ρ c r ⟨j.val, h⟩ f hf
  · rw [dif_neg h]; exact T1_apply m ρ c r ⟨j.val - 256, _⟩ f (by show 256 + (j.val - 256) = f.val; omega)

theorem out1_apply (c : Dev nD) (r : Fin 256) (j : Fin 512) (f : Fin 1024) (hf : 512 + j.val = f.val) :
    out1 m ρ c (ix2 r j) = ∑ d : Fin 4, contrib m ρ d (row c r) f := by
  rw [out1_eq, fin_apply, H1_apply m ρ c r j f hf, Own1_eq, pO1_apply m ρ c c rfl r j f hf]
  rw [← ring_sum' (fun d => contrib m ρ d (row c r) f) c]
  refine congrArg₂ (fun a b : EReal => a + b) rfl ?_
  by_cases h : j.val < 256
  · rw [dif_pos h]; exact T2_apply m ρ c r ⟨j.val, h⟩ f hf
  · rw [dif_neg h]; exact T3_apply m ρ c r ⟨j.val - 256, _⟩ f (by show 768 + (j.val - 256) = f.val; omega)

/-- The result on device `c`: every device's contribution to the row. -/
theorem outAt_apply (c : Dev nD) (r : Fin 256) (f : Fin 1024) : outAt m ρ c (ix2 r f) = ∑ d : Fin 4, contrib m ρ d (row c r) f := by
  unfold outAt
  by_cases h : f.val < 512
  · refine (dif_pos h).trans ?_
    refine Eq.trans (congrArg _ ?_) (out0_apply m ρ c r ⟨f.val, h⟩ f (by show 0 + f.val = f.val; omega))
    funext a; match a with | ⟨0, _⟩ => rfl | ⟨1, _⟩ => rfl
  · refine (dif_neg h).trans ?_
    refine Eq.trans (congrArg _ ?_) (out1_apply m ρ c r ⟨f.val - 512, by have := f.isLt; omega⟩ f (by show 512 + (f.val - 512) = f.val; omega))
    funext a; match a with | ⟨0, _⟩ => rfl | ⟨1, _⟩ => rfl

end Cert.KernelIdeal.Run
-- ==== Proof.Maths.lean ====
module

public import Idealize.ShloMosaic.PureOps.Ideal.Laws
public import Mathlib.Tactic.FieldSimp

/-! # One row of the layer, over the extended reals

The kernel weighs all sixteen experts' outputs by a gate that is zero off the row's two routes, the program it is compared with adds the two
routes' weighted outputs. Where a row's scores are finite the two agree, whatever the experts give: a zero gate takes even an infinite output
away, and where the two routes name one expert both give that expert's output. -/

@[expose] public section

noncomputable section

namespace Cert.Maths

open Idealize.ShloMosaic

/-- A row's largest score. -/
def top (s : Fin 16 → EReal) : EReal := Finset.univ.fold max (Ideal.ofBits .f32 0xFF800000#32) s
/-- Its exponentials. -/
def expo (s : Fin 16 → EReal) (e : Fin 16) : EReal := Ideal.exp (s e - top s)
/-- Those of the two routes. -/
def kept (s : Fin 16 → EReal) (r0 r1 : Fin 16) (e : Fin 16) : EReal := if r0 = e ∨ r1 = e then expo s e else 0
/-- The kernel's gate. -/
def gate (s : Fin 16 → EReal) (r0 r1 : Fin 16) (e : Fin 16) : EReal := Ideal.div (kept s r0 r1 e) (∑ e', kept s r0 r1 e')
/-- The softmax. -/
def prob (s : Fin 16 → EReal) (e : Fin 16) : EReal := Ideal.div (expo s e) (∑ e', expo s e')
/-- What the compared program weighs the two routes' outputs by. -/
def two (s : Fin 16 → EReal) (r0 r1 : Fin 16) (Y : Fin 16 → EReal) : EReal :=
  Ideal.div (prob s r0) (prob s r0 + prob s r1) * Y r0 + Ideal.div (prob s r1) (prob s r0 + prob s r1) * Y r1

theorem top_finite (s : Fin 16 → EReal) (hs : ∀ e, s e ≠ ⊥ ∧ s e ≠ ⊤) : top s ≠ ⊥ ∧ top s ≠ ⊤ := by
  have hb : Ideal.ofBits .f32 0xFF800000#32 = ⊥ := by simp [Ideal.ofBits, Ideal.ieee]
  unfold top
  constructor
  · refine ne_of_gt (lt_of_lt_of_le (bot_lt_iff_ne_bot.2 (hs 0).1) ?_)
    exact (Finset.le_fold_max (s 0)).2 (.inr ⟨0, Finset.mem_univ _, le_rfl⟩)
  · refine ne_of_lt ((Finset.fold_max_lt ⊤).2 ⟨?_, fun e _ => lt_top_iff_ne_top.2 (hs e).2⟩)
    rw [hb]; exact bot_lt_top

theorem expo_real (s : Fin 16 → EReal) (hs : ∀ e, s e ≠ ⊥ ∧ s e ≠ ⊤) : ∃ a : Fin 16 → ℝ, (∀ e, 0 < a e) ∧ ∀ e, expo s e = (a e : EReal) := by
  obtain ⟨h0, h1⟩ := top_finite s hs
  refine ⟨fun e => Real.exp ((s e).toReal - (top s).toReal), fun e => Real.exp_pos _, fun e => ?_⟩
  have h : s e - top s = (((s e).toReal - (top s).toReal : ℝ) : EReal) := by
    rw [EReal.coe_sub, EReal.coe_toReal (hs e).2 (hs e).1, EReal.coe_toReal h1 h0]
  unfold expo
  rw [h]
  rfl

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem sum_real (a : Fin 16 → ℝ) : ∑ e, (a e : EReal) = ((∑ e, a e : ℝ) : EReal) :=
  (map_sum (⟨⟨(fun x : ℝ => (x : EReal)), EReal.coe_zero⟩, EReal.coe_add⟩ : ℝ →+ EReal) a Finset.univ).symm

/-- The kernel's sum over all sixteen experts is the two routes' sum. -/
theorem gate_sum (s : Fin 16 → EReal) (hs : ∀ e, s e ≠ ⊥ ∧ s e ≠ ⊤) (r0 r1 : Fin 16) (Y : Fin 16 → EReal) :
    ∑ e, gate s r0 r1 e * Y e = two s r0 r1 Y := by
  obtain ⟨a, ha, hx⟩ := expo_real s hs
  have hS : 0 < ∑ e, a e := Finset.sum_pos (fun e _ => ha e) ⟨0, Finset.mem_univ _⟩
  have hp : ∀ e, prob s e = ((a e / ∑ e', a e' : ℝ) : EReal) := fun e => by
    unfold prob
    rw [hx, Finset.sum_congr rfl (fun e' _ => hx e'), sum_real, div_real _ _ hS.ne']
  have hk : ∀ e, kept s r0 r1 e = ((if r0 = e ∨ r1 = e then a e else 0 : ℝ) : EReal) := fun e => by
    unfold kept
    split
    · exact hx e
    · rfl
  have hK : ∑ e, kept s r0 r1 e = ((∑ e, if r0 = e ∨ r1 = e then a e else 0 : ℝ) : EReal) := by
    rw [Finset.sum_congr rfl (fun e' _ => hk e'), sum_real]
  have hKpos : 0 < ∑ e, (if r0 = e ∨ r1 = e then a e else 0 : ℝ) :=
    Finset.sum_pos' (fun e _ => by split <;> [exact (ha e).le; exact le_rfl]) ⟨r0, Finset.mem_univ _, by rw [if_pos (.inl rfl)]; exact ha r0⟩
  have hg : ∀ e, gate s r0 r1 e = (((if r0 = e ∨ r1 = e then a e else 0) / ∑ e', (if r0 = e' ∨ r1 = e' then a e' else 0) : ℝ) : EReal) := fun e => by
    unfold gate
    rw [hK, hk, div_real _ _ hKpos.ne']
  have hoff : ∀ e, ¬ (r0 = e ∨ r1 = e) → gate s r0 r1 e * Y e = 0 := fun e h => by
    rw [hg, if_neg h, zero_div, EReal.coe_zero, zero_mul]
  have hpp : (a r0 / ∑ e', a e') + (a r1 / ∑ e', a e') ≠ 0 := (add_pos (div_pos (ha r0) hS) (div_pos (ha r1) hS)).ne'
  have hS' := hS.ne'
  have h0 := (ha r0).ne'
  have h01 : a r0 + a r1 ≠ 0 := (add_pos (ha r0) (ha r1)).ne'
  unfold two
  rw [hp, hp, ← EReal.coe_add, div_real _ _ hpp, div_real _ _ hpp]
  rw [show a r0 / (∑ e', a e') / (a r0 / (∑ e', a e') + a r1 / (∑ e', a e')) = a r0 / (a r0 + a r1) from by field_simp,
    show a r1 / (∑ e', a e') / (a r0 / (∑ e', a e') + a r1 / (∑ e', a e')) = a r1 / (a r0 + a r1) from by field_simp]
  by_cases hr : r0 = r1
  · subst hr
    rw [Finset.sum_eq_single r0 (fun e _ he => hoff e (by rintro (h | h) <;> exact he h.symm)) (fun h => absurd (Finset.mem_univ _) h)]
    rw [← EReal.right_distrib_of_nonneg (by exact_mod_cast (div_pos (ha r0) (add_pos (ha r0) (ha r0))).le) (by exact_mod_cast (div_pos (ha r0) (add_pos (ha r0) (ha r0))).le),
      ← EReal.coe_add, hg]
    congr 2
    rw [Finset.sum_eq_single r0 (fun e _ he => if_neg (by rintro (h | h) <;> exact he h.symm)) (fun h => absurd (Finset.mem_univ _) h),
      if_pos (.inl rfl), div_self h0, ← add_div, div_self h01]
  · rw [Finset.sum_eq_add r0 r1 hr (fun e _ he => hoff e (by rintro (h | h) <;> [exact he.1 h.symm; exact he.2 h.symm]))
      (fun h => absurd (Finset.mem_univ _) h) (fun h => absurd (Finset.mem_univ _) h), hg, hg]
    rw [Finset.sum_eq_add r0 r1 hr (fun e _ he => if_neg (by rintro (h | h) <;> [exact he.1 h.symm; exact he.2 h.symm]))
      (fun h => absurd (Finset.mem_univ _) h) (fun h => absurd (Finset.mem_univ _) h), if_pos (.inl rfl), if_pos (.inr rfl)]

end Cert.Maths
-- ==== Proof.IdealRun.Gates.lean ====
module

public import proofs.«01_k».proof.Proof.IdealRun.Value
public import proofs.«01_k».proof.Proof.Maths

/-! # The table of gates, in closed form -/

@[expose] public section

set_option maxRecDepth 65536

noncomputable section

namespace Cert.KernelIdeal.Run

open Cert.KernelIdeal Cert.KernelIdeal.Gen

open Idealize.ShloMosaic
open Idealize.ShloMosaic.TcCoe
open Idealize.ShloMosaic.ValueIdx
open Idealize.SL.Sem

variable (x : FVec Ideal S1024x512 .f32) (w : FVec Ideal S512x16 .f32) (i : IVec S1024x2 32)

/-- The scores of row `t`. -/
def score (t : Fin 1024) (e : Fin 16) : EReal := ∑ k : Fin 512, (x (ix2 t k) : EReal) * w (ix2 k e)

/-- The table of scores. -/
def kS : FVec Ideal S1024x16 .f32 := matmul dot_S1024x512_S512x16_S1024x16_1_0_0_1_n_n none x w (constant S1024x16 .f32 0x00000000#32)
/-- Their exponentials. -/
def kE : FVec Ideal S1024x16 .f32 :=
  exp (subf (kS x w) (broadcastTo S1024x16 (shapeCast S1024x1 (multiReduction .maximumf [1] S1024 (kS x w) 0xFF800000#32 reduces_S1024x16_S1024 (.inl rfl) rfl)
    shapeCasts_S1024_S1024x1) broadcasts_S1024x1_S1024x16))
/-- Where an expert is one of the row's routes. -/
def kM : IVec S1024x16 1 :=
  ori (cmpi .eq (broadcastTo S1024x16 (extractStridedSlice S1024x1 ![0, 0] i slices_S1024x2_o0_0_S1024x1) broadcasts_S1024x1_S1024x16) (iota .tc S1024x16 32 [1] iota_S1024x16_d1_w32))
    (cmpi .eq (broadcastTo S1024x16 (extractStridedSlice S1024x1 ![0, 1] i slices_S1024x2_o0_1_S1024x1) broadcasts_S1024x1_S1024x16) (iota .tc S1024x16 32 [1] iota_S1024x16_d1_w32))
/-- The exponentials kept. -/
def kK : FVec Ideal S1024x16 .f32 := select (kM i) (kE x w) (broadcast S1024x16 (Scalar.ofBits .f32 0x00000000#32))
/-- The gates. -/
def kG : FVec Ideal S1024x16 .f32 :=
  divf (kK x w i) (broadcastTo S1024x16 (shapeCast S1024x1 (multiReduction .add [1] S1024 (kK x w i) 0x00000000#32 reduces_S1024x16_S1024 (.inl rfl) rfl)
    shapeCasts_S1024_S1024x1) broadcasts_S1024x1_S1024x16)

theorem kG_eq : k0_pay3 (F := Ideal) (k0_pay2 (F := Ideal) x w i) = kG x w i := by
  have h2 : k0_pay2 (F := Ideal) x w i = kK x w i := by
    unfold k0_pay2
    simp only [shapeCast_self]
    rfl
  rw [h2]
  unfold k0_pay3
  simp only [shapeCast_self]
  rfl

theorem kS_apply (t : Fin 1024) (e : Fin 16) : kS x w (ix2 t e) = score x w t e := by
  refine (Ideal.matmul_constant_zero_apply _ none x w (ix2 t e)).trans ?_
  rw [← Equiv.sum_comp (contrEquiv1 dot_S1024x512_S512x16_S1024x16_1_0_0_1_n_n 512 rfl rfl).symm]
  refine Finset.sum_congr rfl fun k _ => ?_
  have hk := contrEquiv1_symm_val dot_S1024x512_S512x16_S1024x16_1_0_0_1_n_n 512 rfl rfl k
  rw [show dot_S1024x512_S512x16_S1024x16_1_0_0_1_n_n.lhsIdx (ix2 t e) ((contrEquiv1 dot_S1024x512_S512x16_S1024x16_1_0_0_1_n_n 512 rfl rfl).symm k) = ix2 t k from by
        funext a; match a with | ⟨0, _⟩ => rfl | ⟨1, _⟩ => exact Fin.ext hk,
    show dot_S1024x512_S512x16_S1024x16_1_0_0_1_n_n.rhsIdx (ix2 t e) ((contrEquiv1 dot_S1024x512_S512x16_S1024x16_1_0_0_1_n_n 512 rfl rfl).symm k) = ix2 k e from by
        funext a; match a with | ⟨0, _⟩ => exact Fin.ext hk | ⟨1, _⟩ => rfl]

theorem lift_ix (t : Fin 1024) (e : Fin 16) : reduces_S1024x16_S1024.lift (ix1 t) e = ix2 t e := by
  funext a; match a with | ⟨0, _⟩ => rfl | ⟨1, _⟩ => rfl

/-- A row's number, spread along the row. -/
theorem spread_apply (v : FVec Ideal S1024 .f32) (t : Fin 1024) (e : Fin 16) :
    broadcastTo S1024x16 (shapeCast S1024x1 v shapeCasts_S1024_S1024x1) broadcasts_S1024x1_S1024x16 (ix2 t e) = v (ix1 t) := by
  rw [broadcastTo_apply _ _ (ix2 t e) (ix2 t (0 : Fin 1)) (fun a => by match a with | ⟨0, _⟩ => rfl | ⟨1, _⟩ => rfl), shapeCast_a_a1_apply]

theorem kE_apply (t : Fin 1024) (e : Fin 16) : kE x w (ix2 t e) = Maths.expo (score x w t) e := by
  unfold kE Maths.expo
  refine congrArg Ideal.exp ?_
  rw [subf_apply, spread_apply]
  refine congrArg₂ (fun a b : EReal => a - b) (kS_apply x w t e) ?_
  refine (Ideal.multiReduction_maximumf_single _ _ _ _ _ _).trans ?_
  unfold Maths.top
  refine Finset.fold_congr fun e' _ => ?_
  refine (congrArg (kS x w) (lift_ix t e')).trans (kS_apply x w t e')

theorem word_or : ∀ r0 r1 e : Fin 16, IntOp.ori (IntOp.cmpi .eq (BitVec.ofNat 32 r0.val) (BitVec.ofNat 32 (0 * 16 + e.val))) (IntOp.cmpi .eq (BitVec.ofNat 32 r1.val) (BitVec.ofNat 32 (0 * 16 + e.val)))
    = if r0 = e ∨ r1 = e then 1#1 else 0#1 := by decide +kernel

theorem kM_apply (t : Fin 1024) (e : Fin 16) (r0 r1 : Fin 16) (h0 : i (ix2 t (0 : Fin 2)) = BitVec.ofNat 32 r0.val) (h1 : i (ix2 t (1 : Fin 2)) = BitVec.ofNat 32 r1.val) :
    kM i (ix2 t e) = if r0 = e ∨ r1 = e then 1#1 else 0#1 := by
  have e0 : broadcastTo S1024x16 (extractStridedSlice S1024x1 ![0, 0] i slices_S1024x2_o0_0_S1024x1) broadcasts_S1024x1_S1024x16 (ix2 t e) = BitVec.ofNat 32 r0.val := by
    rw [broadcastTo_apply _ _ (ix2 t e) (ix2 t (0 : Fin 1)) (fun a => by match a with | ⟨0, _⟩ => rfl | ⟨1, _⟩ => rfl), ← h0]
    refine congrArg i ?_
    funext a; match a with | ⟨0, _⟩ => exact Fin.ext (Nat.zero_add _) | ⟨1, _⟩ => rfl
  have e1 : broadcastTo S1024x16 (extractStridedSlice S1024x1 ![0, 1] i slices_S1024x2_o0_1_S1024x1) broadcasts_S1024x1_S1024x16 (ix2 t e) = BitVec.ofNat 32 r1.val := by
    rw [broadcastTo_apply _ _ (ix2 t e) (ix2 t (0 : Fin 1)) (fun a => by match a with | ⟨0, _⟩ => rfl | ⟨1, _⟩ => rfl), ← h1]
    refine congrArg i ?_
    funext a; match a with | ⟨0, _⟩ => exact Fin.ext (Nat.zero_add _) | ⟨1, _⟩ => rfl
  show IntOp.ori (IntOp.cmpi .eq _ (BitVec.ofNat 32 (0 * 16 + e.val))) (IntOp.cmpi .eq _ (BitVec.ofNat 32 (0 * 16 + e.val))) = _
  rw [e0, e1]
  exact word_or r0 r1 e

theorem kK_apply (t : Fin 1024) (e : Fin 16) (r0 r1 : Fin 16) (h0 : i (ix2 t (0 : Fin 2)) = BitVec.ofNat 32 r0.val) (h1 : i (ix2 t (1 : Fin 2)) = BitVec.ofNat 32 r1.val) :
    kK x w i (ix2 t e) = Maths.kept (score x w t) r0 r1 e := by
  unfold kK Maths.kept
  rw [select_apply, kM_apply i t e r0 r1 h0 h1]
  split
  · rw [select_one]; exact kE_apply x w t e
  · rw [select_zero]; exact Ideal.ofBits_zero_f32

/-- The gate of expert `e` in row `t`. -/
theorem kG_apply (t : Fin 1024) (e : Fin 16) (r0 r1 : Fin 16) (h0 : i (ix2 t (0 : Fin 2)) = BitVec.ofNat 32 r0.val) (h1 : i (ix2 t (1 : Fin 2)) = BitVec.ofNat 32 r1.val) :
    k0_pay3 (F := Ideal) (k0_pay2 (F := Ideal) x w i) (ix2 t e) = Maths.gate (score x w t) r0 r1 e := by
  rw [kG_eq]
  unfold kG Maths.gate
  rw [divf_apply, spread_apply]
  refine congrArg₂ Ideal.div (kK_apply x w i t e r0 r1 h0 h1) ?_
  refine (Ideal.multiReduction_add_single _ _ _ _ _ _).trans ?_
  refine Finset.sum_congr rfl fun e' _ => ?_
  refine (congrArg (kK x w i) (lift_ix t e')).trans (kK_apply x w i t e' r0 r1 h0 h1)

end Cert.KernelIdeal.Run
-- ==== Proof.Compared.lean ====
module

public import proofs.«01_k».proof.Proof.Gen.ReferenceIdeal.Run
public import proofs.«01_k».proof.Proof.Maths
public import Idealize.ShloMosaic.Lib.ValueIdx
public import Idealize.ShloMosaic.Lib.ValueLayout
public import Idealize.ShloMosaic.Lib.ValueLayoutCasts
public import Idealize.ShloMosaic.Lib.Pipeline.Value

/-! # The compared program's result, in closed form -/

@[expose] public section

set_option maxRecDepth 65536

noncomputable section

namespace Cert.ReferenceIdeal.Closed

open Cert.ReferenceIdeal Cert.ReferenceIdeal.Gen Cert.ReferenceIdeal.Value

open Idealize.ShloMosaic
open Idealize.ShloMosaic.TcCoe
open Idealize.ShloMosaic.ValueIdx
open Idealize.SL.Sem

variable (x : FVec Ideal S1024x512 .f32) (w : FVec Ideal S512x16 .f32) (i : IVec S1024x2 32) (E : FVec Ideal S16x512x1024 .f32)

/-- The scores of row `t`. -/
def score (t : Fin 1024) (e : Fin 16) : EReal := ∑ k : Fin 512, (x (ix2 t k) : EReal) * w (ix2 k e)
/-- The expert `e`'s output for row `t`. -/
def outp (t : Fin 1024) (f : Fin 1024) (e : Fin 16) : EReal := ∑ k : Fin 512, (x (ix2 t k) : EReal) * E (ix3 e k f)

/-! ## The program's text, piece by piece -/

def rS : FVec Ideal S1024x16 .f32 := Host.dotGeneral dot_S1024x512_S512x16_S1024x16_1_0_0_1_n_n none x w
def rMax : FVec Ideal S1024 .f32 := Host.reduce FloatOps.maximumf (rS x w) (constant (F := Ideal) S_ .f32 0xFF800000#32) reducesTo_S1024x16_S1024_d1 h_S_
/-- A number to each row, spread along the rows. -/
def spread (v : FVec Ideal S1024 .f32) : FVec Ideal S1024x16 .f32 :=
  broadcastInDim S1024x16 ![0, 1] bcast_S1024x1_S1024x16_0_1 (broadcastInDim S1024x1 ![0] bcast_S1024_S1024x1_0 v)
def rE : FVec Ideal S1024x16 .f32 := Host.exp (subf (rS x w) (spread (rMax x w)))
def rSum : FVec Ideal S1024 .f32 := Host.reduceAdd (rE x w) (constant (F := Ideal) S_ .f32 0x00000000#32) reducesTo_S1024x16_S1024_d1 h_S_
def rP : FVec Ideal S1024x16 .f32 := Host.divf (rE x w) (spread (rSum x w))
/-- A row's position, from the row's own number and a bound to add where that is negative. -/
def wrap (v : IVec S1024 32) (n : BitVec 32) : IVec S1024x1 32 :=
  broadcastInDim S1024x1 ![0] bcast_S1024_S1024x1_0 (select (cmpi .slt v (broadcastInDim S1024 ![] bcast_S_S1024 (constantI S_ 32 0#32)))
    (addi v (broadcastInDim S1024 ![] bcast_S_S1024 (constantI S_ 32 n))) v)
def col0 : IVec S1024 32 := shapeCast _ (extractStridedSlice S1024x1 ![0, 0] i slices_S1024x2_S1024x1_0_0) shapeCasts_S1024x1_S1024
def col1 : IVec S1024 32 := shapeCast _ (extractStridedSlice S1024x1 ![0, 1] i slices_S1024x2_S1024x1_0_1) shapeCasts_S1024x1_S1024
/-- Row and route, paired. -/
def pairs (v : IVec S1024 32) : IVec S1024x2 32 :=
  concatenate S1024x2 1 [⟨S1024x1, wrap (iotaInDim S1024 32 0) 1024#32⟩, ⟨S1024x1, wrap v 16#32⟩] concatenates_S1024x1_S1024x1_S1024x2_d1
def pick (v : IVec S1024 32) : FVec Ideal S1024 .f32 := Host.gather gather_S1024x16_S1024x2_S1024_n_01_n_n_01_1_11 (rP x w) (pairs v)
def rY : FVec Ideal S1024x16x1024 .f32 := Host.dotGeneral dot_S1024x512_S16x512x1024_S1024x16x1024_1_1_0_02_n_n none x E
def pickY (v : IVec S1024 32) : FVec Ideal S1024x1024 .f32 := Host.gather gather_S1024x16x1024_S1024x2_S1024x1024_1_01_n_n_01_1_111024 (rY x E) (pairs v)
/-- A number to each row, spread along the long rows. -/
def spreadL (v : FVec Ideal S1024 .f32) : FVec Ideal S1024x1024 .f32 :=
  broadcastInDim S1024x1024 ![0, 1] bcast_S1024x1_S1024x1024_0_1 (broadcastInDim S1024x1 ![0] bcast_S1024_S1024x1_0 v)
def rOut : FVec Ideal S1024x1024 .f32 :=
  addf (mulf (spreadL (Host.divf (pick x w (col0 i)) (addf (pick x w (col0 i)) (pick x w (col1 i))))) (pickY x E (col0 i)))
    (mulf (spreadL (Host.divf (pick x w (col1 i)) (addf (pick x w (col0 i)) (pick x w (col1 i))))) (pickY x E (col1 i)))

theorem res_eq (m : (ℓ : Loc nD τ sig) → Buf (Elt Ideal) ℓ) (c : Dev nD) :
    res_out0 m c = rOut (m ((c.tc : Thread nD τ).loc main_arg0)) (m ((c.tc : Thread nD τ).loc main_arg1)) (m ((c.tc : Thread nD τ).loc main_arg2)) (m ((c.tc : Thread nD τ).loc main_arg3)) := rfl

/-! ## Read at an index -/

theorem rS_apply (t : Fin 1024) (e : Fin 16) : rS x w (ix2 t e) = score x w t e := by
  unfold rS
  simp only [Host.dotGeneral]
  refine (Ideal.dotGeneral_apply _ _ _ x w (ix2 t e)).trans ?_
  rw [← Equiv.sum_comp (contrEquiv1 dot_S1024x512_S512x16_S1024x16_1_0_0_1_n_n 512 rfl rfl).symm]
  refine Finset.sum_congr rfl fun k _ => ?_
  have hk := contrEquiv1_symm_val dot_S1024x512_S512x16_S1024x16_1_0_0_1_n_n 512 rfl rfl k
  rw [show dot_S1024x512_S512x16_S1024x16_1_0_0_1_n_n.lhsIdx (ix2 t e) ((contrEquiv1 dot_S1024x512_S512x16_S1024x16_1_0_0_1_n_n 512 rfl rfl).symm k) = ix2 t k from by
        funext a; match a with | ⟨0, _⟩ => rfl | ⟨1, _⟩ => exact Fin.ext hk,
    show dot_S1024x512_S512x16_S1024x16_1_0_0_1_n_n.rhsIdx (ix2 t e) ((contrEquiv1 dot_S1024x512_S512x16_S1024x16_1_0_0_1_n_n 512 rfl rfl).symm k) = ix2 k e from by
        funext a; match a with | ⟨0, _⟩ => exact Fin.ext hk | ⟨1, _⟩ => rfl]
theorem rY_apply (t : Fin 1024) (e : Fin 16) (f : Fin 1024) : rY x E (ix3 t e f) = outp x E t f e := by
  unfold rY
  simp only [Host.dotGeneral]
  refine (Ideal.dotGeneral_apply _ _ _ x E (ix3 t e f)).trans ?_
  rw [← Equiv.sum_comp (contrEquiv1 dot_S1024x512_S16x512x1024_S1024x16x1024_1_1_0_02_n_n 512 rfl rfl).symm]
  refine Finset.sum_congr rfl fun k _ => ?_
  have hk := contrEquiv1_symm_val dot_S1024x512_S16x512x1024_S1024x16x1024_1_1_0_02_n_n 512 rfl rfl k
  rw [show dot_S1024x512_S16x512x1024_S1024x16x1024_1_1_0_02_n_n.lhsIdx (ix3 t e f) ((contrEquiv1 dot_S1024x512_S16x512x1024_S1024x16x1024_1_1_0_02_n_n 512 rfl rfl).symm k) = ix2 t k from by
        funext a; match a with | ⟨0, _⟩ => rfl | ⟨1, _⟩ => exact Fin.ext hk,
    show dot_S1024x512_S16x512x1024_S1024x16x1024_1_1_0_02_n_n.rhsIdx (ix3 t e f) ((contrEquiv1 dot_S1024x512_S16x512x1024_S1024x16x1024_1_1_0_02_n_n 512 rfl rfl).symm k) = ix3 e k f from by
        funext a; match a with | ⟨0, _⟩ => rfl | ⟨1, _⟩ => exact Fin.ext hk | ⟨2, _⟩ => rfl]

theorem reduces : S1024x16.Reduces [1] S1024 := by decide
theorem lift_ix (t : Fin 1024) (e : Fin 16) : reduces.lift (ix1 t) e = ix2 t e := by
  funext a; match a with | ⟨0, _⟩ => rfl | ⟨1, _⟩ => rfl
theorem spread_apply (v : FVec Ideal S1024 .f32) (t : Fin 1024) (e : Fin 16) : spread v (ix2 t e) = v (ix1 t) := by
  refine congrArg v ?_
  funext a; match a with | ⟨0, _⟩ => rfl
theorem spreadL_apply (v : FVec Ideal S1024 .f32) (t : Fin 1024) (f : Fin 1024) : spreadL v (ix2 t f) = v (ix1 t) := by
  refine congrArg v ?_
  funext a; match a with | ⟨0, _⟩ => rfl

theorem rE_apply (t : Fin 1024) (e : Fin 16) : rE x w (ix2 t e) = Maths.expo (score x w t) e := by
  refine congrArg Ideal.exp ?_
  rw [subf_apply, spread_apply]
  refine congrArg₂ (fun a b : EReal => a - b) (rS_apply x w t e) ?_
  refine (Host.reduce_eq_fold_single _ (rS x w) _ reducesTo_S1024x16_S1024_d1 reduces h_S_ (ix1 t)).trans ?_
  unfold Maths.top
  refine Finset.fold_congr fun e' _ => ?_
  exact (congrArg (rS x w) (lift_ix t e')).trans (rS_apply x w t e')
theorem rP_apply (t : Fin 1024) (e : Fin 16) : rP x w (ix2 t e) = Maths.prob (score x w t) e := by
  refine congrArg₂ Ideal.div (rE_apply x w t e) ?_
  rw [spread_apply]
  refine (Ideal.hostReduceAdd_single reducesTo_S1024x16_S1024_d1 reduces (rE x w) _ (ix1 t)).trans ?_
  refine (congrArg₂ (fun a b : EReal => a + b) Ideal.ofBits_zero_f32 rfl).trans ((zero_add _).trans ?_)
  refine Finset.sum_congr rfl fun e' _ => ?_
  exact (congrArg (rE x w) (lift_ix t e')).trans (rE_apply x w t e')

/-- A small number is not wrapped. -/
theorem wrap_apply (v : IVec S1024 32) (n : BitVec 32) (t : Fin 1024) (u : Fin 1) (r : Fin 1024) (h : v (ix1 t) = BitVec.ofNat 32 r.val) :
    wrap v n (ix2 t u) = BitVec.ofNat 32 r.val := by
  have h0 : ∀ r : Fin 1024, IntOp.cmpi .slt (BitVec.ofNat 32 r.val) 0#32 = 0#1 := by decide +kernel
  have hi : wrap v n (ix2 t u) = select (cmpi .slt v (broadcastInDim S1024 ![] bcast_S_S1024 (constantI S_ 32 0#32)))
    (addi v (broadcastInDim S1024 ![] bcast_S_S1024 (constantI S_ 32 n))) v (ix1 t) := by
    refine congrArg (select _ _ v) ?_
    funext a; match a with | ⟨0, _⟩ => rfl
  rw [hi, select_apply]
  rw [show cmpi .slt v (broadcastInDim S1024 ![] bcast_S_S1024 (constantI S_ 32 0#32)) (ix1 t) = 0#1 from by
    show IntOp.cmpi .slt (v (ix1 t)) 0#32 = 0#1
    rw [h]; exact h0 r]
  rw [select_zero, h]

theorem pairs_row (v : IVec S1024 32) (t : Fin 1024) : pairs v (ix2 t (0 : Fin 2)) = BitVec.ofNat 32 t.val := by
  unfold pairs
  refine Eq.trans (concatenate_apply_piece (1 : Fin S1024x2.rank) [⟨S1024x1, wrap (iotaInDim S1024 32 0) 1024#32⟩, ⟨S1024x1, wrap v 16#32⟩] _ _ 0 Nat.zero_lt_two S1024x1 _ rfl rfl 0 rfl
    (ix2 t (0 : Fin 1)) (fun b hb => ?_) rfl) ?_
  · match b with
    | ⟨0, _⟩ => rfl
    | ⟨1, _⟩ => exact absurd rfl hb
  · exact wrap_apply _ _ t 0 t rfl
theorem pairs_route (v : IVec S1024 32) (t : Fin 1024) (r : Fin 16) (h : v (ix1 t) = BitVec.ofNat 32 r.val) : pairs v (ix2 t (1 : Fin 2)) = BitVec.ofNat 32 r.val := by
  unfold pairs
  refine Eq.trans (concatenate_apply_piece (1 : Fin S1024x2.rank) [⟨S1024x1, wrap (iotaInDim S1024 32 0) 1024#32⟩, ⟨S1024x1, wrap v 16#32⟩] _ _ 1 Nat.one_lt_two S1024x1 _ rfl rfl 1 rfl
    (ix2 t (0 : Fin 1)) (fun b hb => ?_) rfl) ?_
  · match b with
    | ⟨0, _⟩ => rfl
    | ⟨1, _⟩ => exact absurd rfl hb
  · exact wrap_apply v _ t 0 ⟨r.val, by have := r.isLt; omega⟩ h

theorem clamp_row : ∀ t : Fin 1024, min (BitVec.ofNat 32 t.val).toInt.toNat (1024 - 1) = t.val := by decide +kernel
theorem clamp_route : ∀ r : Fin 16, min (BitVec.ofNat 32 r.val).toInt.toNat (16 - 1) = r.val := by decide +kernel

theorem pick_apply (v : IVec S1024 32) (t : Fin 1024) (r : Fin 16) (h : v (ix1 t) = BitVec.ofNat 32 r.val) : pick x w v (ix1 t) = Maths.prob (score x w t) r := by
  refine Eq.trans (congrArg (rP x w) ?_) (rP_apply x w t r)
  funext a
  match a with
  | ⟨0, _⟩ =>
    refine Fin.ext ?_
    show min (pairs v (GatherDims.siIdx gather_S1024x16_S1024x2_S1024_n_01_n_n_01_1_11 (ix1 t) (⟨0, by decide⟩ : Fin 2))).toInt.toNat (1024 - 1) + 0 + 0 = t.val
    rw [show GatherDims.siIdx gather_S1024x16_S1024x2_S1024_n_01_n_n_01_1_11 (ix1 t) (⟨0, by decide⟩ : Fin 2) = ix2 t (⟨0, by decide⟩ : Fin 2) from by
      funext b; match b with | ⟨0, _⟩ => rfl | ⟨1, _⟩ => rfl]
    exact (congrArg (fun z : BitVec 32 => min z.toInt.toNat (1024 - 1) + 0 + 0) (pairs_row v t)).trans (clamp_row t)
  | ⟨1, _⟩ =>
    refine Fin.ext ?_
    show min (pairs v (GatherDims.siIdx gather_S1024x16_S1024x2_S1024_n_01_n_n_01_1_11 (ix1 t) (⟨1, by decide⟩ : Fin 2))).toInt.toNat (16 - 1) + 0 + 0 = r.val
    rw [show GatherDims.siIdx gather_S1024x16_S1024x2_S1024_n_01_n_n_01_1_11 (ix1 t) (⟨1, by decide⟩ : Fin 2) = ix2 t (⟨1, by decide⟩ : Fin 2) from by
      funext b; match b with | ⟨0, _⟩ => rfl | ⟨1, _⟩ => rfl]
    exact (congrArg (fun z : BitVec 32 => min z.toInt.toNat (16 - 1) + 0 + 0) (pairs_route v t r h)).trans (clamp_route r)

theorem pickY_apply (v : IVec S1024 32) (t : Fin 1024) (f : Fin 1024) (r : Fin 16) (h : v (ix1 t) = BitVec.ofNat 32 r.val) : pickY x E v (ix2 t f) = outp x E t f r := by
  refine Eq.trans (congrArg (rY x E) ?_) (rY_apply x E t r f)
  funext a
  match a with
  | ⟨0, _⟩ =>
    refine Fin.ext ?_
    show min (pairs v (GatherDims.siIdx gather_S1024x16x1024_S1024x2_S1024x1024_1_01_n_n_01_1_111024 (ix2 t f) (⟨0, by decide⟩ : Fin 2))).toInt.toNat (1024 - 1) + 0 + 0 = t.val
    rw [show GatherDims.siIdx gather_S1024x16x1024_S1024x2_S1024x1024_1_01_n_n_01_1_111024 (ix2 t f) (⟨0, by decide⟩ : Fin 2) = ix2 t (⟨0, by decide⟩ : Fin 2) from by
      funext b; match b with | ⟨0, _⟩ => rfl | ⟨1, _⟩ => rfl]
    exact (congrArg (fun z : BitVec 32 => min z.toInt.toNat (1024 - 1) + 0 + 0) (pairs_row v t)).trans (clamp_row t)
  | ⟨1, _⟩ =>
    refine Fin.ext ?_
    show min (pairs v (GatherDims.siIdx gather_S1024x16x1024_S1024x2_S1024x1024_1_01_n_n_01_1_111024 (ix2 t f) (⟨1, by decide⟩ : Fin 2))).toInt.toNat (16 - 1) + 0 + 0 = r.val
    rw [show GatherDims.siIdx gather_S1024x16x1024_S1024x2_S1024x1024_1_01_n_n_01_1_111024 (ix2 t f) (⟨1, by decide⟩ : Fin 2) = ix2 t (⟨1, by decide⟩ : Fin 2) from by
      funext b; match b with | ⟨0, _⟩ => rfl | ⟨1, _⟩ => rfl]
    exact (congrArg (fun z : BitVec 32 => min z.toInt.toNat (16 - 1) + 0 + 0) (pairs_route v t r h)).trans (clamp_route r)
  | ⟨2, _⟩ =>
    refine Fin.ext ?_
    show 0 + 0 + f.val = f.val
    omega

theorem col0_apply (t : Fin 1024) : col0 i (ix1 t) = i (ix2 t (0 : Fin 2)) := by
  unfold col0
  rw [shapeCast_apply _ _ (ix1 t) (ix2 t (0 : Fin 1)) (by rw [Shape.rowMajor_val_two, Shape.rowMajor_val_one]; show t.val * 1 + 0 = t.val; omega)]
  refine congrArg i ?_
  funext a; match a with | ⟨0, _⟩ => exact Fin.ext (Nat.zero_add _) | ⟨1, _⟩ => rfl
theorem col1_apply (t : Fin 1024) : col1 i (ix1 t) = i (ix2 t (1 : Fin 2)) := by
  unfold col1
  rw [shapeCast_apply _ _ (ix1 t) (ix2 t (0 : Fin 1)) (by rw [Shape.rowMajor_val_two, Shape.rowMajor_val_one]; show t.val * 1 + 0 = t.val; omega)]
  refine congrArg i ?_
  funext a; match a with | ⟨0, _⟩ => exact Fin.ext (Nat.zero_add _) | ⟨1, _⟩ => rfl

theorem hdiv (a b : FVec Ideal S1024 .f32) (j : S1024.Idx) : Host.divf a b j = Ideal.div (a j) (b j) := rfl

/-- The compared program's result at row `t`, column `f`, where the row's routes are the experts `r0` and `r1`. -/
theorem rOut_apply (t : Fin 1024) (f : Fin 1024) (r0 r1 : Fin 16) (h0 : i (ix2 t (0 : Fin 2)) = BitVec.ofNat 32 r0.val) (h1 : i (ix2 t (1 : Fin 2)) = BitVec.ofNat 32 r1.val) :
    rOut x w i E (ix2 t f) = Maths.two (score x w t) r0 r1 (outp x E t f) := by
  have c0 : col0 i (ix1 t) = BitVec.ofNat 32 r0.val := (col0_apply i t).trans h0
  have c1 : col1 i (ix1 t) = BitVec.ofNat 32 r1.val := (col1_apply i t).trans h1
  have p0 := pick_apply x w (col0 i) t r0 c0
  have p1 := pick_apply x w (col1 i) t r1 c1
  unfold rOut Maths.two
  rw [addf_apply, mulf_apply, mulf_apply, spreadL_apply, spreadL_apply, pickY_apply x E _ t f r0 c0, pickY_apply x E _ t f r1 c1]
  rw [hdiv, hdiv, addf_apply, p0, p1]

end Cert.ReferenceIdeal.Closed
-- ==== Proof.Routed.lean ====
module

public import proofs.«01_k».proof.Pre_routed_KernelIdeal
public import proofs.«01_k».proof.Pre_routed_ReferenceIdeal
public import Idealize.ShloMosaic.PureOps.Ideal.Laws
public import Idealize.ShloMosaic.Lib.ValueIdx
public import Idealize.ShloMosaic.Lib.StableHlo.Predicate

/-! # What the precondition says: the routes name experts, and the scores are finite -/

@[expose] public section

set_option maxRecDepth 65536

noncomputable section

namespace Cert.Pre_routed_KernelIdeal

open Idealize.ShloMosaic
open Idealize.ShloMosaic.ValueIdx

theorem facts : Facts where
  bcast_S_S1024x2 := by decide
  reducesTo_S1024x2_S_d0_1 := by decide
  h_S_ := by decide
  bcast_S_S1024x16 := by decide
  reducesTo_S1024x16_S_d0_1 := by decide
  dot_S1024x512_S512x16_S1024x16_1_0_0_1_n_n_wf := by decide

instance andi_comm : Std.Commutative (IntOp.andi : BitVec 1 → BitVec 1 → BitVec 1) := ⟨by decide⟩
instance andi_assoc : Std.Associative (IntOp.andi : BitVec 1 → BitVec 1 → BitVec 1) := ⟨by decide⟩

theorem andi_one : ∀ a b : BitVec 1, IntOp.andi a b = 1#1 → a = 1#1 ∧ b = 1#1 := by decide

/-- A conjunction over a whole array that holds, holds at each element. -/
theorem fold_andi {ι : Type} [DecidableEq ι] (S : Finset ι) (b : BitVec 1) (f : ι → BitVec 1) (h : S.fold IntOp.andi b f = 1#1) : ∀ i ∈ S, f i = 1#1 := by
  induction S using Finset.cons_induction with
  | empty => exact fun i hi => absurd hi (Finset.notMem_empty i)
  | cons a S ha ih =>
    rw [Finset.fold_cons] at h
    obtain ⟨h0, h1⟩ := andi_one _ _ h
    intro i hi
    rcases Finset.mem_cons.1 hi with rfl | hi
    · exact h0
    · exact ih h1 i hi
theorem all_of_reduce {s : Shape} {axes : List (Fin s.rank)} (v : IVec s 1) (init : IVec S_ 1) (h : s.ReducesTo axes S_) (hu : 0 < S_.numel) (j : S_.Idx)
    (hr : Host.reduce IntOp.andi v init h hu j = 1#1) (i : s.Idx) : v i = 1#1 := by
  classical
  rw [Host.reduce_eq_fold] at hr
  exact fold_andi _ _ _ hr i (Finset.mem_filter.2 ⟨Finset.mem_univ _, funext fun a => a.elim0⟩)

variable [Facts]
open Facts

theorem route_of_word (a : BitVec 32) (h : IntOp.andi (IntOp.cmpi .sge a 0#32) (IntOp.cmpi .slt a 16#32) = 1#1) : ∃ r : Fin 16, a = BitVec.ofNat 32 r.val := by
  obtain ⟨h0, h1⟩ := andi_one _ _ h
  simp only [IntOp.cmpi, StableHlo.Predicate.ofBool_eq_one_iff, BitVec.sle, BitVec.slt, decide_eq_true_eq] at h0 h1
  have e0 : (0#32 : BitVec 32).toInt = 0 := by decide
  have e1 : (16#32 : BitVec 32).toInt = 16 := by decide
  rw [e0] at h0; rw [e1] at h1
  have hn : a.toNat < 16 := by
    rw [BitVec.toInt_eq_toNat_cond] at h0 h1
    have := a.isLt
    split at h0 <;> omega
  exact ⟨⟨a.toNat, hn⟩, by simp⟩

/-- What it says of the four arrays. -/
theorem decode (x : FVec Ideal S1024x512 .f32) (w : FVec Ideal S512x16 .f32) (i : IVec S1024x2 32) (E : FVec Ideal S4x512x1024 .f32)
    (h : fn (F := Ideal) x w i E = fun _ => 1#1) :
    (∀ (t : Fin 1024) (k : Fin 2), ∃ r : Fin 16, i (ix2 t k) = BitVec.ofNat 32 r.val)
      ∧ ∀ (t : Fin 1024) (e : Fin 16), (∑ k : Fin 512, (x (ix2 t k) : EReal) * w (ix2 k e)) ≠ ⊥ ∧ (∑ k : Fin 512, (x (ix2 t k) : EReal) * w (ix2 k e)) ≠ ⊤ := by
  have h' := congrFun h (Shape.Idx.first h_S_)
  obtain ⟨hr, hs⟩ := andi_one _ _ h'
  constructor
  · intro t k
    exact route_of_word _ (all_of_reduce _ _ _ _ _ hr (ix2 t k))
  · intro t e
    have hc := all_of_reduce _ _ _ _ _ hs (ix2 t e)
    have hd : Host.dotGeneral (F := Ideal) dot_S1024x512_S512x16_S1024x16_1_0_0_1_n_n none x w (ix2 t e) = ∑ k : Fin 512, (x (ix2 t k) : EReal) * w (ix2 k e) := by
      simp only [Host.dotGeneral]
      refine (Ideal.dotGeneral_apply _ _ _ x w (ix2 t e)).trans ?_
      rw [← Equiv.sum_comp (contrEquiv1 dot_S1024x512_S512x16_S1024x16_1_0_0_1_n_n 512 rfl rfl).symm]
      refine Finset.sum_congr rfl fun k _ => ?_
      have hk := contrEquiv1_symm_val dot_S1024x512_S512x16_S1024x16_1_0_0_1_n_n 512 rfl rfl k
      rw [show dot_S1024x512_S512x16_S1024x16_1_0_0_1_n_n.lhsIdx (ix2 t e) ((contrEquiv1 dot_S1024x512_S512x16_S1024x16_1_0_0_1_n_n 512 rfl rfl).symm k) = ix2 t k from by
            funext a; match a with | ⟨0, _⟩ => rfl | ⟨1, _⟩ => exact Fin.ext hk,
        show dot_S1024x512_S512x16_S1024x16_1_0_0_1_n_n.rhsIdx (ix2 t e) ((contrEquiv1 dot_S1024x512_S512x16_S1024x16_1_0_0_1_n_n 512 rfl rfl).symm k) = ix2 k e from by
            funext a; match a with | ⟨0, _⟩ => exact Fin.ext hk | ⟨1, _⟩ => rfl]
    have hc' : Ideal.cmp .olt (max (Host.dotGeneral (F := Ideal) dot_S1024x512_S512x16_S1024x16_1_0_0_1_n_n none x w (ix2 t e) : EReal)
      (-(Host.dotGeneral (F := Ideal) dot_S1024x512_S512x16_S1024x16_1_0_0_1_n_n none x w (ix2 t e) : EReal))) (Ideal.ofBits .f32 0x7F800000#32) = 1#1 := hc
    rw [hd] at hc'
    have ht : Ideal.ofBits .f32 0x7F800000#32 = ⊤ := by simp [Ideal.ofBits, Ideal.ieee]
    rw [ht] at hc'
    simp only [Ideal.cmp, StableHlo.Predicate.ofBool_eq_one_iff, decide_eq_true_eq] at hc'
    obtain ⟨h0, h1⟩ := max_lt_iff.1 hc'
    refine ⟨fun hb => ?_, h0.ne⟩
    rw [hb, EReal.neg_bot] at h1
    exact absurd h1 (lt_irrefl _)

end Cert.Pre_routed_KernelIdeal

namespace Cert.Pre_routed_ReferenceIdeal

open Idealize.ShloMosaic

theorem facts : Facts where
  bcast_S_S1024x2 := by decide
  reducesTo_S1024x2_S_d0_1 := by decide
  h_S_ := by decide
  bcast_S_S1024x16 := by decide
  reducesTo_S1024x16_S_d0_1 := by decide
  dot_S1024x512_S512x16_S1024x16_1_0_0_1_n_n_wf := by decide

end Cert.Pre_routed_ReferenceIdeal
-- ==== Proof.Algebra.lean ====
module

public import proofs.«01_k».proof.Defs
public import proofs.«01_k».proof.Proof.IdealRun.Gates
public import proofs.«01_k».proof.Proof.IdealRun.Launch
public import proofs.«01_k».proof.Proof.Compared
public import proofs.«01_k».proof.Proof.Routed
public import Idealize.ShloMosaic.Lib.Layout

/-! # The result on each device is its block of the compared program's -/

@[expose] public section

set_option maxRecDepth 65536

noncomputable section

namespace Cert.KernelIdeal.Run

open Cert.KernelIdeal Cert.KernelIdeal.Gen

open Idealize.ShloMosaic
open Idealize.ShloMosaic.TcCoe
open Idealize.ShloMosaic.ValueIdx
open Idealize.SL.Sem

variable (m : (ℓ : Loc nD τ sig) → Buf (Elt Ideal) ℓ) (ρ : Dev nD → PrngReg)

/-! ## The windows' blocks are the arguments whole -/

theorem xstg_eq (c : Dev nD) : xstg m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) (m ((c.tc : Thread nD τ).loc main_arg0))
theorem wstg_eq (c : Dev nD) : wstg m ρ c = m ((c.tc : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) (m ((c.tc : Thread nD τ).loc main_arg1))
theorem istg_eq (c : Dev nD) : istg m ρ c = m ((c.tc : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) (m ((c.tc : Thread nD τ).loc main_arg2))
theorem estg_eq (c : Dev nD) : estg m ρ c = m ((c.tc : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) (m ((c.tc : Thread nD τ).loc main_arg3))

theorem ex_bij : Function.Bijective (fun p : Fin 4 × Fin 4 => ex p.1 p.2) := by decide +kernel
/-- Four devices' four experts are the sixteen. -/
theorem sum_ex (g : Fin 16 → EReal) : ∑ d : Fin 4, ∑ e : Fin 4, g (ex d e) = ∑ e, g e := by
  rw [← Fintype.sum_prod_type' (fun d e => g (ex d e))]
  exact Fintype.sum_bijective _ ex_bij _ _ (fun _ => rfl)

variable (X : FVec Ideal S1024x512 .f32) (W : FVec Ideal S512x16 .f32) (I : IVec S1024x2 32) (E : FVec Ideal Cert.ReferenceIdeal.S16x512x1024 .f32)

/-- The result's value, where the arguments are the compared program's. -/
theorem outAt_two (hx : ∀ c : Dev nD, xstg m ρ c = X) (hw : ∀ c : Dev nD, wstg m ρ c = W) (hi : ∀ c : Dev nD, istg m ρ c = I)
    (he : ∀ c : Dev nD, estg m ρ c = Layout.block ⟨3, ![4, 512, 1024]⟩ ⟨3, ![16, 512, 1024]⟩ 0 4 c E)
    (hr : ∀ (t : Fin 1024) (k : Fin 2), ∃ r : Fin 16, I (ix2 t k) = BitVec.ofNat 32 r.val)
    (hs : ∀ (t : Fin 1024) (e : Fin 16), (∑ k : Fin 512, (X (ix2 t k) : EReal) * W (ix2 k e)) ≠ ⊥ ∧ (∑ k : Fin 512, (X (ix2 t k) : EReal) * W (ix2 k e)) ≠ ⊤)
    (c : Dev nD) (r : Fin 256) (f : Fin 1024) : outAt m ρ c (ix2 r f) = Cert.ReferenceIdeal.Closed.rOut X W I E (ix2 (row c r) f) := by
  obtain ⟨r0, h0⟩ := hr (row c r) 0
  obtain ⟨r1, h1⟩ := hr (row c r) 1
  have hc : ∀ (d e : Fin 4), gv m ρ d (row c r) (ex d e) * ∑ k : Fin 512, xv m ρ d (row c r) k * ev m ρ d e k f
      = Maths.gate (Cert.ReferenceIdeal.Closed.score X W (row c r)) r0 r1 (ex d e) * Cert.ReferenceIdeal.Closed.outp X E (row c r) f (ex d e) := by
    intro d e
    have hg : gv m ρ d (row c r) (ex d e) = Maths.gate (Cert.ReferenceIdeal.Closed.score X W (row c r)) r0 r1 (ex d e) := by
      unfold gv gates
      rw [hx d, hw d, hi d]
      exact kG_apply X W I (row c r) (ex d e) r0 r1 h0 h1
    have hv : ∀ k : Fin 512, xv m ρ d (row c r) k * ev m ρ d e k f = X (ix2 (row c r) k) * E (ix3 (ex d e) k f) := by
      intro k
      unfold xv ev
      rw [hx d, he d]
      refine congrArg₂ (fun a b : EReal => a * b) rfl ?_
      refine (Layout.block_apply ..).trans (congrArg E ?_)
      funext a
      refine Fin.ext ?_
      rw [Layout.Tiles.idx_val]
      match a with
      | ⟨0, _⟩ => show d.val * 4 + e.val = 4 * d.val + e.val; omega
      | ⟨1, _⟩ => rfl
      | ⟨2, _⟩ => rfl
    exact congrArg₂ (fun a b : EReal => a * b) hg (Finset.sum_congr rfl fun k _ => hv k)
  have hd : (∑ d : Fin 4, contrib m ρ d (row c r) f : EReal)
      = ∑ e : Fin 16, Maths.gate (Cert.ReferenceIdeal.Closed.score X W (row c r)) r0 r1 e * Cert.ReferenceIdeal.Closed.outp X E (row c r) f e :=
    (Finset.sum_congr rfl fun d _ => Finset.sum_congr rfl fun e _ => hc d e).trans
      (sum_ex (fun e => Maths.gate (Cert.ReferenceIdeal.Closed.score X W (row c r)) r0 r1 e * Cert.ReferenceIdeal.Closed.outp X E (row c r) f e))
  have ht := Maths.gate_sum (Cert.ReferenceIdeal.Closed.score X W (row c r)) (fun e => hs (row c r) e) r0 r1 (Cert.ReferenceIdeal.Closed.outp X E (row c r) f)
  exact (outAt_apply m ρ c r f).trans (hd.trans (ht.trans (Cert.ReferenceIdeal.Closed.rOut_apply X W I E (row c r) f r0 r1 h0 h1).symm))

/-- Device `c`'s result is block `c` of the compared program's. -/
theorem outAt_block (hx : ∀ c : Dev nD, xstg m ρ c = X) (hw : ∀ c : Dev nD, wstg m ρ c = W) (hi : ∀ c : Dev nD, istg m ρ c = I)
    (he : ∀ c : Dev nD, estg m ρ c = Layout.block ⟨3, ![4, 512, 1024]⟩ ⟨3, ![16, 512, 1024]⟩ 0 4 c E)
    (hr : ∀ (t : Fin 1024) (k : Fin 2), ∃ r : Fin 16, I (ix2 t k) = BitVec.ofNat 32 r.val)
    (hs : ∀ (t : Fin 1024) (e : Fin 16), (∑ k : Fin 512, (X (ix2 t k) : EReal) * W (ix2 k e)) ≠ ⊥ ∧ (∑ k : Fin 512, (X (ix2 t k) : EReal) * W (ix2 k e)) ≠ ⊤)
    (c : Dev nD) : outAt m ρ c = Layout.block ⟨2, ![256, 1024]⟩ ⟨2, ![1024, 1024]⟩ 0 4 c (Cert.ReferenceIdeal.Closed.rOut X W I E) := by
  refine funext fun (j : Shape.Idx (⟨2, ![256, 1024]⟩ : Shape)) => ?_
  refine (congrArg (outAt m ρ c) (eq_ix2 j)).trans ?_
  refine (outAt_two m ρ X W I E hx hw hi he hr hs c (j 0) (j 1)).trans (Eq.trans (congrArg (Cert.ReferenceIdeal.Closed.rOut X W I E) ?_) (Layout.block_apply ..).symm)
  funext a
  refine Fin.ext ?_
  rw [Layout.Tiles.idx_val]
  match a with
  | ⟨0, _⟩ => show 256 * c.val + (j 0).val = c.val * 256 + (j 0).val; omega
  | ⟨1, _⟩ => rfl

end Cert.KernelIdeal.Run

namespace Cert.Proof

open Idealize.ShloMosaic Idealize.SL.Sem

theorem algebraic : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.facts) := by
  intro m g m' g' hp ha
  have hd := @Cert.Pre_routed_KernelIdeal.decode Cert.Pre_routed_KernelIdeal.facts _ _ _ _ (hp 0)
  rw [(ha 0).1, (ha 0).2.1, (ha 0).2.2.1] at hd
  refine ⟨Cert.ReferenceIdeal.Value.res_out0 m' 0, ?_, ?_⟩
  · refine (θ_run Cert.KernelIdeal.defs _ _).mono (fun r h c => ⟨?_, (h.1 c (0 : Fin 5)).trans (Cert.KernelIdeal.Run.finalA_x m g c),
      (h.1 c (1 : Fin 5)).trans (Cert.KernelIdeal.Run.finalA_w m g c), (h.1 c (2 : Fin 5)).trans (Cert.KernelIdeal.Run.finalA_i m g c),
      (h.1 c (3 : Fin 5)).trans (Cert.KernelIdeal.Run.finalA_e m g c)⟩) (Cert.KernelIdeal.Run.run_main (F := Ideal) m g)
    refine ((h.1 c (4 : Fin 5)).trans (Cert.KernelIdeal.Run.finalA_o m g c)).trans ?_
    rw [Cert.ReferenceIdeal.Closed.res_eq]
    exact Cert.KernelIdeal.Run.outAt_block m g _ _ _ _ (fun c => (Cert.KernelIdeal.Run.xstg_eq m g c).trans (ha c).1)
      (fun c => (Cert.KernelIdeal.Run.wstg_eq m g c).trans (ha c).2.1) (fun c => (Cert.KernelIdeal.Run.istg_eq m g c).trans (ha c).2.2.1)
      (fun c => (Cert.KernelIdeal.Run.estg_eq m g c).trans (ha c).2.2.2) hd.1 hd.2 c
  · exact (θ_run Cert.ReferenceIdeal.defs _ _).mono (fun r h => h 0) (Cert.ReferenceIdeal.Value.run (F := Ideal) m' g')

end Cert.Proof
-- ==== Proof.lean ====
module

public import proofs.«01_k».proof.Defs
public import proofs.«01_k».proof.Proof.Frames
public import proofs.«01_k».proof.Proof.Algebra

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_routed_KernelIdeal.facts,
    Cert.Pre_routed_ReferenceIdeal.facts, frame_k, frame_ki, fun m g _ => frame_ki m g trivial, frame_ri,
    fun m g _ => frame_ri m g trivial, trivial, algebraic⟩

end Cert.Proof

end
